-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 256]⟩ ⟨2, ![256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S16x256 : Shape := ⟨2, ![16, 256]⟩
abbrev S3x256x512 : Shape := ⟨3, ![3, 256, 512]⟩
abbrev S3x512x256 : Shape := ⟨3, ![3, 512, 256]⟩
abbrev S16x16x256 : Shape := ⟨3, ![16, 16, 256]⟩
abbrev S16 : Shape := ⟨1, ![16]⟩
abbrev S8 : Shape := ⟨1, ![8]⟩
abbrev S1 : Shape := ⟨1, ![1]⟩
abbrev S_ : Shape := ⟨0, ![]⟩
abbrev S1x256x512 : Shape := ⟨3, ![1, 256, 512]⟩
abbrev S1x512x256 : Shape := ⟨3, ![1, 512, 256]⟩
abbrev S1x16x256 : Shape := ⟨3, ![1, 16, 256]⟩
abbrev S64x256 : Shape := ⟨2, ![64, 256]⟩
abbrev S64x512 : Shape := ⟨2, ![64, 512]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S16x256, .f32⟩
  | .local _ .vmem, ⟨0, _⟩ => ⟨S256x256, .f32⟩
  | .local _ .vmem, ⟨1, _⟩ => ⟨S3x256x512, .f32⟩
  | .local _ .vmem, ⟨2, _⟩ => ⟨S3x512x256, .f32⟩
  | .local _ .vmem, ⟨3, _⟩ => ⟨S16x256, .f32⟩
  | .local _ .vmem, ⟨4, _⟩ => ⟨S256x256, .bf16⟩
  | .local _ .vmem, ⟨5, _⟩ => ⟨S16x256, .bf16⟩
  | .local _ .vmem, ⟨6, _⟩ => ⟨S16x16x256, .bf16⟩
  | .local _ .vmem, ⟨7, _⟩ => ⟨S16x16x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_19 : BitVec 32 := 0#32
  let v30 : BitVec 1 := Scalar.cmpi .ne v2 c0_i32_19
  let v31 : BitVec 32 := Scalar.extui v30
  let c0_i32_20 : BitVec 32 := 0#32
  let v32 : BitVec 1 := Scalar.cmpi .ne v31 c0_i32_20
  v32

def k0_dev1 : Nat :=
  let c0_i32_1072 : BitVec 32 := 0#32
  let c0_i32_1070 : BitVec 32 := 0#32
  let c1_i32_1071 : BitVec 32 := 1#32
  let v1537 : BitVec 32 := Scalar.muli c0_i32_1070 c1_i32_1071
  let v1538 : BitVec 32 := Scalar.addi c0_i32_1072 v1537
  v1538.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v33 : BitVec 1 := Scalar.cmpi .ne v2 c1_i32_21
  let v34 : BitVec 32 := Scalar.extui v33
  let c0_i32_22 : BitVec 32 := 0#32
  let v35 : BitVec 1 := Scalar.cmpi .ne v34 c0_i32_22
  v35

def k0_dev2 : Nat :=
  let c0_i32_1072 : BitVec 32 := 0#32
  let c1_i32_1070 : BitVec 32 := 1#32
  let c1_i32_1071 : BitVec 32 := 1#32
  let v1537 : BitVec 32 := Scalar.muli c1_i32_1070 c1_i32_1071
  let v1538 : BitVec 32 := Scalar.addi c0_i32_1072 v1537
  v1538.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_23 : BitVec 32 := 2#32
  let v36 : BitVec 1 := Scalar.cmpi .ne v2 c2_i32_23
  let v37 : BitVec 32 := Scalar.extui v36
  let c0_i32_24 : BitVec 32 := 0#32
  let v38 : BitVec 1 := Scalar.cmpi .ne v37 c0_i32_24
  v38

def k0_dev3 : Nat :=
  let c0_i32_1072 : BitVec 32 := 0#32
  let c2_i32_1070 : BitVec 32 := 2#32
  let c1_i32_1071 : BitVec 32 := 1#32
  let v1537 : BitVec 32 := Scalar.muli c2_i32_1070 c1_i32_1071
  let v1538 : BitVec 32 := Scalar.addi c0_i32_1072 v1537
  v1538.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_25 : BitVec 32 := 3#32
  let v39 : BitVec 1 := Scalar.cmpi .ne v2 c3_i32_25
  let v40 : BitVec 32 := Scalar.extui v39
  let c0_i32_26 : BitVec 32 := 0#32
  let v41 : BitVec 1 := Scalar.cmpi .ne v40 c0_i32_26
  v41

def k0_dev4 : Nat :=
  let c0_i32_1072 : BitVec 32 := 0#32
  let c3_i32_1070 : BitVec 32 := 3#32
  let c1_i32_1071 : BitVec 32 := 1#32
  let v1537 : BitVec 32 := Scalar.muli c3_i32_1070 c1_i32_1071
  let v1538 : BitVec 32 := Scalar.addi c0_i32_1072 v1537
  v1538.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v42 : BitVec 1 := Scalar.cmpi .ne v2 c4_i32_27
  let v43 : BitVec 32 := Scalar.extui v42
  let c0_i32_28 : BitVec 32 := 0#32
  let v44 : BitVec 1 := Scalar.cmpi .ne v43 c0_i32_28
  v44

def k0_dev5 : Nat :=
  let c0_i32_1072 : BitVec 32 := 0#32
  let c4_i32_1070 : BitVec 32 := 4#32
  let c1_i32_1071 : BitVec 32 := 1#32
  let v1537 : BitVec 32 := Scalar.muli c4_i32_1070 c1_i32_1071
  let v1538 : BitVec 32 := Scalar.addi c0_i32_1072 v1537
  v1538.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_29 : BitVec 32 := 5#32
  let v45 : BitVec 1 := Scalar.cmpi .ne v2 c5_i32_29
  let v46 : BitVec 32 := Scalar.extui v45
  let c0_i32_30 : BitVec 32 := 0#32
  let v47 : BitVec 1 := Scalar.cmpi .ne v46 c0_i32_30
  v47

def k0_dev6 : Nat :=
  let c0_i32_1072 : BitVec 32 := 0#32
  let c5_i32_1070 : BitVec 32 := 5#32
  let c1_i32_1071 : BitVec 32 := 1#32
  let v1537 : BitVec 32 := Scalar.muli c5_i32_1070 c1_i32_1071
  let v1538 : BitVec 32 := Scalar.addi c0_i32_1072 v1537
  v1538.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_31 : BitVec 32 := 6#32
  let v48 : BitVec 1 := Scalar.cmpi .ne v2 c6_i32_31
  let v49 : BitVec 32 := Scalar.extui v48
  let c0_i32_32 : BitVec 32 := 0#32
  let v50 : BitVec 1 := Scalar.cmpi .ne v49 c0_i32_32
  v50

def k0_dev7 : Nat :=
  let c0_i32_1072 : BitVec 32 := 0#32
  let c6_i32_1070 : BitVec 32 := 6#32
  let c1_i32_1071 : BitVec 32 := 1#32
  let v1537 : BitVec 32 := Scalar.muli c6_i32_1070 c1_i32_1071
  let v1538 : BitVec 32 := Scalar.addi c0_i32_1072 v1537
  v1538.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v51 : BitVec 1 := Scalar.cmpi .ne v2 c7_i32
  let v52 : BitVec 32 := Scalar.extui v51
  let c0_i32_33 : BitVec 32 := 0#32
  let v53 : BitVec 1 := Scalar.cmpi .ne v52 c0_i32_33
  v53

def k0_dev8 : Nat :=
  let c0_i32_1072 : BitVec 32 := 0#32
  let c7_i32_1070 : BitVec 32 := 7#32
  let c1_i32_1071 : BitVec 32 := 1#32
  let v1537 : BitVec 32 := Scalar.muli c7_i32_1070 c1_i32_1071
  let v1538 : BitVec 32 := Scalar.addi c0_i32_1072 v1537
  v1538.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v54 : BitVec 1 := Scalar.cmpi .ne v2 c8_i32
  let v55 : BitVec 32 := Scalar.extui v54
  let c0_i32_34 : BitVec 32 := 0#32
  let v56 : BitVec 1 := Scalar.cmpi .ne v55 c0_i32_34
  v56

def k0_dev9 : Nat :=
  let c0_i32_1072 : BitVec 32 := 0#32
  let c8_i32_1070 : BitVec 32 := 8#32
  let c1_i32_1071 : BitVec 32 := 1#32
  let v1537 : BitVec 32 := Scalar.muli c8_i32_1070 c1_i32_1071
  let v1538 : BitVec 32 := Scalar.addi c0_i32_1072 v1537
  v1538.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v57 : BitVec 1 := Scalar.cmpi .ne v2 c9_i32
  let v58 : BitVec 32 := Scalar.extui v57
  let c0_i32_35 : BitVec 32 := 0#32
  let v59 : BitVec 1 := Scalar.cmpi .ne v58 c0_i32_35
  v59

def k0_dev10 : Nat :=
  let c0_i32_1072 : BitVec 32 := 0#32
  let c9_i32_1070 : BitVec 32 := 9#32
  let c1_i32_1071 : BitVec 32 := 1#32
  let v1537 : BitVec 32 := Scalar.muli c9_i32_1070 c1_i32_1071
  let v1538 : BitVec 32 := Scalar.addi c0_i32_1072 v1537
  v1538.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v60 : BitVec 1 := Scalar.cmpi .ne v2 c10_i32
  let v61 : BitVec 32 := Scalar.extui v60
  let c0_i32_36 : BitVec 32 := 0#32
  let v62 : BitVec 1 := Scalar.cmpi .ne v61 c0_i32_36
  v62

def k0_dev11 : Nat :=
  let c0_i32_1072 : BitVec 32 := 0#32
  let c10_i32_1070 : BitVec 32 := 10#32
  let c1_i32_1071 : BitVec 32 := 1#32
  let v1537 : BitVec 32 := Scalar.muli c10_i32_1070 c1_i32_1071
  let v1538 : BitVec 32 := Scalar.addi c0_i32_1072 v1537
  v1538.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v63 : BitVec 1 := Scalar.cmpi .ne v2 c11_i32
  let v64 : BitVec 32 := Scalar.extui v63
  let c0_i32_37 : BitVec 32 := 0#32
  let v65 : BitVec 1 := Scalar.cmpi .ne v64 c0_i32_37
  v65

def k0_dev12 : Nat :=
  let c0_i32_1072 : BitVec 32 := 0#32
  let c11_i32_1070 : BitVec 32 := 11#32
  let c1_i32_1071 : BitVec 32 := 1#32
  let v1537 : BitVec 32 := Scalar.muli c11_i32_1070 c1_i32_1071
  let v1538 : BitVec 32 := Scalar.addi c0_i32_1072 v1537
  v1538.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v66 : BitVec 1 := Scalar.cmpi .ne v2 c12_i32
  let v67 : BitVec 32 := Scalar.extui v66
  let c0_i32_38 : BitVec 32 := 0#32
  let v68 : BitVec 1 := Scalar.cmpi .ne v67 c0_i32_38
  v68

def k0_dev13 : Nat :=
  let c0_i32_1072 : BitVec 32 := 0#32
  let c12_i32_1070 : BitVec 32 := 12#32
  let c1_i32_1071 : BitVec 32 := 1#32
  let v1537 : BitVec 32 := Scalar.muli c12_i32_1070 c1_i32_1071
  let v1538 : BitVec 32 := Scalar.addi c0_i32_1072 v1537
  v1538.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v69 : BitVec 1 := Scalar.cmpi .ne v2 c13_i32
  let v70 : BitVec 32 := Scalar.extui v69
  let c0_i32_39 : BitVec 32 := 0#32
  let v71 : BitVec 1 := Scalar.cmpi .ne v70 c0_i32_39
  v71

def k0_dev14 : Nat :=
  let c0_i32_1072 : BitVec 32 := 0#32
  let c13_i32_1070 : BitVec 32 := 13#32
  let c1_i32_1071 : BitVec 32 := 1#32
  let v1537 : BitVec 32 := Scalar.muli c13_i32_1070 c1_i32_1071
  let v1538 : BitVec 32 := Scalar.addi c0_i32_1072 v1537
  v1538.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v72 : BitVec 1 := Scalar.cmpi .ne v2 c14_i32
  let v73 : BitVec 32 := Scalar.extui v72
  let c0_i32_40 : BitVec 32 := 0#32
  let v74 : BitVec 1 := Scalar.cmpi .ne v73 c0_i32_40
  v74

def k0_dev15 : Nat :=
  let c0_i32_1072 : BitVec 32 := 0#32
  let c14_i32_1070 : BitVec 32 := 14#32
  let c1_i32_1071 : BitVec 32 := 1#32
  let v1537 : BitVec 32 := Scalar.muli c14_i32_1070 c1_i32_1071
  let v1538 : BitVec 32 := Scalar.addi c0_i32_1072 v1537
  v1538.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v75 : BitVec 1 := Scalar.cmpi .ne v2 c15_i32
  let v76 : BitVec 32 := Scalar.extui v75
  let c0_i32_41 : BitVec 32 := 0#32
  let v77 : BitVec 1 := Scalar.cmpi .ne v76 c0_i32_41
  v77

def k0_dev16 : Nat :=
  let c0_i32_1072 : BitVec 32 := 0#32
  let c15_i32_1070 : BitVec 32 := 15#32
  let c1_i32_1071 : BitVec 32 := 1#32
  let v1537 : BitVec 32 := Scalar.muli c15_i32_1070 c1_i32_1071
  let v1538 : BitVec 32 := Scalar.addi c0_i32_1072 v1537
  v1538.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_63 : BitVec 32 := 0#32
  let v105 : BitVec 1 := Scalar.cmpi .ne v2 c0_i32_63
  let v106 : BitVec 32 := Scalar.extui v105
  let c0_i32_64 : BitVec 32 := 0#32
  let v107 : BitVec 1 := Scalar.cmpi .ne v106 c0_i32_64
  v107

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev17 : Nat :=
  let c0_i32_1072 : BitVec 32 := 0#32
  let c0_i32_1070 : BitVec 32 := 0#32
  let c1_i32_1071 : BitVec 32 := 1#32
  let v1537 : BitVec 32 := Scalar.muli c0_i32_1070 c1_i32_1071
  let v1538 : BitVec 32 := Scalar.addi c0_i32_1072 v1537
  v1538.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_67 : BitVec 32 := 1#32
  let v111 : BitVec 1 := Scalar.cmpi .ne v2 c1_i32_67
  let v112 : BitVec 32 := Scalar.extui v111
  let c0_i32_68 : BitVec 32 := 0#32
  let v113 : BitVec 1 := Scalar.cmpi .ne v112 c0_i32_68
  v113

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev18 : Nat :=
  let c0_i32_1072 : BitVec 32 := 0#32
  let c1_i32_1070 : BitVec 32 := 1#32
  let c1_i32_1071 : BitVec 32 := 1#32
  let v1537 : BitVec 32 := Scalar.muli c1_i32_1070 c1_i32_1071
  let v1538 : BitVec 32 := Scalar.addi c0_i32_1072 v1537
  v1538.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_71 : BitVec 32 := 2#32
  let v117 : BitVec 1 := Scalar.cmpi .ne v2 c2_i32_71
  let v118 : BitVec 32 := Scalar.extui v117
  let c0_i32_72 : BitVec 32 := 0#32
  let v119 : BitVec 1 := Scalar.cmpi .ne v118 c0_i32_72
  v119

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev19 : Nat :=
  let c0_i32_1072 : BitVec 32 := 0#32
  let c2_i32_1070 : BitVec 32 := 2#32
  let c1_i32_1071 : BitVec 32 := 1#32
  let v1537 : BitVec 32 := Scalar.muli c2_i32_1070 c1_i32_1071
  let v1538 : BitVec 32 := Scalar.addi c0_i32_1072 v1537
  v1538.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_75 : BitVec 32 := 3#32
  let v123 : BitVec 1 := Scalar.cmpi .ne v2 c3_i32_75
  let v124 : BitVec 32 := Scalar.extui v123
  let c0_i32_76 : BitVec 32 := 0#32
  let v125 : BitVec 1 := Scalar.cmpi .ne v124 c0_i32_76
  v125

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev20 : Nat :=
  let c0_i32_1072 : BitVec 32 := 0#32
  let c3_i32_1070 : BitVec 32 := 3#32
  let c1_i32_1071 : BitVec 32 := 1#32
  let v1537 : BitVec 32 := Scalar.muli c3_i32_1070 c1_i32_1071
  let v1538 : BitVec 32 := Scalar.addi c0_i32_1072 v1537
  v1538.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_79 : BitVec 32 := 4#32
  let v129 : BitVec 1 := Scalar.cmpi .ne v2 c4_i32_79
  let v130 : BitVec 32 := Scalar.extui v129
  let c0_i32_80 : BitVec 32 := 0#32
  let v131 : BitVec 1 := Scalar.cmpi .ne v130 c0_i32_80
  v131

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev21 : Nat :=
  let c0_i32_1072 : BitVec 32 := 0#32
  let c4_i32_1070 : BitVec 32 := 4#32
  let c1_i32_1071 : BitVec 32 := 1#32
  let v1537 : BitVec 32 := Scalar.muli c4_i32_1070 c1_i32_1071
  let v1538 : BitVec 32 := Scalar.addi c0_i32_1072 v1537
  v1538.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_83 : BitVec 32 := 5#32
  let v135 : BitVec 1 := Scalar.cmpi .ne v2 c5_i32_83
  let v136 : BitVec 32 := Scalar.extui v135
  let c0_i32_84 : BitVec 32 := 0#32
  let v137 : BitVec 1 := Scalar.cmpi .ne v136 c0_i32_84
  v137

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev22 : Nat :=
  let c0_i32_1072 : BitVec 32 := 0#32
  let c5_i32_1070 : BitVec 32 := 5#32
  let c1_i32_1071 : BitVec 32 := 1#32
  let v1537 : BitVec 32 := Scalar.muli c5_i32_1070 c1_i32_1071
  let v1538 : BitVec 32 := Scalar.addi c0_i32_1072 v1537
  v1538.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_87 : BitVec 32 := 6#32
  let v141 : BitVec 1 := Scalar.cmpi .ne v2 c6_i32_87
  let v142 : BitVec 32 := Scalar.extui v141
  let c0_i32_88 : BitVec 32 := 0#32
  let v143 : BitVec 1 := Scalar.cmpi .ne v142 c0_i32_88
  v143

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev23 : Nat :=
  let c0_i32_1072 : BitVec 32 := 0#32
  let c6_i32_1070 : BitVec 32 := 6#32
  let c1_i32_1071 : BitVec 32 := 1#32
  let v1537 : BitVec 32 := Scalar.muli c6_i32_1070 c1_i32_1071
  let v1538 : BitVec 32 := Scalar.addi c0_i32_1072 v1537
  v1538.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_91 : BitVec 32 := 7#32
  let v147 : BitVec 1 := Scalar.cmpi .ne v2 c7_i32_91
  let v148 : BitVec 32 := Scalar.extui v147
  let c0_i32_92 : BitVec 32 := 0#32
  let v149 : BitVec 1 := Scalar.cmpi .ne v148 c0_i32_92
  v149

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev24 : Nat :=
  let c0_i32_1072 : BitVec 32 := 0#32
  let c7_i32_1070 : BitVec 32 := 7#32
  let c1_i32_1071 : BitVec 32 := 1#32
  let v1537 : BitVec 32 := Scalar.muli c7_i32_1070 c1_i32_1071
  let v1538 : BitVec 32 := Scalar.addi c0_i32_1072 v1537
  v1538.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_95 : BitVec 32 := 8#32
  let v153 : BitVec 1 := Scalar.cmpi .ne v2 c8_i32_95
  let v154 : BitVec 32 := Scalar.extui v153
  let c0_i32_96 : BitVec 32 := 0#32
  let v155 : BitVec 1 := Scalar.cmpi .ne v154 c0_i32_96
  v155

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev25 : Nat :=
  let c0_i32_1072 : BitVec 32 := 0#32
  let c8_i32_1070 : BitVec 32 := 8#32
  let c1_i32_1071 : BitVec 32 := 1#32
  let v1537 : BitVec 32 := Scalar.muli c8_i32_1070 c1_i32_1071
  let v1538 : BitVec 32 := Scalar.addi c0_i32_1072 v1537
  v1538.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_99 : BitVec 32 := 9#32
  let v159 : BitVec 1 := Scalar.cmpi .ne v2 c9_i32_99
  let v160 : BitVec 32 := Scalar.extui v159
  let c0_i32_100 : BitVec 32 := 0#32
  let v161 : BitVec 1 := Scalar.cmpi .ne v160 c0_i32_100
  v161

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev26 : Nat :=
  let c0_i32_1072 : BitVec 32 := 0#32
  let c9_i32_1070 : BitVec 32 := 9#32
  let c1_i32_1071 : BitVec 32 := 1#32
  let v1537 : BitVec 32 := Scalar.muli c9_i32_1070 c1_i32_1071
  let v1538 : BitVec 32 := Scalar.addi c0_i32_1072 v1537
  v1538.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_103 : BitVec 32 := 10#32
  let v165 : BitVec 1 := Scalar.cmpi .ne v2 c10_i32_103
  let v166 : BitVec 32 := Scalar.extui v165
  let c0_i32_104 : BitVec 32 := 0#32
  let v167 : BitVec 1 := Scalar.cmpi .ne v166 c0_i32_104
  v167

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev27 : Nat :=
  let c0_i32_1072 : BitVec 32 := 0#32
  let c10_i32_1070 : BitVec 32 := 10#32
  let c1_i32_1071 : BitVec 32 := 1#32
  let v1537 : BitVec 32 := Scalar.muli c10_i32_1070 c1_i32_1071
  let v1538 : BitVec 32 := Scalar.addi c0_i32_1072 v1537
  v1538.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_107 : BitVec 32 := 11#32
  let v171 : BitVec 1 := Scalar.cmpi .ne v2 c11_i32_107
  let v172 : BitVec 32 := Scalar.extui v171
  let c0_i32_108 : BitVec 32 := 0#32
  let v173 : BitVec 1 := Scalar.cmpi .ne v172 c0_i32_108
  v173

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev28 : Nat :=
  let c0_i32_1072 : BitVec 32 := 0#32
  let c11_i32_1070 : BitVec 32 := 11#32
  let c1_i32_1071 : BitVec 32 := 1#32
  let v1537 : BitVec 32 := Scalar.muli c11_i32_1070 c1_i32_1071
  let v1538 : BitVec 32 := Scalar.addi c0_i32_1072 v1537
  v1538.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_111 : BitVec 32 := 12#32
  let v177 : BitVec 1 := Scalar.cmpi .ne v2 c12_i32_111
  let v178 : BitVec 32 := Scalar.extui v177
  let c0_i32_112 : BitVec 32 := 0#32
  let v179 : BitVec 1 := Scalar.cmpi .ne v178 c0_i32_112
  v179

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev29 : Nat :=
  let c0_i32_1072 : BitVec 32 := 0#32
  let c12_i32_1070 : BitVec 32 := 12#32
  let c1_i32_1071 : BitVec 32 := 1#32
  let v1537 : BitVec 32 := Scalar.muli c12_i32_1070 c1_i32_1071
  let v1538 : BitVec 32 := Scalar.addi c0_i32_1072 v1537
  v1538.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_115 : BitVec 32 := 13#32
  let v183 : BitVec 1 := Scalar.cmpi .ne v2 c13_i32_115
  let v184 : BitVec 32 := Scalar.extui v183
  let c0_i32_116 : BitVec 32 := 0#32
  let v185 : BitVec 1 := Scalar.cmpi .ne v184 c0_i32_116
  v185

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev30 : Nat :=
  let c0_i32_1072 : BitVec 32 := 0#32
  let c13_i32_1070 : BitVec 32 := 13#32
  let c1_i32_1071 : BitVec 32 := 1#32
  let v1537 : BitVec 32 := Scalar.muli c13_i32_1070 c1_i32_1071
  let v1538 : BitVec 32 := Scalar.addi c0_i32_1072 v1537
  v1538.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_119 : BitVec 32 := 14#32
  let v189 : BitVec 1 := Scalar.cmpi .ne v2 c14_i32_119
  let v190 : BitVec 32 := Scalar.extui v189
  let c0_i32_120 : BitVec 32 := 0#32
  let v191 : BitVec 1 := Scalar.cmpi .ne v190 c0_i32_120
  v191

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev31 : Nat :=
  let c0_i32_1072 : BitVec 32 := 0#32
  let c14_i32_1070 : BitVec 32 := 14#32
  let c1_i32_1071 : BitVec 32 := 1#32
  let v1537 : BitVec 32 := Scalar.muli c14_i32_1070 c1_i32_1071
  let v1538 : BitVec 32 := Scalar.addi c0_i32_1072 v1537
  v1538.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_123 : BitVec 32 := 15#32
  let v195 : BitVec 1 := Scalar.cmpi .ne v2 c15_i32_123
  let v196 : BitVec 32 := Scalar.extui v195
  let c0_i32_124 : BitVec 32 := 0#32
  let v197 : BitVec 1 := Scalar.cmpi .ne v196 c0_i32_124
  v197

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev32 : Nat :=
  let c0_i32_1072 : BitVec 32 := 0#32
  let c15_i32_1070 : BitVec 32 := 15#32
  let c1_i32_1071 : BitVec 32 := 1#32
  let v1537 : BitVec 32 := Scalar.muli c15_i32_1070 c1_i32_1071
  let v1538 : BitVec 32 := Scalar.addi c0_i32_1072 v1537
  v1538.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_192 : BitVec 32 := 0#32
  let v312 : BitVec 1 := Scalar.cmpi .ne v2 c0_i32_192
  let v313 : BitVec 32 := Scalar.extui v312
  let c0_i32_193 : BitVec 32 := 0#32
  let v314 : BitVec 1 := Scalar.cmpi .ne v313 c0_i32_193
  v314

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_194 : BitVec 32 := 1#32
  let v315 : BitVec 1 := Scalar.cmpi .ne v2 c1_i32_194
  let v316 : BitVec 32 := Scalar.extui v315
  let c0_i32_195 : BitVec 32 := 0#32
  let v317 : BitVec 1 := Scalar.cmpi .ne v316 c0_i32_195
  v317

def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_196 : BitVec 32 := 2#32
  let v318 : BitVec 1 := Scalar.cmpi .ne v2 c2_i32_196
  let v319 : BitVec 32 := Scalar.extui v318
  let c0_i32_197 : BitVec 32 := 0#32
  let v320 : BitVec 1 := Scalar.cmpi .ne v319 c0_i32_197
  v320

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_198 : BitVec 32 := 3#32
  let v321 : BitVec 1 := Scalar.cmpi .ne v2 c3_i32_198
  let v322 : BitVec 32 := Scalar.extui v321
  let c0_i32_199 : BitVec 32 := 0#32
  let v323 : BitVec 1 := Scalar.cmpi .ne v322 c0_i32_199
  v323

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_200 : BitVec 32 := 4#32
  let v324 : BitVec 1 := Scalar.cmpi .ne v2 c4_i32_200
  let v325 : BitVec 32 := Scalar.extui v324
  let c0_i32_201 : BitVec 32 := 0#32
  let v326 : BitVec 1 := Scalar.cmpi .ne v325 c0_i32_201
  v326

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_202 : BitVec 32 := 5#32
  let v327 : BitVec 1 := Scalar.cmpi .ne v2 c5_i32_202
  let v328 : BitVec 32 := Scalar.extui v327
  let c0_i32_203 : BitVec 32 := 0#32
  let v329 : BitVec 1 := Scalar.cmpi .ne v328 c0_i32_203
  v329

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_204 : BitVec 32 := 6#32
  let v330 : BitVec 1 := Scalar.cmpi .ne v2 c6_i32_204
  let v331 : BitVec 32 := Scalar.extui v330
  let c0_i32_205 : BitVec 32 := 0#32
  let v332 : BitVec 1 := Scalar.cmpi .ne v331 c0_i32_205
  v332

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_206 : BitVec 32 := 7#32
  let v333 : BitVec 1 := Scalar.cmpi .ne v2 c7_i32_206
  let v334 : BitVec 32 := Scalar.extui v333
  let c0_i32_207 : BitVec 32 := 0#32
  let v335 : BitVec 1 := Scalar.cmpi .ne v334 c0_i32_207
  v335

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_208 : BitVec 32 := 8#32
  let v336 : BitVec 1 := Scalar.cmpi .ne v2 c8_i32_208
  let v337 : BitVec 32 := Scalar.extui v336
  let c0_i32_209 : BitVec 32 := 0#32
  let v338 : BitVec 1 := Scalar.cmpi .ne v337 c0_i32_209
  v338

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_210 : BitVec 32 := 9#32
  let v339 : BitVec 1 := Scalar.cmpi .ne v2 c9_i32_210
  let v340 : BitVec 32 := Scalar.extui v339
  let c0_i32_211 : BitVec 32 := 0#32
  let v341 : BitVec 1 := Scalar.cmpi .ne v340 c0_i32_211
  v341

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_212 : BitVec 32 := 10#32
  let v342 : BitVec 1 := Scalar.cmpi .ne v2 c10_i32_212
  let v343 : BitVec 32 := Scalar.extui v342
  let c0_i32_213 : BitVec 32 := 0#32
  let v344 : BitVec 1 := Scalar.cmpi .ne v343 c0_i32_213
  v344

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_214 : BitVec 32 := 11#32
  let v345 : BitVec 1 := Scalar.cmpi .ne v2 c11_i32_214
  let v346 : BitVec 32 := Scalar.extui v345
  let c0_i32_215 : BitVec 32 := 0#32
  let v347 : BitVec 1 := Scalar.cmpi .ne v346 c0_i32_215
  v347

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_216 : BitVec 32 := 12#32
  let v348 : BitVec 1 := Scalar.cmpi .ne v2 c12_i32_216
  let v349 : BitVec 32 := Scalar.extui v348
  let c0_i32_217 : BitVec 32 := 0#32
  let v350 : BitVec 1 := Scalar.cmpi .ne v349 c0_i32_217
  v350

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_218 : BitVec 32 := 13#32
  let v351 : BitVec 1 := Scalar.cmpi .ne v2 c13_i32_218
  let v352 : BitVec 32 := Scalar.extui v351
  let c0_i32_219 : BitVec 32 := 0#32
  let v353 : BitVec 1 := Scalar.cmpi .ne v352 c0_i32_219
  v353

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_220 : BitVec 32 := 14#32
  let v354 : BitVec 1 := Scalar.cmpi .ne v2 c14_i32_220
  let v355 : BitVec 32 := Scalar.extui v354
  let c0_i32_221 : BitVec 32 := 0#32
  let v356 : BitVec 1 := Scalar.cmpi .ne v355 c0_i32_221
  v356

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_222 : BitVec 32 := 15#32
  let v357 : BitVec 1 := Scalar.cmpi .ne v2 c15_i32_222
  let v358 : BitVec 32 := Scalar.extui v357
  let c0_i32_223 : BitVec 32 := 0#32
  let v359 : BitVec 1 := Scalar.cmpi .ne v358 c0_i32_223
  v359

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_224 : BitVec 32 := 0#32
  let v360 : BitVec 1 := Scalar.cmpi .ne v2 c0_i32_224
  let v361 : BitVec 32 := Scalar.extui v360
  let c0_i32_225 : BitVec 32 := 0#32
  let v362 : BitVec 1 := Scalar.cmpi .ne v361 c0_i32_225
  v362

def k0_dev33 : Nat :=
  let c0_i32_1072 : BitVec 32 := 0#32
  let c0_i32_1070 : BitVec 32 := 0#32
  let c1_i32_1071 : BitVec 32 := 1#32
  let v1537 : BitVec 32 := Scalar.muli c0_i32_1070 c1_i32_1071
  let v1538 : BitVec 32 := Scalar.addi c0_i32_1072 v1537
  v1538.toNat
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_226 : BitVec 32 := 1#32
  let v363 : BitVec 1 := Scalar.cmpi .ne v2 c1_i32_226
  let v364 : BitVec 32 := Scalar.extui v363
  let c0_i32_227 : BitVec 32 := 0#32
  let v365 : BitVec 1 := Scalar.cmpi .ne v364 c0_i32_227
  v365

def k0_dev34 : Nat :=
  let c0_i32_1072 : BitVec 32 := 0#32
  let c1_i32_1070 : BitVec 32 := 1#32
  let c1_i32_1071 : BitVec 32 := 1#32
  let v1537 : BitVec 32 := Scalar.muli c1_i32_1070 c1_i32_1071
  let v1538 : BitVec 32 := Scalar.addi c0_i32_1072 v1537
  v1538.toNat
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_228 : BitVec 32 := 2#32
  let v366 : BitVec 1 := Scalar.cmpi .ne v2 c2_i32_228
  let v367 : BitVec 32 := Scalar.extui v366
  let c0_i32_229 : BitVec 32 := 0#32
  let v368 : BitVec 1 := Scalar.cmpi .ne v367 c0_i32_229
  v368

def k0_dev35 : Nat :=
  let c0_i32_1072 : BitVec 32 := 0#32
  let c2_i32_1070 : BitVec 32 := 2#32
  let c1_i32_1071 : BitVec 32 := 1#32
  let v1537 : BitVec 32 := Scalar.muli c2_i32_1070 c1_i32_1071
  let v1538 : BitVec 32 := Scalar.addi c0_i32_1072 v1537
  v1538.toNat
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_230 : BitVec 32 := 3#32
  let v369 : BitVec 1 := Scalar.cmpi .ne v2 c3_i32_230
  let v370 : BitVec 32 := Scalar.extui v369
  let c0_i32_231 : BitVec 32 := 0#32
  let v371 : BitVec 1 := Scalar.cmpi .ne v370 c0_i32_231
  v371

def k0_dev36 : Nat :=
  let c0_i32_1072 : BitVec 32 := 0#32
  let c3_i32_1070 : BitVec 32 := 3#32
  let c1_i32_1071 : BitVec 32 := 1#32
  let v1537 : BitVec 32 := Scalar.muli c3_i32_1070 c1_i32_1071
  let v1538 : BitVec 32 := Scalar.addi c0_i32_1072 v1537
  v1538.toNat
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_232 : BitVec 32 := 4#32
  let v372 : BitVec 1 := Scalar.cmpi .ne v2 c4_i32_232
  let v373 : BitVec 32 := Scalar.extui v372
  let c0_i32_233 : BitVec 32 := 0#32
  let v374 : BitVec 1 := Scalar.cmpi .ne v373 c0_i32_233
  v374

def k0_dev37 : Nat :=
  let c0_i32_1072 : BitVec 32 := 0#32
  let c4_i32_1070 : BitVec 32 := 4#32
  let c1_i32_1071 : BitVec 32 := 1#32
  let v1537 : BitVec 32 := Scalar.muli c4_i32_1070 c1_i32_1071
  let v1538 : BitVec 32 := Scalar.addi c0_i32_1072 v1537
  v1538.toNat
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_234 : BitVec 32 := 5#32
  let v375 : BitVec 1 := Scalar.cmpi .ne v2 c5_i32_234
  let v376 : BitVec 32 := Scalar.extui v375
  let c0_i32_235 : BitVec 32 := 0#32
  let v377 : BitVec 1 := Scalar.cmpi .ne v376 c0_i32_235
  v377

def k0_dev38 : Nat :=
  let c0_i32_1072 : BitVec 32 := 0#32
  let c5_i32_1070 : BitVec 32 := 5#32
  let c1_i32_1071 : BitVec 32 := 1#32
  let v1537 : BitVec 32 := Scalar.muli c5_i32_1070 c1_i32_1071
  let v1538 : BitVec 32 := Scalar.addi c0_i32_1072 v1537
  v1538.toNat
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_236 : BitVec 32 := 6#32
  let v378 : BitVec 1 := Scalar.cmpi .ne v2 c6_i32_236
  let v379 : BitVec 32 := Scalar.extui v378
  let c0_i32_237 : BitVec 32 := 0#32
  let v380 : BitVec 1 := Scalar.cmpi .ne v379 c0_i32_237
  v380

def k0_dev39 : Nat :=
  let c0_i32_1072 : BitVec 32 := 0#32
  let c6_i32_1070 : BitVec 32 := 6#32
  let c1_i32_1071 : BitVec 32 := 1#32
  let v1537 : BitVec 32 := Scalar.muli c6_i32_1070 c1_i32_1071
  let v1538 : BitVec 32 := Scalar.addi c0_i32_1072 v1537
  v1538.toNat
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_238 : BitVec 32 := 7#32
  let v381 : BitVec 1 := Scalar.cmpi .ne v2 c7_i32_238
  let v382 : BitVec 32 := Scalar.extui v381
  let c0_i32_239 : BitVec 32 := 0#32
  let v383 : BitVec 1 := Scalar.cmpi .ne v382 c0_i32_239
  v383

def k0_dev40 : Nat :=
  let c0_i32_1072 : BitVec 32 := 0#32
  let c7_i32_1070 : BitVec 32 := 7#32
  let c1_i32_1071 : BitVec 32 := 1#32
  let v1537 : BitVec 32 := Scalar.muli c7_i32_1070 c1_i32_1071
  let v1538 : BitVec 32 := Scalar.addi c0_i32_1072 v1537
  v1538.toNat
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_240 : BitVec 32 := 8#32
  let v384 : BitVec 1 := Scalar.cmpi .ne v2 c8_i32_240
  let v385 : BitVec 32 := Scalar.extui v384
  let c0_i32_241 : BitVec 32 := 0#32
  let v386 : BitVec 1 := Scalar.cmpi .ne v385 c0_i32_241
  v386

def k0_dev41 : Nat :=
  let c0_i32_1072 : BitVec 32 := 0#32
  let c8_i32_1070 : BitVec 32 := 8#32
  let c1_i32_1071 : BitVec 32 := 1#32
  let v1537 : BitVec 32 := Scalar.muli c8_i32_1070 c1_i32_1071
  let v1538 : BitVec 32 := Scalar.addi c0_i32_1072 v1537
  v1538.toNat
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_242 : BitVec 32 := 9#32
  let v387 : BitVec 1 := Scalar.cmpi .ne v2 c9_i32_242
  let v388 : BitVec 32 := Scalar.extui v387
  let c0_i32_243 : BitVec 32 := 0#32
  let v389 : BitVec 1 := Scalar.cmpi .ne v388 c0_i32_243
  v389

def k0_dev42 : Nat :=
  let c0_i32_1072 : BitVec 32 := 0#32
  let c9_i32_1070 : BitVec 32 := 9#32
  let c1_i32_1071 : BitVec 32 := 1#32
  let v1537 : BitVec 32 := Scalar.muli c9_i32_1070 c1_i32_1071
  let v1538 : BitVec 32 := Scalar.addi c0_i32_1072 v1537
  v1538.toNat
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_244 : BitVec 32 := 10#32
  let v390 : BitVec 1 := Scalar.cmpi .ne v2 c10_i32_244
  let v391 : BitVec 32 := Scalar.extui v390
  let c0_i32_245 : BitVec 32 := 0#32
  let v392 : BitVec 1 := Scalar.cmpi .ne v391 c0_i32_245
  v392

def k0_dev43 : Nat :=
  let c0_i32_1072 : BitVec 32 := 0#32
  let c10_i32_1070 : BitVec 32 := 10#32
  let c1_i32_1071 : BitVec 32 := 1#32
  let v1537 : BitVec 32 := Scalar.muli c10_i32_1070 c1_i32_1071
  let v1538 : BitVec 32 := Scalar.addi c0_i32_1072 v1537
  v1538.toNat
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_246 : BitVec 32 := 11#32
  let v393 : BitVec 1 := Scalar.cmpi .ne v2 c11_i32_246
  let v394 : BitVec 32 := Scalar.extui v393
  let c0_i32_247 : BitVec 32 := 0#32
  let v395 : BitVec 1 := Scalar.cmpi .ne v394 c0_i32_247
  v395

def k0_dev44 : Nat :=
  let c0_i32_1072 : BitVec 32 := 0#32
  let c11_i32_1070 : BitVec 32 := 11#32
  let c1_i32_1071 : BitVec 32 := 1#32
  let v1537 : BitVec 32 := Scalar.muli c11_i32_1070 c1_i32_1071
  let v1538 : BitVec 32 := Scalar.addi c0_i32_1072 v1537
  v1538.toNat
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_248 : BitVec 32 := 12#32
  let v396 : BitVec 1 := Scalar.cmpi .ne v2 c12_i32_248
  let v397 : BitVec 32 := Scalar.extui v396
  let c0_i32_249 : BitVec 32 := 0#32
  let v398 : BitVec 1 := Scalar.cmpi .ne v397 c0_i32_249
  v398

def k0_dev45 : Nat :=
  let c0_i32_1072 : BitVec 32 := 0#32
  let c12_i32_1070 : BitVec 32 := 12#32
  let c1_i32_1071 : BitVec 32 := 1#32
  let v1537 : BitVec 32 := Scalar.muli c12_i32_1070 c1_i32_1071
  let v1538 : BitVec 32 := Scalar.addi c0_i32_1072 v1537
  v1538.toNat
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_250 : BitVec 32 := 13#32
  let v399 : BitVec 1 := Scalar.cmpi .ne v2 c13_i32_250
  let v400 : BitVec 32 := Scalar.extui v399
  let c0_i32_251 : BitVec 32 := 0#32
  let v401 : BitVec 1 := Scalar.cmpi .ne v400 c0_i32_251
  v401

def k0_dev46 : Nat :=
  let c0_i32_1072 : BitVec 32 := 0#32
  let c13_i32_1070 : BitVec 32 := 13#32
  let c1_i32_1071 : BitVec 32 := 1#32
  let v1537 : BitVec 32 := Scalar.muli c13_i32_1070 c1_i32_1071
  let v1538 : BitVec 32 := Scalar.addi c0_i32_1072 v1537
  v1538.toNat
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_252 : BitVec 32 := 14#32
  let v402 : BitVec 1 := Scalar.cmpi .ne v2 c14_i32_252
  let v403 : BitVec 32 := Scalar.extui v402
  let c0_i32_253 : BitVec 32 := 0#32
  let v404 : BitVec 1 := Scalar.cmpi .ne v403 c0_i32_253
  v404

def k0_dev47 : Nat :=
  let c0_i32_1072 : BitVec 32 := 0#32
  let c14_i32_1070 : BitVec 32 := 14#32
  let c1_i32_1071 : BitVec 32 := 1#32
  let v1537 : BitVec 32 := Scalar.muli c14_i32_1070 c1_i32_1071
  let v1538 : BitVec 32 := Scalar.addi c0_i32_1072 v1537
  v1538.toNat
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_254 : BitVec 32 := 15#32
  let v405 : BitVec 1 := Scalar.cmpi .ne v2 c15_i32_254
  let v406 : BitVec 32 := Scalar.extui v405
  let c0_i32_255 : BitVec 32 := 0#32
  let v407 : BitVec 1 := Scalar.cmpi .ne v406 c0_i32_255
  v407

def k0_dev48 : Nat :=
  let c0_i32_1072 : BitVec 32 := 0#32
  let c15_i32_1070 : BitVec 32 := 15#32
  let c1_i32_1071 : BitVec 32 := 1#32
  let v1537 : BitVec 32 := Scalar.muli c15_i32_1070 c1_i32_1071
  let v1538 : BitVec 32 := Scalar.addi c0_i32_1072 v1537
  v1538.toNat
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_260 : BitVec 32 := 0#32
  let v412 : BitVec 1 := Scalar.cmpi .ne v2 c0_i32_260
  let v413 : BitVec 32 := Scalar.extui v412
  let c0_i32_261 : BitVec 32 := 0#32
  let v414 : BitVec 1 := Scalar.cmpi .ne v413 c0_i32_261
  v414

def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev49 : Nat :=
  let c0_i32_1072 : BitVec 32 := 0#32
  let c0_i32_1070 : BitVec 32 := 0#32
  let c1_i32_1071 : BitVec 32 := 1#32
  let v1537 : BitVec 32 := Scalar.muli c0_i32_1070 c1_i32_1071
  let v1538 : BitVec 32 := Scalar.addi c0_i32_1072 v1537
  v1538.toNat
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_264 : BitVec 32 := 1#32
  let v418 : BitVec 1 := Scalar.cmpi .ne v2 c1_i32_264
  let v419 : BitVec 32 := Scalar.extui v418
  let c0_i32_265 : BitVec 32 := 0#32
  let v420 : BitVec 1 := Scalar.cmpi .ne v419 c0_i32_265
  v420

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev50 : Nat :=
  let c0_i32_1072 : BitVec 32 := 0#32
  let c1_i32_1070 : BitVec 32 := 1#32
  let c1_i32_1071 : BitVec 32 := 1#32
  let v1537 : BitVec 32 := Scalar.muli c1_i32_1070 c1_i32_1071
  let v1538 : BitVec 32 := Scalar.addi c0_i32_1072 v1537
  v1538.toNat
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_268 : BitVec 32 := 2#32
  let v424 : BitVec 1 := Scalar.cmpi .ne v2 c2_i32_268
  let v425 : BitVec 32 := Scalar.extui v424
  let c0_i32_269 : BitVec 32 := 0#32
  let v426 : BitVec 1 := Scalar.cmpi .ne v425 c0_i32_269
  v426

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev51 : Nat :=
  let c0_i32_1072 : BitVec 32 := 0#32
  let c2_i32_1070 : BitVec 32 := 2#32
  let c1_i32_1071 : BitVec 32 := 1#32
  let v1537 : BitVec 32 := Scalar.muli c2_i32_1070 c1_i32_1071
  let v1538 : BitVec 32 := Scalar.addi c0_i32_1072 v1537
  v1538.toNat
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_272 : BitVec 32 := 3#32
  let v430 : BitVec 1 := Scalar.cmpi .ne v2 c3_i32_272
  let v431 : BitVec 32 := Scalar.extui v430
  let c0_i32_273 : BitVec 32 := 0#32
  let v432 : BitVec 1 := Scalar.cmpi .ne v431 c0_i32_273
  v432

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev52 : Nat :=
  let c0_i32_1072 : BitVec 32 := 0#32
  let c3_i32_1070 : BitVec 32 := 3#32
  let c1_i32_1071 : BitVec 32 := 1#32
  let v1537 : BitVec 32 := Scalar.muli c3_i32_1070 c1_i32_1071
  let v1538 : BitVec 32 := Scalar.addi c0_i32_1072 v1537
  v1538.toNat
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_276 : BitVec 32 := 4#32
  let v436 : BitVec 1 := Scalar.cmpi .ne v2 c4_i32_276
  let v437 : BitVec 32 := Scalar.extui v436
  let c0_i32_277 : BitVec 32 := 0#32
  let v438 : BitVec 1 := Scalar.cmpi .ne v437 c0_i32_277
  v438

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev53 : Nat :=
  let c0_i32_1072 : BitVec 32 := 0#32
  let c4_i32_1070 : BitVec 32 := 4#32
  let c1_i32_1071 : BitVec 32 := 1#32
  let v1537 : BitVec 32 := Scalar.muli c4_i32_1070 c1_i32_1071
  let v1538 : BitVec 32 := Scalar.addi c0_i32_1072 v1537
  v1538.toNat
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_280 : BitVec 32 := 5#32
  let v442 : BitVec 1 := Scalar.cmpi .ne v2 c5_i32_280
  let v443 : BitVec 32 := Scalar.extui v442
  let c0_i32_281 : BitVec 32 := 0#32
  let v444 : BitVec 1 := Scalar.cmpi .ne v443 c0_i32_281
  v444

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev54 : Nat :=
  let c0_i32_1072 : BitVec 32 := 0#32
  let c5_i32_1070 : BitVec 32 := 5#32
  let c1_i32_1071 : BitVec 32 := 1#32
  let v1537 : BitVec 32 := Scalar.muli c5_i32_1070 c1_i32_1071
  let v1538 : BitVec 32 := Scalar.addi c0_i32_1072 v1537
  v1538.toNat
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_284 : BitVec 32 := 6#32
  let v448 : BitVec 1 := Scalar.cmpi .ne v2 c6_i32_284
  let v449 : BitVec 32 := Scalar.extui v448
  let c0_i32_285 : BitVec 32 := 0#32
  let v450 : BitVec 1 := Scalar.cmpi .ne v449 c0_i32_285
  v450

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev55 : Nat :=
  let c0_i32_1072 : BitVec 32 := 0#32
  let c6_i32_1070 : BitVec 32 := 6#32
  let c1_i32_1071 : BitVec 32 := 1#32
  let v1537 : BitVec 32 := Scalar.muli c6_i32_1070 c1_i32_1071
  let v1538 : BitVec 32 := Scalar.addi c0_i32_1072 v1537
  v1538.toNat
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_288 : BitVec 32 := 7#32
  let v454 : BitVec 1 := Scalar.cmpi .ne v2 c7_i32_288
  let v455 : BitVec 32 := Scalar.extui v454
  let c0_i32_289 : BitVec 32 := 0#32
  let v456 : BitVec 1 := Scalar.cmpi .ne v455 c0_i32_289
  v456

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev56 : Nat :=
  let c0_i32_1072 : BitVec 32 := 0#32
  let c7_i32_1070 : BitVec 32 := 7#32
  let c1_i32_1071 : BitVec 32 := 1#32
  let v1537 : BitVec 32 := Scalar.muli c7_i32_1070 c1_i32_1071
  let v1538 : BitVec 32 := Scalar.addi c0_i32_1072 v1537
  v1538.toNat
def k0_cond113 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_292 : BitVec 32 := 8#32
  let v460 : BitVec 1 := Scalar.cmpi .ne v2 c8_i32_292
  let v461 : BitVec 32 := Scalar.extui v460
  let c0_i32_293 : BitVec 32 := 0#32
  let v462 : BitVec 1 := Scalar.cmpi .ne v461 c0_i32_293
  v462

def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev57 : Nat :=
  let c0_i32_1072 : BitVec 32 := 0#32
  let c8_i32_1070 : BitVec 32 := 8#32
  let c1_i32_1071 : BitVec 32 := 1#32
  let v1537 : BitVec 32 := Scalar.muli c8_i32_1070 c1_i32_1071
  let v1538 : BitVec 32 := Scalar.addi c0_i32_1072 v1537
  v1538.toNat
def k0_cond115 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_296 : BitVec 32 := 9#32
  let v466 : BitVec 1 := Scalar.cmpi .ne v2 c9_i32_296
  let v467 : BitVec 32 := Scalar.extui v466
  let c0_i32_297 : BitVec 32 := 0#32
  let v468 : BitVec 1 := Scalar.cmpi .ne v467 c0_i32_297
  v468

def k0_off67 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev58 : Nat :=
  let c0_i32_1072 : BitVec 32 := 0#32
  let c9_i32_1070 : BitVec 32 := 9#32
  let c1_i32_1071 : BitVec 32 := 1#32
  let v1537 : BitVec 32 := Scalar.muli c9_i32_1070 c1_i32_1071
  let v1538 : BitVec 32 := Scalar.addi c0_i32_1072 v1537
  v1538.toNat
def k0_cond117 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_300 : BitVec 32 := 10#32
  let v472 : BitVec 1 := Scalar.cmpi .ne v2 c10_i32_300
  let v473 : BitVec 32 := Scalar.extui v472
  let c0_i32_301 : BitVec 32 := 0#32
  let v474 : BitVec 1 := Scalar.cmpi .ne v473 c0_i32_301
  v474

def k0_off69 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev59 : Nat :=
  let c0_i32_1072 : BitVec 32 := 0#32
  let c10_i32_1070 : BitVec 32 := 10#32
  let c1_i32_1071 : BitVec 32 := 1#32
  let v1537 : BitVec 32 := Scalar.muli c10_i32_1070 c1_i32_1071
  let v1538 : BitVec 32 := Scalar.addi c0_i32_1072 v1537
  v1538.toNat
def k0_cond119 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_304 : BitVec 32 := 11#32
  let v478 : BitVec 1 := Scalar.cmpi .ne v2 c11_i32_304
  let v479 : BitVec 32 := Scalar.extui v478
  let c0_i32_305 : BitVec 32 := 0#32
  let v480 : BitVec 1 := Scalar.cmpi .ne v479 c0_i32_305
  v480

def k0_off71 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev60 : Nat :=
  let c0_i32_1072 : BitVec 32 := 0#32
  let c11_i32_1070 : BitVec 32 := 11#32
  let c1_i32_1071 : BitVec 32 := 1#32
  let v1537 : BitVec 32 := Scalar.muli c11_i32_1070 c1_i32_1071
  let v1538 : BitVec 32 := Scalar.addi c0_i32_1072 v1537
  v1538.toNat
def k0_cond121 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_308 : BitVec 32 := 12#32
  let v484 : BitVec 1 := Scalar.cmpi .ne v2 c12_i32_308
  let v485 : BitVec 32 := Scalar.extui v484
  let c0_i32_309 : BitVec 32 := 0#32
  let v486 : BitVec 1 := Scalar.cmpi .ne v485 c0_i32_309
  v486

def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev61 : Nat :=
  let c0_i32_1072 : BitVec 32 := 0#32
  let c12_i32_1070 : BitVec 32 := 12#32
  let c1_i32_1071 : BitVec 32 := 1#32
  let v1537 : BitVec 32 := Scalar.muli c12_i32_1070 c1_i32_1071
  let v1538 : BitVec 32 := Scalar.addi c0_i32_1072 v1537
  v1538.toNat
def k0_cond123 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_312 : BitVec 32 := 13#32
  let v490 : BitVec 1 := Scalar.cmpi .ne v2 c13_i32_312
  let v491 : BitVec 32 := Scalar.extui v490
  let c0_i32_313 : BitVec 32 := 0#32
  let v492 : BitVec 1 := Scalar.cmpi .ne v491 c0_i32_313
  v492

def k0_off75 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev62 : Nat :=
  let c0_i32_1072 : BitVec 32 := 0#32
  let c13_i32_1070 : BitVec 32 := 13#32
  let c1_i32_1071 : BitVec 32 := 1#32
  let v1537 : BitVec 32 := Scalar.muli c13_i32_1070 c1_i32_1071
  let v1538 : BitVec 32 := Scalar.addi c0_i32_1072 v1537
  v1538.toNat
def k0_cond125 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_316 : BitVec 32 := 14#32
  let v496 : BitVec 1 := Scalar.cmpi .ne v2 c14_i32_316
  let v497 : BitVec 32 := Scalar.extui v496
  let c0_i32_317 : BitVec 32 := 0#32
  let v498 : BitVec 1 := Scalar.cmpi .ne v497 c0_i32_317
  v498

def k0_off77 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev63 : Nat :=
  let c0_i32_1072 : BitVec 32 := 0#32
  let c14_i32_1070 : BitVec 32 := 14#32
  let c1_i32_1071 : BitVec 32 := 1#32
  let v1537 : BitVec 32 := Scalar.muli c14_i32_1070 c1_i32_1071
  let v1538 : BitVec 32 := Scalar.addi c0_i32_1072 v1537
  v1538.toNat
def k0_cond127 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_320 : BitVec 32 := 15#32
  let v502 : BitVec 1 := Scalar.cmpi .ne v2 c15_i32_320
  let v503 : BitVec 32 := Scalar.extui v502
  let c0_i32_321 : BitVec 32 := 0#32
  let v504 : BitVec 1 := Scalar.cmpi .ne v503 c0_i32_321
  v504

def k0_off79 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev64 : Nat :=
  let c0_i32_1072 : BitVec 32 := 0#32
  let c15_i32_1070 : BitVec 32 := 15#32
  let c1_i32_1071 : BitVec 32 := 1#32
  let v1537 : BitVec 32 := Scalar.muli c15_i32_1070 c1_i32_1071
  let v1538 : BitVec 32 := Scalar.addi c0_i32_1072 v1537
  v1538.toNat
def k0_cond133 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_363 : BitVec 32 := 14#32
  let v552 : BitVec 1 := Scalar.cmpi .ne v2 c14_i32_363
  let v553 : BitVec 32 := Scalar.extui v552
  let c0_i32_364 : BitVec 32 := 0#32
  let v554 : BitVec 1 := Scalar.cmpi .ne v553 c0_i32_364
  v554

def k0_off81 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev65 : Nat :=
  let c0_i32_1072 : BitVec 32 := 0#32
  let c14_i32_1070 : BitVec 32 := 14#32
  let c1_i32_1071 : BitVec 32 := 1#32
  let v1537 : BitVec 32 := Scalar.muli c14_i32_1070 c1_i32_1071
  let v1538 : BitVec 32 := Scalar.addi c0_i32_1072 v1537
  v1538.toNat
def k0_cond135 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_367 : BitVec 32 := 15#32
  let v558 : BitVec 1 := Scalar.cmpi .ne v2 c15_i32_367
  let v559 : BitVec 32 := Scalar.extui v558
  let c0_i32_368 : BitVec 32 := 0#32
  let v560 : BitVec 1 := Scalar.cmpi .ne v559 c0_i32_368
  v560

def k0_off83 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev66 : Nat :=
  let c0_i32_1072 : BitVec 32 := 0#32
  let c15_i32_1070 : BitVec 32 := 15#32
  let c1_i32_1071 : BitVec 32 := 1#32
  let v1537 : BitVec 32 := Scalar.muli c15_i32_1070 c1_i32_1071
  let v1538 : BitVec 32 := Scalar.addi c0_i32_1072 v1537
  v1538.toNat
def k0_cond137 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_371 : BitVec 32 := 12#32
  let v564 : BitVec 1 := Scalar.cmpi .ne v2 c12_i32_371
  let v565 : BitVec 32 := Scalar.extui v564
  let c0_i32_372 : BitVec 32 := 0#32
  let v566 : BitVec 1 := Scalar.cmpi .ne v565 c0_i32_372
  v566

def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev67 : Nat :=
  let c0_i32_1072 : BitVec 32 := 0#32
  let c12_i32_1070 : BitVec 32 := 12#32
  let c1_i32_1071 : BitVec 32 := 1#32
  let v1537 : BitVec 32 := Scalar.muli c12_i32_1070 c1_i32_1071
  let v1538 : BitVec 32 := Scalar.addi c0_i32_1072 v1537
  v1538.toNat
def k0_cond139 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_375 : BitVec 32 := 13#32
  let v570 : BitVec 1 := Scalar.cmpi .ne v2 c13_i32_375
  let v571 : BitVec 32 := Scalar.extui v570
  let c0_i32_376 : BitVec 32 := 0#32
  let v572 : BitVec 1 := Scalar.cmpi .ne v571 c0_i32_376
  v572

def k0_off87 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev68 : Nat :=
  let c0_i32_1072 : BitVec 32 := 0#32
  let c13_i32_1070 : BitVec 32 := 13#32
  let c1_i32_1071 : BitVec 32 := 1#32
  let v1537 : BitVec 32 := Scalar.muli c13_i32_1070 c1_i32_1071
  let v1538 : BitVec 32 := Scalar.addi c0_i32_1072 v1537
  v1538.toNat
def k0_cond145 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_403 : BitVec 32 := 10#32
  let v606 : BitVec 1 := Scalar.cmpi .ne v2 c10_i32_403
  let v607 : BitVec 32 := Scalar.extui v606
  let c0_i32_404 : BitVec 32 := 0#32
  let v608 : BitVec 1 := Scalar.cmpi .ne v607 c0_i32_404
  v608

def k0_off89 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev69 : Nat :=
  let c0_i32_1072 : BitVec 32 := 0#32
  let c10_i32_1070 : BitVec 32 := 10#32
  let c1_i32_1071 : BitVec 32 := 1#32
  let v1537 : BitVec 32 := Scalar.muli c10_i32_1070 c1_i32_1071
  let v1538 : BitVec 32 := Scalar.addi c0_i32_1072 v1537
  v1538.toNat
def k0_cond147 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_407 : BitVec 32 := 11#32
  let v612 : BitVec 1 := Scalar.cmpi .ne v2 c11_i32_407
  let v613 : BitVec 32 := Scalar.extui v612
  let c0_i32_408 : BitVec 32 := 0#32
  let v614 : BitVec 1 := Scalar.cmpi .ne v613 c0_i32_408
  v614

def k0_off91 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev70 : Nat :=
  let c0_i32_1072 : BitVec 32 := 0#32
  let c11_i32_1070 : BitVec 32 := 11#32
  let c1_i32_1071 : BitVec 32 := 1#32
  let v1537 : BitVec 32 := Scalar.muli c11_i32_1070 c1_i32_1071
  let v1538 : BitVec 32 := Scalar.addi c0_i32_1072 v1537
  v1538.toNat
def k0_cond149 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_411 : BitVec 32 := 8#32
  let v618 : BitVec 1 := Scalar.cmpi .ne v2 c8_i32_411
  let v619 : BitVec 32 := Scalar.extui v618
  let c0_i32_412 : BitVec 32 := 0#32
  let v620 : BitVec 1 := Scalar.cmpi .ne v619 c0_i32_412
  v620

def k0_off93 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev71 : Nat :=
  let c0_i32_1072 : BitVec 32 := 0#32
  let c8_i32_1070 : BitVec 32 := 8#32
  let c1_i32_1071 : BitVec 32 := 1#32
  let v1537 : BitVec 32 := Scalar.muli c8_i32_1070 c1_i32_1071
  let v1538 : BitVec 32 := Scalar.addi c0_i32_1072 v1537
  v1538.toNat
def k0_cond151 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_415 : BitVec 32 := 9#32
  let v624 : BitVec 1 := Scalar.cmpi .ne v2 c9_i32_415
  let v625 : BitVec 32 := Scalar.extui v624
  let c0_i32_416 : BitVec 32 := 0#32
  let v626 : BitVec 1 := Scalar.cmpi .ne v625 c0_i32_416
  v626

def k0_off95 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev72 : Nat :=
  let c0_i32_1072 : BitVec 32 := 0#32
  let c9_i32_1070 : BitVec 32 := 9#32
  let c1_i32_1071 : BitVec 32 := 1#32
  let v1537 : BitVec 32 := Scalar.muli c9_i32_1070 c1_i32_1071
  let v1538 : BitVec 32 := Scalar.addi c0_i32_1072 v1537
  v1538.toNat
def k0_cond157 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_443 : BitVec 32 := 6#32
  let v660 : BitVec 1 := Scalar.cmpi .ne v2 c6_i32_443
  let v661 : BitVec 32 := Scalar.extui v660
  let c0_i32_444 : BitVec 32 := 0#32
  let v662 : BitVec 1 := Scalar.cmpi .ne v661 c0_i32_444
  v662

def k0_off97 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev73 : Nat :=
  let c0_i32_1072 : BitVec 32 := 0#32
  let c6_i32_1070 : BitVec 32 := 6#32
  let c1_i32_1071 : BitVec 32 := 1#32
  let v1537 : BitVec 32 := Scalar.muli c6_i32_1070 c1_i32_1071
  let v1538 : BitVec 32 := Scalar.addi c0_i32_1072 v1537
  v1538.toNat
def k0_cond159 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_447 : BitVec 32 := 7#32
  let v666 : BitVec 1 := Scalar.cmpi .ne v2 c7_i32_447
  let v667 : BitVec 32 := Scalar.extui v666
  let c0_i32_448 : BitVec 32 := 0#32
  let v668 : BitVec 1 := Scalar.cmpi .ne v667 c0_i32_448
  v668

def k0_off99 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev74 : Nat :=
  let c0_i32_1072 : BitVec 32 := 0#32
  let c7_i32_1070 : BitVec 32 := 7#32
  let c1_i32_1071 : BitVec 32 := 1#32
  let v1537 : BitVec 32 := Scalar.muli c7_i32_1070 c1_i32_1071
  let v1538 : BitVec 32 := Scalar.addi c0_i32_1072 v1537
  v1538.toNat
def k0_cond161 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_451 : BitVec 32 := 4#32
  let v672 : BitVec 1 := Scalar.cmpi .ne v2 c4_i32_451
  let v673 : BitVec 32 := Scalar.extui v672
  let c0_i32_452 : BitVec 32 := 0#32
  let v674 : BitVec 1 := Scalar.cmpi .ne v673 c0_i32_452
  v674

def k0_off101 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev75 : Nat :=
  let c0_i32_1072 : BitVec 32 := 0#32
  let c4_i32_1070 : BitVec 32 := 4#32
  let c1_i32_1071 : BitVec 32 := 1#32
  let v1537 : BitVec 32 := Scalar.muli c4_i32_1070 c1_i32_1071
  let v1538 : BitVec 32 := Scalar.addi c0_i32_1072 v1537
  v1538.toNat
def k0_cond163 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_455 : BitVec 32 := 5#32
  let v678 : BitVec 1 := Scalar.cmpi .ne v2 c5_i32_455
  let v679 : BitVec 32 := Scalar.extui v678
  let c0_i32_456 : BitVec 32 := 0#32
  let v680 : BitVec 1 := Scalar.cmpi .ne v679 c0_i32_456
  v680

def k0_off103 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev76 : Nat :=
  let c0_i32_1072 : BitVec 32 := 0#32
  let c5_i32_1070 : BitVec 32 := 5#32
  let c1_i32_1071 : BitVec 32 := 1#32
  let v1537 : BitVec 32 := Scalar.muli c5_i32_1070 c1_i32_1071
  let v1538 : BitVec 32 := Scalar.addi c0_i32_1072 v1537
  v1538.toNat
def k0_cond169 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_483 : BitVec 32 := 2#32
  let v714 : BitVec 1 := Scalar.cmpi .ne v2 c2_i32_483
  let v715 : BitVec 32 := Scalar.extui v714
  let c0_i32_484 : BitVec 32 := 0#32
  let v716 : BitVec 1 := Scalar.cmpi .ne v715 c0_i32_484
  v716

def k0_off105 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev77 : Nat :=
  let c0_i32_1072 : BitVec 32 := 0#32
  let c2_i32_1070 : BitVec 32 := 2#32
  let c1_i32_1071 : BitVec 32 := 1#32
  let v1537 : BitVec 32 := Scalar.muli c2_i32_1070 c1_i32_1071
  let v1538 : BitVec 32 := Scalar.addi c0_i32_1072 v1537
  v1538.toNat
def k0_cond171 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_487 : BitVec 32 := 3#32
  let v720 : BitVec 1 := Scalar.cmpi .ne v2 c3_i32_487
  let v721 : BitVec 32 := Scalar.extui v720
  let c0_i32_488 : BitVec 32 := 0#32
  let v722 : BitVec 1 := Scalar.cmpi .ne v721 c0_i32_488
  v722

def k0_off107 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev78 : Nat :=
  let c0_i32_1072 : BitVec 32 := 0#32
  let c3_i32_1070 : BitVec 32 := 3#32
  let c1_i32_1071 : BitVec 32 := 1#32
  let v1537 : BitVec 32 := Scalar.muli c3_i32_1070 c1_i32_1071
  let v1538 : BitVec 32 := Scalar.addi c0_i32_1072 v1537
  v1538.toNat
def k0_cond173 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_491 : BitVec 32 := 0#32
  let v726 : BitVec 1 := Scalar.cmpi .ne v2 c0_i32_491
  let v727 : BitVec 32 := Scalar.extui v726
  let c0_i32_492 : BitVec 32 := 0#32
  let v728 : BitVec 1 := Scalar.cmpi .ne v727 c0_i32_492
  v728

def k0_off109 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev79 : Nat :=
  let c0_i32_1072 : BitVec 32 := 0#32
  let c0_i32_1070 : BitVec 32 := 0#32
  let c1_i32_1071 : BitVec 32 := 1#32
  let v1537 : BitVec 32 := Scalar.muli c0_i32_1070 c1_i32_1071
  let v1538 : BitVec 32 := Scalar.addi c0_i32_1072 v1537
  v1538.toNat
def k0_cond175 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_495 : BitVec 32 := 1#32
  let v732 : BitVec 1 := Scalar.cmpi .ne v2 c1_i32_495
  let v733 : BitVec 32 := Scalar.extui v732
  let c0_i32_496 : BitVec 32 := 0#32
  let v734 : BitVec 1 := Scalar.cmpi .ne v733 c0_i32_496
  v734

def k0_off111 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev80 : Nat :=
  let c0_i32_1072 : BitVec 32 := 0#32
  let c1_i32_1070 : BitVec 32 := 1#32
  let c1_i32_1071 : BitVec 32 := 1#32
  let v1537 : BitVec 32 := Scalar.muli c1_i32_1070 c1_i32_1071
  let v1538 : BitVec 32 := Scalar.addi c0_i32_1072 v1537
  v1538.toNat
def k0_cond193 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_579 : BitVec 32 := 0#32
  let v849 : BitVec 1 := Scalar.cmpi .ne v2 c0_i32_579
  let v850 : BitVec 32 := Scalar.extui v849
  let c0_i32_580 : BitVec 32 := 0#32
  let v851 : BitVec 1 := Scalar.cmpi .ne v850 c0_i32_580
  v851

def k0_off113 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond194 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_581 : BitVec 32 := 1#32
  let v852 : BitVec 1 := Scalar.cmpi .ne v2 c1_i32_581
  let v853 : BitVec 32 := Scalar.extui v852
  let c0_i32_582 : BitVec 32 := 0#32
  let v854 : BitVec 1 := Scalar.cmpi .ne v853 c0_i32_582
  v854

def k0_off114 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond195 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_583 : BitVec 32 := 2#32
  let v855 : BitVec 1 := Scalar.cmpi .ne v2 c2_i32_583
  let v856 : BitVec 32 := Scalar.extui v855
  let c0_i32_584 : BitVec 32 := 0#32
  let v857 : BitVec 1 := Scalar.cmpi .ne v856 c0_i32_584
  v857

def k0_off115 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond196 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_585 : BitVec 32 := 3#32
  let v858 : BitVec 1 := Scalar.cmpi .ne v2 c3_i32_585
  let v859 : BitVec 32 := Scalar.extui v858
  let c0_i32_586 : BitVec 32 := 0#32
  let v860 : BitVec 1 := Scalar.cmpi .ne v859 c0_i32_586
  v860

def k0_off116 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond197 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_587 : BitVec 32 := 4#32
  let v861 : BitVec 1 := Scalar.cmpi .ne v2 c4_i32_587
  let v862 : BitVec 32 := Scalar.extui v861
  let c0_i32_588 : BitVec 32 := 0#32
  let v863 : BitVec 1 := Scalar.cmpi .ne v862 c0_i32_588
  v863

def k0_off117 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond198 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_589 : BitVec 32 := 5#32
  let v864 : BitVec 1 := Scalar.cmpi .ne v2 c5_i32_589
  let v865 : BitVec 32 := Scalar.extui v864
  let c0_i32_590 : BitVec 32 := 0#32
  let v866 : BitVec 1 := Scalar.cmpi .ne v865 c0_i32_590
  v866

def k0_off118 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond199 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_591 : BitVec 32 := 6#32
  let v867 : BitVec 1 := Scalar.cmpi .ne v2 c6_i32_591
  let v868 : BitVec 32 := Scalar.extui v867
  let c0_i32_592 : BitVec 32 := 0#32
  let v869 : BitVec 1 := Scalar.cmpi .ne v868 c0_i32_592
  v869

def k0_off119 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond200 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_593 : BitVec 32 := 7#32
  let v870 : BitVec 1 := Scalar.cmpi .ne v2 c7_i32_593
  let v871 : BitVec 32 := Scalar.extui v870
  let c0_i32_594 : BitVec 32 := 0#32
  let v872 : BitVec 1 := Scalar.cmpi .ne v871 c0_i32_594
  v872

def k0_off120 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond201 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_595 : BitVec 32 := 8#32
  let v873 : BitVec 1 := Scalar.cmpi .ne v2 c8_i32_595
  let v874 : BitVec 32 := Scalar.extui v873
  let c0_i32_596 : BitVec 32 := 0#32
  let v875 : BitVec 1 := Scalar.cmpi .ne v874 c0_i32_596
  v875

def k0_off121 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond202 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_597 : BitVec 32 := 9#32
  let v876 : BitVec 1 := Scalar.cmpi .ne v2 c9_i32_597
  let v877 : BitVec 32 := Scalar.extui v876
  let c0_i32_598 : BitVec 32 := 0#32
  let v878 : BitVec 1 := Scalar.cmpi .ne v877 c0_i32_598
  v878

def k0_off122 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond203 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_599 : BitVec 32 := 10#32
  let v879 : BitVec 1 := Scalar.cmpi .ne v2 c10_i32_599
  let v880 : BitVec 32 := Scalar.extui v879
  let c0_i32_600 : BitVec 32 := 0#32
  let v881 : BitVec 1 := Scalar.cmpi .ne v880 c0_i32_600
  v881

def k0_off123 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond204 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_601 : BitVec 32 := 11#32
  let v882 : BitVec 1 := Scalar.cmpi .ne v2 c11_i32_601
  let v883 : BitVec 32 := Scalar.extui v882
  let c0_i32_602 : BitVec 32 := 0#32
  let v884 : BitVec 1 := Scalar.cmpi .ne v883 c0_i32_602
  v884

def k0_off124 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond205 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_603 : BitVec 32 := 12#32
  let v885 : BitVec 1 := Scalar.cmpi .ne v2 c12_i32_603
  let v886 : BitVec 32 := Scalar.extui v885
  let c0_i32_604 : BitVec 32 := 0#32
  let v887 : BitVec 1 := Scalar.cmpi .ne v886 c0_i32_604
  v887

def k0_off125 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond206 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_605 : BitVec 32 := 13#32
  let v888 : BitVec 1 := Scalar.cmpi .ne v2 c13_i32_605
  let v889 : BitVec 32 := Scalar.extui v888
  let c0_i32_606 : BitVec 32 := 0#32
  let v890 : BitVec 1 := Scalar.cmpi .ne v889 c0_i32_606
  v890

def k0_off126 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond207 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_607 : BitVec 32 := 14#32
  let v891 : BitVec 1 := Scalar.cmpi .ne v2 c14_i32_607
  let v892 : BitVec 32 := Scalar.extui v891
  let c0_i32_608 : BitVec 32 := 0#32
  let v893 : BitVec 1 := Scalar.cmpi .ne v892 c0_i32_608
  v893

def k0_off127 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond208 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_609 : BitVec 32 := 15#32
  let v894 : BitVec 1 := Scalar.cmpi .ne v2 c15_i32_609
  let v895 : BitVec 32 := Scalar.extui v894
  let c0_i32_610 : BitVec 32 := 0#32
  let v896 : BitVec 1 := Scalar.cmpi .ne v895 c0_i32_610
  v896

def k0_off128 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond209 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_611 : BitVec 32 := 0#32
  let v897 : BitVec 1 := Scalar.cmpi .ne v2 c0_i32_611
  let v898 : BitVec 32 := Scalar.extui v897
  let c0_i32_612 : BitVec 32 := 0#32
  let v899 : BitVec 1 := Scalar.cmpi .ne v898 c0_i32_612
  v899

def k0_dev81 : Nat :=
  let c0_i32_1072 : BitVec 32 := 0#32
  let c0_i32_1070 : BitVec 32 := 0#32
  let c1_i32_1071 : BitVec 32 := 1#32
  let v1537 : BitVec 32 := Scalar.muli c0_i32_1070 c1_i32_1071
  let v1538 : BitVec 32 := Scalar.addi c0_i32_1072 v1537
  v1538.toNat
def k0_cond210 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_613 : BitVec 32 := 1#32
  let v900 : BitVec 1 := Scalar.cmpi .ne v2 c1_i32_613
  let v901 : BitVec 32 := Scalar.extui v900
  let c0_i32_614 : BitVec 32 := 0#32
  let v902 : BitVec 1 := Scalar.cmpi .ne v901 c0_i32_614
  v902

def k0_dev82 : Nat :=
  let c0_i32_1072 : BitVec 32 := 0#32
  let c1_i32_1070 : BitVec 32 := 1#32
  let c1_i32_1071 : BitVec 32 := 1#32
  let v1537 : BitVec 32 := Scalar.muli c1_i32_1070 c1_i32_1071
  let v1538 : BitVec 32 := Scalar.addi c0_i32_1072 v1537
  v1538.toNat
def k0_cond211 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_615 : BitVec 32 := 2#32
  let v903 : BitVec 1 := Scalar.cmpi .ne v2 c2_i32_615
  let v904 : BitVec 32 := Scalar.extui v903
  let c0_i32_616 : BitVec 32 := 0#32
  let v905 : BitVec 1 := Scalar.cmpi .ne v904 c0_i32_616
  v905

def k0_dev83 : Nat :=
  let c0_i32_1072 : BitVec 32 := 0#32
  let c2_i32_1070 : BitVec 32 := 2#32
  let c1_i32_1071 : BitVec 32 := 1#32
  let v1537 : BitVec 32 := Scalar.muli c2_i32_1070 c1_i32_1071
  let v1538 : BitVec 32 := Scalar.addi c0_i32_1072 v1537
  v1538.toNat
def k0_cond212 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_617 : BitVec 32 := 3#32
  let v906 : BitVec 1 := Scalar.cmpi .ne v2 c3_i32_617
  let v907 : BitVec 32 := Scalar.extui v906
  let c0_i32_618 : BitVec 32 := 0#32
  let v908 : BitVec 1 := Scalar.cmpi .ne v907 c0_i32_618
  v908

def k0_dev84 : Nat :=
  let c0_i32_1072 : BitVec 32 := 0#32
  let c3_i32_1070 : BitVec 32 := 3#32
  let c1_i32_1071 : BitVec 32 := 1#32
  let v1537 : BitVec 32 := Scalar.muli c3_i32_1070 c1_i32_1071
  let v1538 : BitVec 32 := Scalar.addi c0_i32_1072 v1537
  v1538.toNat
def k0_cond213 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_619 : BitVec 32 := 4#32
  let v909 : BitVec 1 := Scalar.cmpi .ne v2 c4_i32_619
  let v910 : BitVec 32 := Scalar.extui v909
  let c0_i32_620 : BitVec 32 := 0#32
  let v911 : BitVec 1 := Scalar.cmpi .ne v910 c0_i32_620
  v911

def k0_dev85 : Nat :=
  let c0_i32_1072 : BitVec 32 := 0#32
  let c4_i32_1070 : BitVec 32 := 4#32
  let c1_i32_1071 : BitVec 32 := 1#32
  let v1537 : BitVec 32 := Scalar.muli c4_i32_1070 c1_i32_1071
  let v1538 : BitVec 32 := Scalar.addi c0_i32_1072 v1537
  v1538.toNat
def k0_cond214 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_621 : BitVec 32 := 5#32
  let v912 : BitVec 1 := Scalar.cmpi .ne v2 c5_i32_621
  let v913 : BitVec 32 := Scalar.extui v912
  let c0_i32_622 : BitVec 32 := 0#32
  let v914 : BitVec 1 := Scalar.cmpi .ne v913 c0_i32_622
  v914

def k0_dev86 : Nat :=
  let c0_i32_1072 : BitVec 32 := 0#32
  let c5_i32_1070 : BitVec 32 := 5#32
  let c1_i32_1071 : BitVec 32 := 1#32
  let v1537 : BitVec 32 := Scalar.muli c5_i32_1070 c1_i32_1071
  let v1538 : BitVec 32 := Scalar.addi c0_i32_1072 v1537
  v1538.toNat
def k0_cond215 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_623 : BitVec 32 := 6#32
  let v915 : BitVec 1 := Scalar.cmpi .ne v2 c6_i32_623
  let v916 : BitVec 32 := Scalar.extui v915
  let c0_i32_624 : BitVec 32 := 0#32
  let v917 : BitVec 1 := Scalar.cmpi .ne v916 c0_i32_624
  v917

def k0_dev87 : Nat :=
  let c0_i32_1072 : BitVec 32 := 0#32
  let c6_i32_1070 : BitVec 32 := 6#32
  let c1_i32_1071 : BitVec 32 := 1#32
  let v1537 : BitVec 32 := Scalar.muli c6_i32_1070 c1_i32_1071
  let v1538 : BitVec 32 := Scalar.addi c0_i32_1072 v1537
  v1538.toNat
def k0_cond216 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_625 : BitVec 32 := 7#32
  let v918 : BitVec 1 := Scalar.cmpi .ne v2 c7_i32_625
  let v919 : BitVec 32 := Scalar.extui v918
  let c0_i32_626 : BitVec 32 := 0#32
  let v920 : BitVec 1 := Scalar.cmpi .ne v919 c0_i32_626
  v920

def k0_dev88 : Nat :=
  let c0_i32_1072 : BitVec 32 := 0#32
  let c7_i32_1070 : BitVec 32 := 7#32
  let c1_i32_1071 : BitVec 32 := 1#32
  let v1537 : BitVec 32 := Scalar.muli c7_i32_1070 c1_i32_1071
  let v1538 : BitVec 32 := Scalar.addi c0_i32_1072 v1537
  v1538.toNat
def k0_cond217 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_627 : BitVec 32 := 8#32
  let v921 : BitVec 1 := Scalar.cmpi .ne v2 c8_i32_627
  let v922 : BitVec 32 := Scalar.extui v921
  let c0_i32_628 : BitVec 32 := 0#32
  let v923 : BitVec 1 := Scalar.cmpi .ne v922 c0_i32_628
  v923

def k0_dev89 : Nat :=
  let c0_i32_1072 : BitVec 32 := 0#32
  let c8_i32_1070 : BitVec 32 := 8#32
  let c1_i32_1071 : BitVec 32 := 1#32
  let v1537 : BitVec 32 := Scalar.muli c8_i32_1070 c1_i32_1071
  let v1538 : BitVec 32 := Scalar.addi c0_i32_1072 v1537
  v1538.toNat
def k0_cond218 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_629 : BitVec 32 := 9#32
  let v924 : BitVec 1 := Scalar.cmpi .ne v2 c9_i32_629
  let v925 : BitVec 32 := Scalar.extui v924
  let c0_i32_630 : BitVec 32 := 0#32
  let v926 : BitVec 1 := Scalar.cmpi .ne v925 c0_i32_630
  v926

def k0_dev90 : Nat :=
  let c0_i32_1072 : BitVec 32 := 0#32
  let c9_i32_1070 : BitVec 32 := 9#32
  let c1_i32_1071 : BitVec 32 := 1#32
  let v1537 : BitVec 32 := Scalar.muli c9_i32_1070 c1_i32_1071
  let v1538 : BitVec 32 := Scalar.addi c0_i32_1072 v1537
  v1538.toNat
def k0_cond219 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_631 : BitVec 32 := 10#32
  let v927 : BitVec 1 := Scalar.cmpi .ne v2 c10_i32_631
  let v928 : BitVec 32 := Scalar.extui v927
  let c0_i32_632 : BitVec 32 := 0#32
  let v929 : BitVec 1 := Scalar.cmpi .ne v928 c0_i32_632
  v929

def k0_dev91 : Nat :=
  let c0_i32_1072 : BitVec 32 := 0#32
  let c10_i32_1070 : BitVec 32 := 10#32
  let c1_i32_1071 : BitVec 32 := 1#32
  let v1537 : BitVec 32 := Scalar.muli c10_i32_1070 c1_i32_1071
  let v1538 : BitVec 32 := Scalar.addi c0_i32_1072 v1537
  v1538.toNat
def k0_cond220 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_633 : BitVec 32 := 11#32
  let v930 : BitVec 1 := Scalar.cmpi .ne v2 c11_i32_633
  let v931 : BitVec 32 := Scalar.extui v930
  let c0_i32_634 : BitVec 32 := 0#32
  let v932 : BitVec 1 := Scalar.cmpi .ne v931 c0_i32_634
  v932

def k0_dev92 : Nat :=
  let c0_i32_1072 : BitVec 32 := 0#32
  let c11_i32_1070 : BitVec 32 := 11#32
  let c1_i32_1071 : BitVec 32 := 1#32
  let v1537 : BitVec 32 := Scalar.muli c11_i32_1070 c1_i32_1071
  let v1538 : BitVec 32 := Scalar.addi c0_i32_1072 v1537
  v1538.toNat
def k0_cond221 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_635 : BitVec 32 := 12#32
  let v933 : BitVec 1 := Scalar.cmpi .ne v2 c12_i32_635
  let v934 : BitVec 32 := Scalar.extui v933
  let c0_i32_636 : BitVec 32 := 0#32
  let v935 : BitVec 1 := Scalar.cmpi .ne v934 c0_i32_636
  v935

def k0_dev93 : Nat :=
  let c0_i32_1072 : BitVec 32 := 0#32
  let c12_i32_1070 : BitVec 32 := 12#32
  let c1_i32_1071 : BitVec 32 := 1#32
  let v1537 : BitVec 32 := Scalar.muli c12_i32_1070 c1_i32_1071
  let v1538 : BitVec 32 := Scalar.addi c0_i32_1072 v1537
  v1538.toNat
def k0_cond222 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_637 : BitVec 32 := 13#32
  let v936 : BitVec 1 := Scalar.cmpi .ne v2 c13_i32_637
  let v937 : BitVec 32 := Scalar.extui v936
  let c0_i32_638 : BitVec 32 := 0#32
  let v938 : BitVec 1 := Scalar.cmpi .ne v937 c0_i32_638
  v938

def k0_dev94 : Nat :=
  let c0_i32_1072 : BitVec 32 := 0#32
  let c13_i32_1070 : BitVec 32 := 13#32
  let c1_i32_1071 : BitVec 32 := 1#32
  let v1537 : BitVec 32 := Scalar.muli c13_i32_1070 c1_i32_1071
  let v1538 : BitVec 32 := Scalar.addi c0_i32_1072 v1537
  v1538.toNat
def k0_cond223 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_639 : BitVec 32 := 14#32
  let v939 : BitVec 1 := Scalar.cmpi .ne v2 c14_i32_639
  let v940 : BitVec 32 := Scalar.extui v939
  let c0_i32_640 : BitVec 32 := 0#32
  let v941 : BitVec 1 := Scalar.cmpi .ne v940 c0_i32_640
  v941

def k0_dev95 : Nat :=
  let c0_i32_1072 : BitVec 32 := 0#32
  let c14_i32_1070 : BitVec 32 := 14#32
  let c1_i32_1071 : BitVec 32 := 1#32
  let v1537 : BitVec 32 := Scalar.muli c14_i32_1070 c1_i32_1071
  let v1538 : BitVec 32 := Scalar.addi c0_i32_1072 v1537
  v1538.toNat
def k0_cond224 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_641 : BitVec 32 := 15#32
  let v942 : BitVec 1 := Scalar.cmpi .ne v2 c15_i32_641
  let v943 : BitVec 32 := Scalar.extui v942
  let c0_i32_642 : BitVec 32 := 0#32
  let v944 : BitVec 1 := Scalar.cmpi .ne v943 c0_i32_642
  v944

def k0_dev96 : Nat :=
  let c0_i32_1072 : BitVec 32 := 0#32
  let c15_i32_1070 : BitVec 32 := 15#32
  let c1_i32_1071 : BitVec 32 := 1#32
  let v1537 : BitVec 32 := Scalar.muli c15_i32_1070 c1_i32_1071
  let v1538 : BitVec 32 := Scalar.addi c0_i32_1072 v1537
  v1538.toNat
def k0_cond225 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_645 : BitVec 32 := 0#32
  let v945 : BitVec 1 := Scalar.cmpi .ne v2 c0_i32_645
  let v946 : BitVec 32 := Scalar.extui v945
  let c0_i32_646 : BitVec 32 := 0#32
  let v947 : BitVec 1 := Scalar.cmpi .ne v946 c0_i32_646
  v947

def k0_off129 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond226 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_647 : BitVec 32 := 1#32
  let v948 : BitVec 1 := Scalar.cmpi .ne v2 c1_i32_647
  let v949 : BitVec 32 := Scalar.extui v948
  let c0_i32_648 : BitVec 32 := 0#32
  let v950 : BitVec 1 := Scalar.cmpi .ne v949 c0_i32_648
  v950

def k0_off130 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond227 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_649 : BitVec 32 := 2#32
  let v951 : BitVec 1 := Scalar.cmpi .ne v2 c2_i32_649
  let v952 : BitVec 32 := Scalar.extui v951
  let c0_i32_650 : BitVec 32 := 0#32
  let v953 : BitVec 1 := Scalar.cmpi .ne v952 c0_i32_650
  v953

def k0_off131 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond228 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_651 : BitVec 32 := 3#32
  let v954 : BitVec 1 := Scalar.cmpi .ne v2 c3_i32_651
  let v955 : BitVec 32 := Scalar.extui v954
  let c0_i32_652 : BitVec 32 := 0#32
  let v956 : BitVec 1 := Scalar.cmpi .ne v955 c0_i32_652
  v956

def k0_off132 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond229 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_653 : BitVec 32 := 4#32
  let v957 : BitVec 1 := Scalar.cmpi .ne v2 c4_i32_653
  let v958 : BitVec 32 := Scalar.extui v957
  let c0_i32_654 : BitVec 32 := 0#32
  let v959 : BitVec 1 := Scalar.cmpi .ne v958 c0_i32_654
  v959

def k0_off133 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond230 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_655 : BitVec 32 := 5#32
  let v960 : BitVec 1 := Scalar.cmpi .ne v2 c5_i32_655
  let v961 : BitVec 32 := Scalar.extui v960
  let c0_i32_656 : BitVec 32 := 0#32
  let v962 : BitVec 1 := Scalar.cmpi .ne v961 c0_i32_656
  v962

def k0_off134 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond231 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_657 : BitVec 32 := 6#32
  let v963 : BitVec 1 := Scalar.cmpi .ne v2 c6_i32_657
  let v964 : BitVec 32 := Scalar.extui v963
  let c0_i32_658 : BitVec 32 := 0#32
  let v965 : BitVec 1 := Scalar.cmpi .ne v964 c0_i32_658
  v965

def k0_off135 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond232 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_659 : BitVec 32 := 7#32
  let v966 : BitVec 1 := Scalar.cmpi .ne v2 c7_i32_659
  let v967 : BitVec 32 := Scalar.extui v966
  let c0_i32_660 : BitVec 32 := 0#32
  let v968 : BitVec 1 := Scalar.cmpi .ne v967 c0_i32_660
  v968

def k0_off136 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond233 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_661 : BitVec 32 := 8#32
  let v969 : BitVec 1 := Scalar.cmpi .ne v2 c8_i32_661
  let v970 : BitVec 32 := Scalar.extui v969
  let c0_i32_662 : BitVec 32 := 0#32
  let v971 : BitVec 1 := Scalar.cmpi .ne v970 c0_i32_662
  v971

def k0_off137 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond234 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_663 : BitVec 32 := 9#32
  let v972 : BitVec 1 := Scalar.cmpi .ne v2 c9_i32_663
  let v973 : BitVec 32 := Scalar.extui v972
  let c0_i32_664 : BitVec 32 := 0#32
  let v974 : BitVec 1 := Scalar.cmpi .ne v973 c0_i32_664
  v974

def k0_off138 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond235 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_665 : BitVec 32 := 10#32
  let v975 : BitVec 1 := Scalar.cmpi .ne v2 c10_i32_665
  let v976 : BitVec 32 := Scalar.extui v975
  let c0_i32_666 : BitVec 32 := 0#32
  let v977 : BitVec 1 := Scalar.cmpi .ne v976 c0_i32_666
  v977

def k0_off139 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond236 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_667 : BitVec 32 := 11#32
  let v978 : BitVec 1 := Scalar.cmpi .ne v2 c11_i32_667
  let v979 : BitVec 32 := Scalar.extui v978
  let c0_i32_668 : BitVec 32 := 0#32
  let v980 : BitVec 1 := Scalar.cmpi .ne v979 c0_i32_668
  v980

def k0_off140 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond237 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_669 : BitVec 32 := 12#32
  let v981 : BitVec 1 := Scalar.cmpi .ne v2 c12_i32_669
  let v982 : BitVec 32 := Scalar.extui v981
  let c0_i32_670 : BitVec 32 := 0#32
  let v983 : BitVec 1 := Scalar.cmpi .ne v982 c0_i32_670
  v983

def k0_off141 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond238 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_671 : BitVec 32 := 13#32
  let v984 : BitVec 1 := Scalar.cmpi .ne v2 c13_i32_671
  let v985 : BitVec 32 := Scalar.extui v984
  let c0_i32_672 : BitVec 32 := 0#32
  let v986 : BitVec 1 := Scalar.cmpi .ne v985 c0_i32_672
  v986

def k0_off142 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond239 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_673 : BitVec 32 := 14#32
  let v987 : BitVec 1 := Scalar.cmpi .ne v2 c14_i32_673
  let v988 : BitVec 32 := Scalar.extui v987
  let c0_i32_674 : BitVec 32 := 0#32
  let v989 : BitVec 1 := Scalar.cmpi .ne v988 c0_i32_674
  v989

def k0_off143 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond240 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_675 : BitVec 32 := 15#32
  let v990 : BitVec 1 := Scalar.cmpi .ne v2 c15_i32_675
  let v991 : BitVec 32 := Scalar.extui v990
  let c0_i32_676 : BitVec 32 := 0#32
  let v992 : BitVec 1 := Scalar.cmpi .ne v991 c0_i32_676
  v992

def k0_off144 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond241 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_679 : BitVec 32 := 0#32
  let v997 : BitVec 1 := Scalar.cmpi .ne v2 c0_i32_679
  let v998 : BitVec 32 := Scalar.extui v997
  let c0_i32_680 : BitVec 32 := 0#32
  let v999 : BitVec 1 := Scalar.cmpi .ne v998 c0_i32_680
  v999

def k0_off145 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off146 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev97 : Nat :=
  let c0_i32_1072 : BitVec 32 := 0#32
  let c0_i32_1070 : BitVec 32 := 0#32
  let c1_i32_1071 : BitVec 32 := 1#32
  let v1537 : BitVec 32 := Scalar.muli c0_i32_1070 c1_i32_1071
  let v1538 : BitVec 32 := Scalar.addi c0_i32_1072 v1537
  v1538.toNat
def k0_cond243 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_683 : BitVec 32 := 1#32
  let v1003 : BitVec 1 := Scalar.cmpi .ne v2 c1_i32_683
  let v1004 : BitVec 32 := Scalar.extui v1003
  let c0_i32_684 : BitVec 32 := 0#32
  let v1005 : BitVec 1 := Scalar.cmpi .ne v1004 c0_i32_684
  v1005

def k0_off147 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off148 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev98 : Nat :=
  let c0_i32_1072 : BitVec 32 := 0#32
  let c1_i32_1070 : BitVec 32 := 1#32
  let c1_i32_1071 : BitVec 32 := 1#32
  let v1537 : BitVec 32 := Scalar.muli c1_i32_1070 c1_i32_1071
  let v1538 : BitVec 32 := Scalar.addi c0_i32_1072 v1537
  v1538.toNat
def k0_cond245 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_687 : BitVec 32 := 2#32
  let v1009 : BitVec 1 := Scalar.cmpi .ne v2 c2_i32_687
  let v1010 : BitVec 32 := Scalar.extui v1009
  let c0_i32_688 : BitVec 32 := 0#32
  let v1011 : BitVec 1 := Scalar.cmpi .ne v1010 c0_i32_688
  v1011

def k0_off149 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off150 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev99 : Nat :=
  let c0_i32_1072 : BitVec 32 := 0#32
  let c2_i32_1070 : BitVec 32 := 2#32
  let c1_i32_1071 : BitVec 32 := 1#32
  let v1537 : BitVec 32 := Scalar.muli c2_i32_1070 c1_i32_1071
  let v1538 : BitVec 32 := Scalar.addi c0_i32_1072 v1537
  v1538.toNat
def k0_cond247 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_691 : BitVec 32 := 3#32
  let v1015 : BitVec 1 := Scalar.cmpi .ne v2 c3_i32_691
  let v1016 : BitVec 32 := Scalar.extui v1015
  let c0_i32_692 : BitVec 32 := 0#32
  let v1017 : BitVec 1 := Scalar.cmpi .ne v1016 c0_i32_692
  v1017

def k0_off151 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off152 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev100 : Nat :=
  let c0_i32_1072 : BitVec 32 := 0#32
  let c3_i32_1070 : BitVec 32 := 3#32
  let c1_i32_1071 : BitVec 32 := 1#32
  let v1537 : BitVec 32 := Scalar.muli c3_i32_1070 c1_i32_1071
  let v1538 : BitVec 32 := Scalar.addi c0_i32_1072 v1537
  v1538.toNat
def k0_cond249 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_695 : BitVec 32 := 4#32
  let v1021 : BitVec 1 := Scalar.cmpi .ne v2 c4_i32_695
  let v1022 : BitVec 32 := Scalar.extui v1021
  let c0_i32_696 : BitVec 32 := 0#32
  let v1023 : BitVec 1 := Scalar.cmpi .ne v1022 c0_i32_696
  v1023

def k0_off153 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off154 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev101 : Nat :=
  let c0_i32_1072 : BitVec 32 := 0#32
  let c4_i32_1070 : BitVec 32 := 4#32
  let c1_i32_1071 : BitVec 32 := 1#32
  let v1537 : BitVec 32 := Scalar.muli c4_i32_1070 c1_i32_1071
  let v1538 : BitVec 32 := Scalar.addi c0_i32_1072 v1537
  v1538.toNat
def k0_cond251 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_699 : BitVec 32 := 5#32
  let v1027 : BitVec 1 := Scalar.cmpi .ne v2 c5_i32_699
  let v1028 : BitVec 32 := Scalar.extui v1027
  let c0_i32_700 : BitVec 32 := 0#32
  let v1029 : BitVec 1 := Scalar.cmpi .ne v1028 c0_i32_700
  v1029

def k0_off155 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off156 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev102 : Nat :=
  let c0_i32_1072 : BitVec 32 := 0#32
  let c5_i32_1070 : BitVec 32 := 5#32
  let c1_i32_1071 : BitVec 32 := 1#32
  let v1537 : BitVec 32 := Scalar.muli c5_i32_1070 c1_i32_1071
  let v1538 : BitVec 32 := Scalar.addi c0_i32_1072 v1537
  v1538.toNat
def k0_cond253 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_703 : BitVec 32 := 6#32
  let v1033 : BitVec 1 := Scalar.cmpi .ne v2 c6_i32_703
  let v1034 : BitVec 32 := Scalar.extui v1033
  let c0_i32_704 : BitVec 32 := 0#32
  let v1035 : BitVec 1 := Scalar.cmpi .ne v1034 c0_i32_704
  v1035

def k0_off157 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off158 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev103 : Nat :=
  let c0_i32_1072 : BitVec 32 := 0#32
  let c6_i32_1070 : BitVec 32 := 6#32
  let c1_i32_1071 : BitVec 32 := 1#32
  let v1537 : BitVec 32 := Scalar.muli c6_i32_1070 c1_i32_1071
  let v1538 : BitVec 32 := Scalar.addi c0_i32_1072 v1537
  v1538.toNat
def k0_cond255 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_707 : BitVec 32 := 7#32
  let v1039 : BitVec 1 := Scalar.cmpi .ne v2 c7_i32_707
  let v1040 : BitVec 32 := Scalar.extui v1039
  let c0_i32_708 : BitVec 32 := 0#32
  let v1041 : BitVec 1 := Scalar.cmpi .ne v1040 c0_i32_708
  v1041

def k0_off159 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off160 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev104 : Nat :=
  let c0_i32_1072 : BitVec 32 := 0#32
  let c7_i32_1070 : BitVec 32 := 7#32
  let c1_i32_1071 : BitVec 32 := 1#32
  let v1537 : BitVec 32 := Scalar.muli c7_i32_1070 c1_i32_1071
  let v1538 : BitVec 32 := Scalar.addi c0_i32_1072 v1537
  v1538.toNat
def k0_cond257 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_711 : BitVec 32 := 8#32
  let v1045 : BitVec 1 := Scalar.cmpi .ne v2 c8_i32_711
  let v1046 : BitVec 32 := Scalar.extui v1045
  let c0_i32_712 : BitVec 32 := 0#32
  let v1047 : BitVec 1 := Scalar.cmpi .ne v1046 c0_i32_712
  v1047

def k0_off161 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off162 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev105 : Nat :=
  let c0_i32_1072 : BitVec 32 := 0#32
  let c8_i32_1070 : BitVec 32 := 8#32
  let c1_i32_1071 : BitVec 32 := 1#32
  let v1537 : BitVec 32 := Scalar.muli c8_i32_1070 c1_i32_1071
  let v1538 : BitVec 32 := Scalar.addi c0_i32_1072 v1537
  v1538.toNat
def k0_cond259 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_715 : BitVec 32 := 9#32
  let v1051 : BitVec 1 := Scalar.cmpi .ne v2 c9_i32_715
  let v1052 : BitVec 32 := Scalar.extui v1051
  let c0_i32_716 : BitVec 32 := 0#32
  let v1053 : BitVec 1 := Scalar.cmpi .ne v1052 c0_i32_716
  v1053

def k0_off163 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off164 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev106 : Nat :=
  let c0_i32_1072 : BitVec 32 := 0#32
  let c9_i32_1070 : BitVec 32 := 9#32
  let c1_i32_1071 : BitVec 32 := 1#32
  let v1537 : BitVec 32 := Scalar.muli c9_i32_1070 c1_i32_1071
  let v1538 : BitVec 32 := Scalar.addi c0_i32_1072 v1537
  v1538.toNat
def k0_cond261 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_719 : BitVec 32 := 10#32
  let v1057 : BitVec 1 := Scalar.cmpi .ne v2 c10_i32_719
  let v1058 : BitVec 32 := Scalar.extui v1057
  let c0_i32_720 : BitVec 32 := 0#32
  let v1059 : BitVec 1 := Scalar.cmpi .ne v1058 c0_i32_720
  v1059

def k0_off165 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off166 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev107 : Nat :=
  let c0_i32_1072 : BitVec 32 := 0#32
  let c10_i32_1070 : BitVec 32 := 10#32
  let c1_i32_1071 : BitVec 32 := 1#32
  let v1537 : BitVec 32 := Scalar.muli c10_i32_1070 c1_i32_1071
  let v1538 : BitVec 32 := Scalar.addi c0_i32_1072 v1537
  v1538.toNat
def k0_cond263 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_723 : BitVec 32 := 11#32
  let v1063 : BitVec 1 := Scalar.cmpi .ne v2 c11_i32_723
  let v1064 : BitVec 32 := Scalar.extui v1063
  let c0_i32_724 : BitVec 32 := 0#32
  let v1065 : BitVec 1 := Scalar.cmpi .ne v1064 c0_i32_724
  v1065

def k0_off167 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off168 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev108 : Nat :=
  let c0_i32_1072 : BitVec 32 := 0#32
  let c11_i32_1070 : BitVec 32 := 11#32
  let c1_i32_1071 : BitVec 32 := 1#32
  let v1537 : BitVec 32 := Scalar.muli c11_i32_1070 c1_i32_1071
  let v1538 : BitVec 32 := Scalar.addi c0_i32_1072 v1537
  v1538.toNat
def k0_cond265 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_727 : BitVec 32 := 12#32
  let v1069 : BitVec 1 := Scalar.cmpi .ne v2 c12_i32_727
  let v1070 : BitVec 32 := Scalar.extui v1069
  let c0_i32_728 : BitVec 32 := 0#32
  let v1071 : BitVec 1 := Scalar.cmpi .ne v1070 c0_i32_728
  v1071

def k0_off169 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off170 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev109 : Nat :=
  let c0_i32_1072 : BitVec 32 := 0#32
  let c12_i32_1070 : BitVec 32 := 12#32
  let c1_i32_1071 : BitVec 32 := 1#32
  let v1537 : BitVec 32 := Scalar.muli c12_i32_1070 c1_i32_1071
  let v1538 : BitVec 32 := Scalar.addi c0_i32_1072 v1537
  v1538.toNat
def k0_cond267 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_731 : BitVec 32 := 13#32
  let v1075 : BitVec 1 := Scalar.cmpi .ne v2 c13_i32_731
  let v1076 : BitVec 32 := Scalar.extui v1075
  let c0_i32_732 : BitVec 32 := 0#32
  let v1077 : BitVec 1 := Scalar.cmpi .ne v1076 c0_i32_732
  v1077

def k0_off171 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off172 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev110 : Nat :=
  let c0_i32_1072 : BitVec 32 := 0#32
  let c13_i32_1070 : BitVec 32 := 13#32
  let c1_i32_1071 : BitVec 32 := 1#32
  let v1537 : BitVec 32 := Scalar.muli c13_i32_1070 c1_i32_1071
  let v1538 : BitVec 32 := Scalar.addi c0_i32_1072 v1537
  v1538.toNat
def k0_cond269 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_735 : BitVec 32 := 14#32
  let v1081 : BitVec 1 := Scalar.cmpi .ne v2 c14_i32_735
  let v1082 : BitVec 32 := Scalar.extui v1081
  let c0_i32_736 : BitVec 32 := 0#32
  let v1083 : BitVec 1 := Scalar.cmpi .ne v1082 c0_i32_736
  v1083

def k0_off173 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off174 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev111 : Nat :=
  let c0_i32_1072 : BitVec 32 := 0#32
  let c14_i32_1070 : BitVec 32 := 14#32
  let c1_i32_1071 : BitVec 32 := 1#32
  let v1537 : BitVec 32 := Scalar.muli c14_i32_1070 c1_i32_1071
  let v1538 : BitVec 32 := Scalar.addi c0_i32_1072 v1537
  v1538.toNat
def k0_cond271 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_739 : BitVec 32 := 15#32
  let v1087 : BitVec 1 := Scalar.cmpi .ne v2 c15_i32_739
  let v1088 : BitVec 32 := Scalar.extui v1087
  let c0_i32_740 : BitVec 32 := 0#32
  let v1089 : BitVec 1 := Scalar.cmpi .ne v1088 c0_i32_740
  v1089

def k0_off175 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off176 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev112 : Nat :=
  let c0_i32_1072 : BitVec 32 := 0#32
  let c15_i32_1070 : BitVec 32 := 15#32
  let c1_i32_1071 : BitVec 32 := 1#32
  let v1537 : BitVec 32 := Scalar.muli c15_i32_1070 c1_i32_1071
  let v1538 : BitVec 32 := Scalar.addi c0_i32_1072 v1537
  v1538.toNat
def k0_cond277 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_782 : BitVec 32 := 0#32
  let v1137 : BitVec 1 := Scalar.cmpi .ne v2 c0_i32_782
  let v1138 : BitVec 32 := Scalar.extui v1137
  let c0_i32_783 : BitVec 32 := 0#32
  let v1139 : BitVec 1 := Scalar.cmpi .ne v1138 c0_i32_783
  v1139

def k0_off177 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off178 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev113 : Nat :=
  let c0_i32_1072 : BitVec 32 := 0#32
  let c0_i32_1070 : BitVec 32 := 0#32
  let c1_i32_1071 : BitVec 32 := 1#32
  let v1537 : BitVec 32 := Scalar.muli c0_i32_1070 c1_i32_1071
  let v1538 : BitVec 32 := Scalar.addi c0_i32_1072 v1537
  v1538.toNat
def k0_cond279 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_786 : BitVec 32 := 1#32
  let v1143 : BitVec 1 := Scalar.cmpi .ne v2 c1_i32_786
  let v1144 : BitVec 32 := Scalar.extui v1143
  let c0_i32_787 : BitVec 32 := 0#32
  let v1145 : BitVec 1 := Scalar.cmpi .ne v1144 c0_i32_787
  v1145

def k0_off179 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off180 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev114 : Nat :=
  let c0_i32_1072 : BitVec 32 := 0#32
  let c1_i32_1070 : BitVec 32 := 1#32
  let c1_i32_1071 : BitVec 32 := 1#32
  let v1537 : BitVec 32 := Scalar.muli c1_i32_1070 c1_i32_1071
  let v1538 : BitVec 32 := Scalar.addi c0_i32_1072 v1537
  v1538.toNat
def k0_cond281 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_790 : BitVec 32 := 2#32
  let v1149 : BitVec 1 := Scalar.cmpi .ne v2 c2_i32_790
  let v1150 : BitVec 32 := Scalar.extui v1149
  let c0_i32_791 : BitVec 32 := 0#32
  let v1151 : BitVec 1 := Scalar.cmpi .ne v1150 c0_i32_791
  v1151

def k0_off181 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off182 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev115 : Nat :=
  let c0_i32_1072 : BitVec 32 := 0#32
  let c2_i32_1070 : BitVec 32 := 2#32
  let c1_i32_1071 : BitVec 32 := 1#32
  let v1537 : BitVec 32 := Scalar.muli c2_i32_1070 c1_i32_1071
  let v1538 : BitVec 32 := Scalar.addi c0_i32_1072 v1537
  v1538.toNat
def k0_cond283 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_794 : BitVec 32 := 3#32
  let v1155 : BitVec 1 := Scalar.cmpi .ne v2 c3_i32_794
  let v1156 : BitVec 32 := Scalar.extui v1155
  let c0_i32_795 : BitVec 32 := 0#32
  let v1157 : BitVec 1 := Scalar.cmpi .ne v1156 c0_i32_795
  v1157

def k0_off183 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off184 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev116 : Nat :=
  let c0_i32_1072 : BitVec 32 := 0#32
  let c3_i32_1070 : BitVec 32 := 3#32
  let c1_i32_1071 : BitVec 32 := 1#32
  let v1537 : BitVec 32 := Scalar.muli c3_i32_1070 c1_i32_1071
  let v1538 : BitVec 32 := Scalar.addi c0_i32_1072 v1537
  v1538.toNat
def k0_cond289 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_823 : BitVec 32 := 4#32
  let v1191 : BitVec 1 := Scalar.cmpi .ne v2 c4_i32_823
  let v1192 : BitVec 32 := Scalar.extui v1191
  let c0_i32_824 : BitVec 32 := 0#32
  let v1193 : BitVec 1 := Scalar.cmpi .ne v1192 c0_i32_824
  v1193

def k0_off185 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off186 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev117 : Nat :=
  let c0_i32_1072 : BitVec 32 := 0#32
  let c4_i32_1070 : BitVec 32 := 4#32
  let c1_i32_1071 : BitVec 32 := 1#32
  let v1537 : BitVec 32 := Scalar.muli c4_i32_1070 c1_i32_1071
  let v1538 : BitVec 32 := Scalar.addi c0_i32_1072 v1537
  v1538.toNat
def k0_cond291 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_827 : BitVec 32 := 5#32
  let v1197 : BitVec 1 := Scalar.cmpi .ne v2 c5_i32_827
  let v1198 : BitVec 32 := Scalar.extui v1197
  let c0_i32_828 : BitVec 32 := 0#32
  let v1199 : BitVec 1 := Scalar.cmpi .ne v1198 c0_i32_828
  v1199

def k0_off187 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off188 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev118 : Nat :=
  let c0_i32_1072 : BitVec 32 := 0#32
  let c5_i32_1070 : BitVec 32 := 5#32
  let c1_i32_1071 : BitVec 32 := 1#32
  let v1537 : BitVec 32 := Scalar.muli c5_i32_1070 c1_i32_1071
  let v1538 : BitVec 32 := Scalar.addi c0_i32_1072 v1537
  v1538.toNat
def k0_cond293 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_831 : BitVec 32 := 6#32
  let v1203 : BitVec 1 := Scalar.cmpi .ne v2 c6_i32_831
  let v1204 : BitVec 32 := Scalar.extui v1203
  let c0_i32_832 : BitVec 32 := 0#32
  let v1205 : BitVec 1 := Scalar.cmpi .ne v1204 c0_i32_832
  v1205

def k0_off189 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off190 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev119 : Nat :=
  let c0_i32_1072 : BitVec 32 := 0#32
  let c6_i32_1070 : BitVec 32 := 6#32
  let c1_i32_1071 : BitVec 32 := 1#32
  let v1537 : BitVec 32 := Scalar.muli c6_i32_1070 c1_i32_1071
  let v1538 : BitVec 32 := Scalar.addi c0_i32_1072 v1537
  v1538.toNat
def k0_cond295 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_835 : BitVec 32 := 7#32
  let v1209 : BitVec 1 := Scalar.cmpi .ne v2 c7_i32_835
  let v1210 : BitVec 32 := Scalar.extui v1209
  let c0_i32_836 : BitVec 32 := 0#32
  let v1211 : BitVec 1 := Scalar.cmpi .ne v1210 c0_i32_836
  v1211

def k0_off191 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off192 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev120 : Nat :=
  let c0_i32_1072 : BitVec 32 := 0#32
  let c7_i32_1070 : BitVec 32 := 7#32
  let c1_i32_1071 : BitVec 32 := 1#32
  let v1537 : BitVec 32 := Scalar.muli c7_i32_1070 c1_i32_1071
  let v1538 : BitVec 32 := Scalar.addi c0_i32_1072 v1537
  v1538.toNat
def k0_cond301 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_864 : BitVec 32 := 8#32
  let v1245 : BitVec 1 := Scalar.cmpi .ne v2 c8_i32_864
  let v1246 : BitVec 32 := Scalar.extui v1245
  let c0_i32_865 : BitVec 32 := 0#32
  let v1247 : BitVec 1 := Scalar.cmpi .ne v1246 c0_i32_865
  v1247

def k0_off193 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off194 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev121 : Nat :=
  let c0_i32_1072 : BitVec 32 := 0#32
  let c8_i32_1070 : BitVec 32 := 8#32
  let c1_i32_1071 : BitVec 32 := 1#32
  let v1537 : BitVec 32 := Scalar.muli c8_i32_1070 c1_i32_1071
  let v1538 : BitVec 32 := Scalar.addi c0_i32_1072 v1537
  v1538.toNat
def k0_cond303 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_868 : BitVec 32 := 9#32
  let v1251 : BitVec 1 := Scalar.cmpi .ne v2 c9_i32_868
  let v1252 : BitVec 32 := Scalar.extui v1251
  let c0_i32_869 : BitVec 32 := 0#32
  let v1253 : BitVec 1 := Scalar.cmpi .ne v1252 c0_i32_869
  v1253

def k0_off195 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off196 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev122 : Nat :=
  let c0_i32_1072 : BitVec 32 := 0#32
  let c9_i32_1070 : BitVec 32 := 9#32
  let c1_i32_1071 : BitVec 32 := 1#32
  let v1537 : BitVec 32 := Scalar.muli c9_i32_1070 c1_i32_1071
  let v1538 : BitVec 32 := Scalar.addi c0_i32_1072 v1537
  v1538.toNat
def k0_cond305 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_872 : BitVec 32 := 10#32
  let v1257 : BitVec 1 := Scalar.cmpi .ne v2 c10_i32_872
  let v1258 : BitVec 32 := Scalar.extui v1257
  let c0_i32_873 : BitVec 32 := 0#32
  let v1259 : BitVec 1 := Scalar.cmpi .ne v1258 c0_i32_873
  v1259

def k0_off197 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off198 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev123 : Nat :=
  let c0_i32_1072 : BitVec 32 := 0#32
  let c10_i32_1070 : BitVec 32 := 10#32
  let c1_i32_1071 : BitVec 32 := 1#32
  let v1537 : BitVec 32 := Scalar.muli c10_i32_1070 c1_i32_1071
  let v1538 : BitVec 32 := Scalar.addi c0_i32_1072 v1537
  v1538.toNat
def k0_cond307 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_876 : BitVec 32 := 11#32
  let v1263 : BitVec 1 := Scalar.cmpi .ne v2 c11_i32_876
  let v1264 : BitVec 32 := Scalar.extui v1263
  let c0_i32_877 : BitVec 32 := 0#32
  let v1265 : BitVec 1 := Scalar.cmpi .ne v1264 c0_i32_877
  v1265

def k0_off199 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off200 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev124 : Nat :=
  let c0_i32_1072 : BitVec 32 := 0#32
  let c11_i32_1070 : BitVec 32 := 11#32
  let c1_i32_1071 : BitVec 32 := 1#32
  let v1537 : BitVec 32 := Scalar.muli c11_i32_1070 c1_i32_1071
  let v1538 : BitVec 32 := Scalar.addi c0_i32_1072 v1537
  v1538.toNat
def k0_cond313 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_905 : BitVec 32 := 12#32
  let v1299 : BitVec 1 := Scalar.cmpi .ne v2 c12_i32_905
  let v1300 : BitVec 32 := Scalar.extui v1299
  let c0_i32_906 : BitVec 32 := 0#32
  let v1301 : BitVec 1 := Scalar.cmpi .ne v1300 c0_i32_906
  v1301

def k0_off201 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off202 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev125 : Nat :=
  let c0_i32_1072 : BitVec 32 := 0#32
  let c12_i32_1070 : BitVec 32 := 12#32
  let c1_i32_1071 : BitVec 32 := 1#32
  let v1537 : BitVec 32 := Scalar.muli c12_i32_1070 c1_i32_1071
  let v1538 : BitVec 32 := Scalar.addi c0_i32_1072 v1537
  v1538.toNat
def k0_cond315 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_909 : BitVec 32 := 13#32
  let v1305 : BitVec 1 := Scalar.cmpi .ne v2 c13_i32_909
  let v1306 : BitVec 32 := Scalar.extui v1305
  let c0_i32_910 : BitVec 32 := 0#32
  let v1307 : BitVec 1 := Scalar.cmpi .ne v1306 c0_i32_910
  v1307

def k0_off203 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off204 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev126 : Nat :=
  let c0_i32_1072 : BitVec 32 := 0#32
  let c13_i32_1070 : BitVec 32 := 13#32
  let c1_i32_1071 : BitVec 32 := 1#32
  let v1537 : BitVec 32 := Scalar.muli c13_i32_1070 c1_i32_1071
  let v1538 : BitVec 32 := Scalar.addi c0_i32_1072 v1537
  v1538.toNat
def k0_cond317 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_913 : BitVec 32 := 14#32
  let v1311 : BitVec 1 := Scalar.cmpi .ne v2 c14_i32_913
  let v1312 : BitVec 32 := Scalar.extui v1311
  let c0_i32_914 : BitVec 32 := 0#32
  let v1313 : BitVec 1 := Scalar.cmpi .ne v1312 c0_i32_914
  v1313

def k0_off205 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off206 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev127 : Nat :=
  let c0_i32_1072 : BitVec 32 := 0#32
  let c14_i32_1070 : BitVec 32 := 14#32
  let c1_i32_1071 : BitVec 32 := 1#32
  let v1537 : BitVec 32 := Scalar.muli c14_i32_1070 c1_i32_1071
  let v1538 : BitVec 32 := Scalar.addi c0_i32_1072 v1537
  v1538.toNat
def k0_cond319 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_917 : BitVec 32 := 15#32
  let v1317 : BitVec 1 := Scalar.cmpi .ne v2 c15_i32_917
  let v1318 : BitVec 32 := Scalar.extui v1317
  let c0_i32_918 : BitVec 32 := 0#32
  let v1319 : BitVec 1 := Scalar.cmpi .ne v1318 c0_i32_918
  v1319

def k0_off207 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off208 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1073 : BitVec 32 := 0#32
  let c0_i32_1074 : BitVec 32 := 0#32
  ![v2.toNat, 0, 0]
def k0_dev128 : Nat :=
  let c0_i32_1072 : BitVec 32 := 0#32
  let c15_i32_1070 : BitVec 32 := 15#32
  let c1_i32_1071 : BitVec 32 := 1#32
  let v1537 : BitVec 32 := Scalar.muli c15_i32_1070 c1_i32_1071
  let v1538 : BitVec 32 := Scalar.addi c0_i32_1072 v1537
  v1538.toNat
def k0_cond337 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1001 : BitVec 32 := 0#32
  let v1434 : BitVec 1 := Scalar.cmpi .ne v2 c0_i32_1001
  let v1435 : BitVec 32 := Scalar.extui v1434
  let c0_i32_1002 : BitVec 32 := 0#32
  let v1436 : BitVec 1 := Scalar.cmpi .ne v1435 c0_i32_1002
  v1436

def k0_off209 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond338 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1003 : BitVec 32 := 1#32
  let v1437 : BitVec 1 := Scalar.cmpi .ne v2 c1_i32_1003
  let v1438 : BitVec 32 := Scalar.extui v1437
  let c0_i32_1004 : BitVec 32 := 0#32
  let v1439 : BitVec 1 := Scalar.cmpi .ne v1438 c0_i32_1004
  v1439

def k0_off210 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond339 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1005 : BitVec 32 := 2#32
  let v1440 : BitVec 1 := Scalar.cmpi .ne v2 c2_i32_1005
  let v1441 : BitVec 32 := Scalar.extui v1440
  let c0_i32_1006 : BitVec 32 := 0#32
  let v1442 : BitVec 1 := Scalar.cmpi .ne v1441 c0_i32_1006
  v1442

def k0_off211 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond340 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1007 : BitVec 32 := 3#32
  let v1443 : BitVec 1 := Scalar.cmpi .ne v2 c3_i32_1007
  let v1444 : BitVec 32 := Scalar.extui v1443
  let c0_i32_1008 : BitVec 32 := 0#32
  let v1445 : BitVec 1 := Scalar.cmpi .ne v1444 c0_i32_1008
  v1445

def k0_off212 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond341 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1009 : BitVec 32 := 4#32
  let v1446 : BitVec 1 := Scalar.cmpi .ne v2 c4_i32_1009
  let v1447 : BitVec 32 := Scalar.extui v1446
  let c0_i32_1010 : BitVec 32 := 0#32
  let v1448 : BitVec 1 := Scalar.cmpi .ne v1447 c0_i32_1010
  v1448

def k0_off213 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond342 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1011 : BitVec 32 := 5#32
  let v1449 : BitVec 1 := Scalar.cmpi .ne v2 c5_i32_1011
  let v1450 : BitVec 32 := Scalar.extui v1449
  let c0_i32_1012 : BitVec 32 := 0#32
  let v1451 : BitVec 1 := Scalar.cmpi .ne v1450 c0_i32_1012
  v1451

def k0_off214 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond343 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1013 : BitVec 32 := 6#32
  let v1452 : BitVec 1 := Scalar.cmpi .ne v2 c6_i32_1013
  let v1453 : BitVec 32 := Scalar.extui v1452
  let c0_i32_1014 : BitVec 32 := 0#32
  let v1454 : BitVec 1 := Scalar.cmpi .ne v1453 c0_i32_1014
  v1454

def k0_off215 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond344 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1015 : BitVec 32 := 7#32
  let v1455 : BitVec 1 := Scalar.cmpi .ne v2 c7_i32_1015
  let v1456 : BitVec 32 := Scalar.extui v1455
  let c0_i32_1016 : BitVec 32 := 0#32
  let v1457 : BitVec 1 := Scalar.cmpi .ne v1456 c0_i32_1016
  v1457

def k0_off216 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond345 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1017 : BitVec 32 := 8#32
  let v1458 : BitVec 1 := Scalar.cmpi .ne v2 c8_i32_1017
  let v1459 : BitVec 32 := Scalar.extui v1458
  let c0_i32_1018 : BitVec 32 := 0#32
  let v1460 : BitVec 1 := Scalar.cmpi .ne v1459 c0_i32_1018
  v1460

def k0_off217 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond346 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1019 : BitVec 32 := 9#32
  let v1461 : BitVec 1 := Scalar.cmpi .ne v2 c9_i32_1019
  let v1462 : BitVec 32 := Scalar.extui v1461
  let c0_i32_1020 : BitVec 32 := 0#32
  let v1463 : BitVec 1 := Scalar.cmpi .ne v1462 c0_i32_1020
  v1463

def k0_off218 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond347 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1021 : BitVec 32 := 10#32
  let v1464 : BitVec 1 := Scalar.cmpi .ne v2 c10_i32_1021
  let v1465 : BitVec 32 := Scalar.extui v1464
  let c0_i32_1022 : BitVec 32 := 0#32
  let v1466 : BitVec 1 := Scalar.cmpi .ne v1465 c0_i32_1022
  v1466

def k0_off219 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond348 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1023 : BitVec 32 := 11#32
  let v1467 : BitVec 1 := Scalar.cmpi .ne v2 c11_i32_1023
  let v1468 : BitVec 32 := Scalar.extui v1467
  let c0_i32_1024 : BitVec 32 := 0#32
  let v1469 : BitVec 1 := Scalar.cmpi .ne v1468 c0_i32_1024
  v1469

def k0_off220 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond349 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1025 : BitVec 32 := 12#32
  let v1470 : BitVec 1 := Scalar.cmpi .ne v2 c12_i32_1025
  let v1471 : BitVec 32 := Scalar.extui v1470
  let c0_i32_1026 : BitVec 32 := 0#32
  let v1472 : BitVec 1 := Scalar.cmpi .ne v1471 c0_i32_1026
  v1472

def k0_off221 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond350 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1027 : BitVec 32 := 13#32
  let v1473 : BitVec 1 := Scalar.cmpi .ne v2 c13_i32_1027
  let v1474 : BitVec 32 := Scalar.extui v1473
  let c0_i32_1028 : BitVec 32 := 0#32
  let v1475 : BitVec 1 := Scalar.cmpi .ne v1474 c0_i32_1028
  v1475

def k0_off222 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond351 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1029 : BitVec 32 := 14#32
  let v1476 : BitVec 1 := Scalar.cmpi .ne v2 c14_i32_1029
  let v1477 : BitVec 32 := Scalar.extui v1476
  let c0_i32_1030 : BitVec 32 := 0#32
  let v1478 : BitVec 1 := Scalar.cmpi .ne v1477 c0_i32_1030
  v1478

def k0_off223 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond352 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1031 : BitVec 32 := 15#32
  let v1479 : BitVec 1 := Scalar.cmpi .ne v2 c15_i32_1031
  let v1480 : BitVec 32 := Scalar.extui v1479
  let c0_i32_1032 : BitVec 32 := 0#32
  let v1481 : BitVec 1 := Scalar.cmpi .ne v1480 c0_i32_1032
  v1481

def k0_off224 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1074 : BitVec 32 := 0#32
  let c0_i32_1075 : BitVec 32 := 0#32
  ![v2.toNat, 0, 0]
def k0_cond353 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1037 : BitVec 32 := 0#32
  let v1489 : BitVec 1 := Scalar.cmpi .ne v2 c0_i32_1037
  let v1490 : BitVec 32 := Scalar.extui v1489
  let c0_i32_1038 : BitVec 32 := 0#32
  let v1491 : BitVec 1 := Scalar.cmpi .ne v1490 c0_i32_1038
  v1491

def k0_off225 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond354 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1039 : BitVec 32 := 1#32
  let v1492 : BitVec 1 := Scalar.cmpi .ne v2 c1_i32_1039
  let v1493 : BitVec 32 := Scalar.extui v1492
  let c0_i32_1040 : BitVec 32 := 0#32
  let v1494 : BitVec 1 := Scalar.cmpi .ne v1493 c0_i32_1040
  v1494

def k0_off226 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond355 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1041 : BitVec 32 := 2#32
  let v1495 : BitVec 1 := Scalar.cmpi .ne v2 c2_i32_1041
  let v1496 : BitVec 32 := Scalar.extui v1495
  let c0_i32_1042 : BitVec 32 := 0#32
  let v1497 : BitVec 1 := Scalar.cmpi .ne v1496 c0_i32_1042
  v1497

def k0_off227 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond356 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1043 : BitVec 32 := 3#32
  let v1498 : BitVec 1 := Scalar.cmpi .ne v2 c3_i32_1043
  let v1499 : BitVec 32 := Scalar.extui v1498
  let c0_i32_1044 : BitVec 32 := 0#32
  let v1500 : BitVec 1 := Scalar.cmpi .ne v1499 c0_i32_1044
  v1500

def k0_off228 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond357 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1045 : BitVec 32 := 4#32
  let v1501 : BitVec 1 := Scalar.cmpi .ne v2 c4_i32_1045
  let v1502 : BitVec 32 := Scalar.extui v1501
  let c0_i32_1046 : BitVec 32 := 0#32
  let v1503 : BitVec 1 := Scalar.cmpi .ne v1502 c0_i32_1046
  v1503

def k0_off229 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond358 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1047 : BitVec 32 := 5#32
  let v1504 : BitVec 1 := Scalar.cmpi .ne v2 c5_i32_1047
  let v1505 : BitVec 32 := Scalar.extui v1504
  let c0_i32_1048 : BitVec 32 := 0#32
  let v1506 : BitVec 1 := Scalar.cmpi .ne v1505 c0_i32_1048
  v1506

def k0_off230 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond359 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1049 : BitVec 32 := 6#32
  let v1507 : BitVec 1 := Scalar.cmpi .ne v2 c6_i32_1049
  let v1508 : BitVec 32 := Scalar.extui v1507
  let c0_i32_1050 : BitVec 32 := 0#32
  let v1509 : BitVec 1 := Scalar.cmpi .ne v1508 c0_i32_1050
  v1509

def k0_off231 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond360 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1051 : BitVec 32 := 7#32
  let v1510 : BitVec 1 := Scalar.cmpi .ne v2 c7_i32_1051
  let v1511 : BitVec 32 := Scalar.extui v1510
  let c0_i32_1052 : BitVec 32 := 0#32
  let v1512 : BitVec 1 := Scalar.cmpi .ne v1511 c0_i32_1052
  v1512

def k0_off232 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond361 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1053 : BitVec 32 := 8#32
  let v1513 : BitVec 1 := Scalar.cmpi .ne v2 c8_i32_1053
  let v1514 : BitVec 32 := Scalar.extui v1513
  let c0_i32_1054 : BitVec 32 := 0#32
  let v1515 : BitVec 1 := Scalar.cmpi .ne v1514 c0_i32_1054
  v1515

def k0_off233 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond362 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1055 : BitVec 32 := 9#32
  let v1516 : BitVec 1 := Scalar.cmpi .ne v2 c9_i32_1055
  let v1517 : BitVec 32 := Scalar.extui v1516
  let c0_i32_1056 : BitVec 32 := 0#32
  let v1518 : BitVec 1 := Scalar.cmpi .ne v1517 c0_i32_1056
  v1518

def k0_off234 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond363 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1057 : BitVec 32 := 10#32
  let v1519 : BitVec 1 := Scalar.cmpi .ne v2 c10_i32_1057
  let v1520 : BitVec 32 := Scalar.extui v1519
  let c0_i32_1058 : BitVec 32 := 0#32
  let v1521 : BitVec 1 := Scalar.cmpi .ne v1520 c0_i32_1058
  v1521

def k0_off235 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond364 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1059 : BitVec 32 := 11#32
  let v1522 : BitVec 1 := Scalar.cmpi .ne v2 c11_i32_1059
  let v1523 : BitVec 32 := Scalar.extui v1522
  let c0_i32_1060 : BitVec 32 := 0#32
  let v1524 : BitVec 1 := Scalar.cmpi .ne v1523 c0_i32_1060
  v1524

def k0_off236 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond365 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1061 : BitVec 32 := 12#32
  let v1525 : BitVec 1 := Scalar.cmpi .ne v2 c12_i32_1061
  let v1526 : BitVec 32 := Scalar.extui v1525
  let c0_i32_1062 : BitVec 32 := 0#32
  let v1527 : BitVec 1 := Scalar.cmpi .ne v1526 c0_i32_1062
  v1527

def k0_off237 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond366 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1063 : BitVec 32 := 13#32
  let v1528 : BitVec 1 := Scalar.cmpi .ne v2 c13_i32_1063
  let v1529 : BitVec 32 := Scalar.extui v1528
  let c0_i32_1064 : BitVec 32 := 0#32
  let v1530 : BitVec 1 := Scalar.cmpi .ne v1529 c0_i32_1064
  v1530

def k0_off238 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond367 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1065 : BitVec 32 := 14#32
  let v1531 : BitVec 1 := Scalar.cmpi .ne v2 c14_i32_1065
  let v1532 : BitVec 32 := Scalar.extui v1531
  let c0_i32_1066 : BitVec 32 := 0#32
  let v1533 : BitVec 1 := Scalar.cmpi .ne v1532 c0_i32_1066
  v1533

def k0_off239 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
def k0_cond368 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1067 : BitVec 32 := 15#32
  let v1534 : BitVec 1 := Scalar.cmpi .ne v2 c15_i32_1067
  let v1535 : BitVec 32 := Scalar.extui v1534
  let c0_i32_1068 : BitVec 32 := 0#32
  let v1536 : BitVec 1 := Scalar.cmpi .ne v1535 c0_i32_1068
  v1536

def k0_off240 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1072 : BitVec 32 := 0#32
  let c0_i32_1073 : BitVec 32 := 0#32
  ![v2.toNat, 0, 0]
-- ==== ReferenceIdeal.lean ====
abbrev S256x256 : Shape := ⟨2, ![256, 256]⟩
abbrev S256x8192 : Shape := ⟨2, ![256, 8192]⟩
abbrev S8192x256 : Shape := ⟨2, ![8192, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x8192, .f32⟩
  | .hbm, ⟨2, _⟩ => ⟨S256x8192, .f32⟩
  | .hbm, ⟨3, _⟩ => ⟨S256x8192, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S256x8192, .f32⟩
  | .hbm, ⟨8, _⟩ => ⟨S_, .f32⟩
  | .hbm, ⟨9, _⟩ => ⟨S256x8192, .f32⟩
  | .hbm, ⟨10, _⟩ => ⟨S256x8192, .f32⟩
  | .hbm, ⟨11, _⟩ => ⟨S256x256, .f32⟩
  | .hbm, ⟨12, _⟩ => ⟨S256x8192, .f32⟩
  | .hbm, ⟨13, _⟩ => ⟨S_, .f32⟩
  | .hbm, ⟨14, _⟩ => ⟨S256x8192, .f32⟩
  | .hbm, ⟨15, _⟩ => ⟨S256x8192, .f32⟩
  | .hbm, ⟨16, _⟩ => ⟨S256x256, .f32⟩
  | .hbm, ⟨17, _⟩ => ⟨S256x8192, .f32⟩
  | .hbm, ⟨18, _⟩ => ⟨S_, .f32⟩
  | .hbm, ⟨19, _⟩ => ⟨S256x8192, .f32⟩
  | .hbm, ⟨20, _⟩ => ⟨S256x8192, .f32⟩
  | .hbm, ⟨21, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ideal.Base.lean ====
/-
# The kernel's buffers and semaphores, named

Names for the pieces of the kernel's scratch that its sixteen devices exchange: the slot of a receive buffer that one
device's message fills, the sixteen-row blocks and sixty-four-row groups of the partial result, the layers of the
weights; and what a read through one of these pieces gives after a write through another.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Transfers
public import Idealize.ShloMosaic.Lib.Tactic

@[expose] public section

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Semaphores -/

/-- The semaphore of the barriers. -/
abbrev barS : Sem sig := (SemArray.scalar (sig.barrier 0 rfl) : Sems sig S_).sem

/-- The semaphore on which the scattered block of device `s` arrives. -/
def rsS (s : Fin 16) : DmaSem sig := ⟨s.val, by have := s.isLt; show s.val < 72; omega⟩
/-- The semaphore on which the gathered rows of device `s` arrive. -/
def agS (s : Fin 16) : DmaSem sig := ⟨16 + s.val, by have := s.isLt; show 16 + s.val < 72; omega⟩
/-- The semaphore that counts the departure of the block for device `s`. -/
def rsendS (s : Fin 16) : DmaSem sig := ⟨32 + s.val, by have := s.isLt; show 32 + s.val < 72; omega⟩
/-- The semaphore that counts the departure of the gathered rows for device `s`. -/
def asendS (s : Fin 16) : DmaSem sig := ⟨48 + s.val, by have := s.isLt; show 48 + s.val < 72; omega⟩
/-- The semaphore of the `j`-th copy within the device. -/
def ldS (j : Fin 8) : DmaSem sig := ⟨64 + j.val, by have := j.isLt; show 64 + j.val < 72; omega⟩

theorem rsS_eq (s : Fin 16) {off : Fin 1 → ℕ} (inb) (h : off = ![s.val]) :
    ((cc0_scratch8.slice (Rect.unit (s := S16) off S1.size inb)).squeeze S_ squeezes_S1_S_).sem = rsS s := by
  subst h; revert inb; revert s; decide
theorem agS_eq (s : Fin 16) {off : Fin 1 → ℕ} (inb) (h : off = ![s.val]) :
    ((cc0_scratch9.slice (Rect.unit (s := S16) off S1.size inb)).squeeze S_ squeezes_S1_S_).sem = agS s := by
  subst h; revert inb; revert s; decide
theorem rsendS_eq (s : Fin 16) {off : Fin 1 → ℕ} (inb) (h : off = ![s.val]) :
    ((cc0_scratch10.slice (Rect.unit (s := S16) off S1.size inb)).squeeze S_ squeezes_S1_S_).sem = rsendS s := by
  subst h; revert inb; revert s; decide
theorem asendS_eq (s : Fin 16) {off : Fin 1 → ℕ} (inb) (h : off = ![s.val]) :
    ((cc0_scratch11.slice (Rect.unit (s := S16) off S1.size inb)).squeeze S_ squeezes_S1_S_).sem = asendS s := by
  subst h; revert inb; revert s; decide
theorem ldS_eq (s : Fin 8) {off : Fin 1 → ℕ} (inb) (h : off = ![s.val]) :
    ((cc0_scratch12.slice (Rect.unit (s := S8) off S1.size inb)).squeeze S_ squeezes_S1_S_).sem = ldS s := by
  subst h; revert inb; revert s; decide

/-! ## Pieces of the buffers -/

theorem inbSlot (s : Fin 16) : ∀ a, (![s.val, 0, 0] : Fin 3 → ℕ) a + S1x16x256.size a ≤ S16x16x256.size a := by
  revert s; decide
theorem inbWin (l : Fin 3) : ∀ a, (![l.val, 0, 0] : Fin 3 → ℕ) a + S1x256x512.size a ≤ S3x256x512.size a := by
  revert l; decide
theorem inbWout (l : Fin 3) : ∀ a, (![l.val, 0, 0] : Fin 3 → ℕ) a + S1x512x256.size a ≤ S3x512x256.size a := by
  revert l; decide
theorem inbBlk (b : Fin 16) : ∀ a, (![16 * b.val, 0] : Fin 2 → ℕ) a + S16x256.size a ≤ S256x256.size a := by
  revert b; decide
theorem inbGrp (g : Fin 4) : ∀ a, (![64 * g.val, 0] : Fin 2 → ℕ) a + S64x256.size a ≤ S256x256.size a := by
  revert g; decide
theorem inbRow (j : Fin 4) : ∀ a, (![16 * j.val, 0] : Fin 2 → ℕ) a + S16x256.size a ≤ S64x256.size a := by
  revert j; decide

/-- The buffer into which the other devices scatter their blocks. -/
abbrev rsM : Memref sig .tc .vmem S16x16x256 .bf16 := Memref.whole cc0_scratch6
/-- The buffer into which the other devices' rows are gathered. -/
abbrev agM : Memref sig .tc .vmem S16x16x256 .bf16 := Memref.whole cc0_scratch7
/-- The buffer of this device's partial result. -/
abbrev pM : Memref sig .tc .vmem S256x256 .bf16 := Memref.whole cc0_scratch4
/-- The buffer of this device's sixteen summed rows. -/
abbrev rM : Memref sig .tc .vmem S16x256 .bf16 := Memref.whole cc0_scratch5
abbrev xM : Memref sig .tc .vmem S256x256 .f32 := Memref.whole cc0_scratch0
abbrev wiM : Memref sig .tc .vmem S3x256x512 .f32 := Memref.whole cc0_scratch1
abbrev woM : Memref sig .tc .vmem S3x512x256 .f32 := Memref.whole cc0_scratch2
abbrev oM : Memref sig .tc .vmem S16x256 .f32 := Memref.whole cc0_scratch3

/-- Slot `s` of a receive buffer. -/
abbrev slot (M : Memref sig .tc .vmem S16x16x256 .bf16) (s : Fin 16) : Memref sig .tc .vmem S16x256 .bf16 :=
  (M.slice (Rect.unit (s := S16x16x256) ![s.val, 0, 0] S1x16x256.size (inbSlot s)) (fun _ => rfl)).squeeze S16x256
    squeezes_S1x16x256_S16x256

/-- Layer `l` of the first weights. -/
abbrev wiL (l : Fin 3) : Memref sig .tc .vmem S256x512 .f32 :=
  (wiM.slice (Rect.unit (s := S3x256x512) ![l.val, 0, 0] S1x256x512.size (inbWin l)) (fun _ => rfl)).squeeze S256x512
    squeezes_S1x256x512_S256x512
/-- Layer `l` of the second weights. -/
abbrev woL (l : Fin 3) : Memref sig .tc .vmem S512x256 .f32 :=
  (woM.slice (Rect.unit (s := S3x512x256) ![l.val, 0, 0] S1x512x256.size (inbWout l)) (fun _ => rfl)).squeeze S512x256
    squeezes_S1x512x256_S512x256

/-- Rows `16 b … 16 b + 15` of the partial result. -/
abbrev blkM (b : Fin 16) : Memref sig .tc .vmem S16x256 .bf16 :=
  pM.slice (Rect.unit (s := S256x256) ![16 * b.val, 0] S16x256.size (inbBlk b)) (fun _ => rfl)
/-- Rows `64 g … 64 g + 63` of the partial result. -/
abbrev grpM (g : Fin 4) : Memref sig .tc .vmem S64x256 .bf16 :=
  pM.slice (Rect.unit (s := S256x256) ![64 * g.val, 0] S64x256.size (inbGrp g)) (fun _ => rfl)

/-- Sixteen of sixty-four rows. -/
def rows64 {α : Type} (j : Fin 4) (v : S64x256.Idx → α) : S16x256.Idx → α :=
  fun x => v ((Rect.unit (s := S64x256) ![16 * j.val, 0] S16x256.size (inbRow j)).emb x)
/-- Sixteen of two hundred and fifty-six rows. -/
def rows256 {α : Type} (b : Fin 16) (v : S256x256.Idx → α) : S16x256.Idx → α :=
  fun x => v ((Rect.unit (s := S256x256) ![16 * b.val, 0] S16x256.size (inbBlk b)).emb x)

/-- Block `j` of group `g`. -/
def gj (g j : Fin 4) : Fin 16 := ⟨4 * g.val + j.val, by omega⟩

theorem scWi : S256x512.ShapeCasts S1x256x512 := by decide
theorem scWo : S512x256.ShapeCasts S1x512x256 := by decide

/-! ## Reads after writes -/

/-- Reading through a reshaped view is reading through the view at the index of the same rank in row-major order. -/
theorem read_reshaped {κ : Kind} {sp : Space} {s s' : Shape} {e : EltTy} (v : View sig κ sp s e) (h : s'.numel = s.numel)
    (f : v.ty.Contents (Elt F)) :
    (v.reshape s' h).read (Elt F) f = fun j => v.read (Elt F) f (Shape.reshapeEquiv h j) := rfl

/-- A load of a whole slot reads what the slot holds, with the unit axis in front. -/
theorem load_slot (M : Memref sig .tc .vmem S16x16x256 .bf16) (s : Fin 16) (f : M.view.ty.Contents (Elt F)) :
    M.view.readAt (Elt F) (Rect.unit (s := S16x16x256) ![s.val, 0, 0] S1x16x256.size (inbSlot s)).toLoadRect f
      = shapeCast S1x16x256 ((slot M s).view.read (Elt F) f) shapeCasts_S16x256_S1x16x256 :=
  (shapeCast_shapeCast (s := S1x16x256) (t := S16x256) _ shapeCasts_S1x16x256_S16x256 shapeCasts_S16x256_S1x16x256).symm

/-- A store over a whole slot leaves there what it stored, without the unit axis. -/
theorem store_slot (M : Memref sig .tc .vmem S16x16x256 .bf16) (s : Fin 16) (f : M.view.ty.Contents (Elt F))
    (w : Vec F S1x16x256 .bf16) :
    (slot M s).view.read (Elt F)
        ((M.access (Rect.unit (s := S16x16x256) ![s.val, 0, 0] S1x16x256.size (inbSlot s))).write (Elt F) f w Finset.univ)
      = shapeCast S16x256 w shapeCasts_S1x16x256_S16x256 := by
  refine (read_reshaped (M.view.slice _) _ _).trans ?_
  rw [View.read_write_univ]
  rfl

theorem load_wi (l : Fin 3) (f : (wiM).view.ty.Contents (Elt F)) :
    wiM.view.readAt (Elt F) (Rect.unit (s := S3x256x512) ![l.val, 0, 0] S1x256x512.size (inbWin l)).toLoadRect f
      = shapeCast S1x256x512 ((wiL l).view.read (Elt F) f) scWi :=
  (shapeCast_shapeCast (s := S1x256x512) (t := S256x512) _ shapeCasts_S1x256x512_S256x512 scWi).symm

theorem load_wo (l : Fin 3) (f : (woM).view.ty.Contents (Elt F)) :
    woM.view.readAt (Elt F) (Rect.unit (s := S3x512x256) ![l.val, 0, 0] S1x512x256.size (inbWout l)).toLoadRect f
      = shapeCast S1x512x256 ((woL l).view.read (Elt F) f) scWo :=
  (shapeCast_shapeCast (s := S1x512x256) (t := S512x256) _ shapeCasts_S1x512x256_S512x256 scWo).symm

/-- A block of the whole partial result. -/
theorem blk_of_whole (b : Fin 16) (v : pM.view.ty.Contents (Elt F)) :
    (blkM b).view.read (Elt F) v = rows256 b v := rfl

theorem blk_emb (g j : Fin 4) (x : S16x256.Idx) :
    (blkM (gj g j)).view.emb x
      = (grpM g).view.emb ((Rect.unit (s := S64x256) ![16 * j.val, 0] S16x256.size (inbRow j)).emb x) := by
  funext a
  apply Fin.ext
  have e1 := ValueKit.rect_emb_unit_val (s := S256x256) ![16 * (gj g j).val, 0] S16x256.size (inbBlk _) x a
  have e2 := ValueKit.rect_emb_unit_val (s := S256x256) ![64 * g.val, 0] S64x256.size (inbGrp _)
    ((Rect.unit (s := S64x256) ![16 * j.val, 0] S16x256.size (inbRow j)).emb x) a
  have e3 := ValueKit.rect_emb_unit_val (s := S64x256) ![16 * j.val, 0] S16x256.size (inbRow _) x a
  refine e1.trans (Eq.trans ?_ e2.symm)
  rw [e3]
  fin_cases a
  · show 16 * (4 * g.val + j.val) + (x 0).val = 64 * g.val + (16 * j.val + (x 0).val); omega
  · show 0 + (x 1).val = 0 + (0 + (x 1).val); omega

/-- A block of a group that was stored whole. -/
theorem blk_of_grp (g j : Fin 4) (f : pM.view.ty.Contents (Elt F)) (w : Vec F S64x256 .bf16) :
    (blkM (gj g j)).view.read (Elt F) ((grpM g).view.write (Elt F) f w Finset.univ) = rows64 j w := by
  funext x
  have h := congrFun (View.read_write_univ (Val := Elt F) (v := (grpM g).view) f w)
    ((Rect.unit (s := S64x256) ![16 * j.val, 0] S16x256.size (inbRow j)).emb x)
  rw [View.read_apply] at h
  rw [View.read_apply, blk_emb]
  exact h

end Cert.MlpIdeal
-- ==== Proof.Ideal.Contents.lean ====
/-
# What the buffers hold

The values that the kernel computes and exchanges, as functions of the memory at launch. Layer by layer: device `s`'s
partial result for the sixteen rows of device `d` (`blk l s d`), the sum over all devices of the partial results for
device `c`'s rows (`total l c`), and that sum rounded, as every device gathers it (`rvec l c`).
-/
module

public import proofs.«01_k».proof.Proof.Ideal.Base

@[expose] public section

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
/-! ## The arithmetic of one step -/

/-- A block with a unit axis in front, as the receive buffers hold it. -/
def up (v : Vec F S16x256 .bf16) : Vec F S1x16x256 .bf16 := shapeCast S1x16x256 v shapeCasts_S16x256_S1x16x256
/-- Without it. -/
def dn (v : Vec F S1x16x256 .bf16) : FVec F S16x256 .bf16 := shapeCast S16x256 v shapeCasts_S1x16x256_S16x256

/-- A block widened. -/
def wide (v : Vec F S1x16x256 .bf16) : FVec F S16x256 .f32 := extf .f32 (dn v) bitsLt_bf16_f32

/-- Sixteen blocks, added from the first to the last. -/
def sum16 (a : Fin 16 → Vec F S1x16x256 .bf16) : FVec F S16x256 .f32 :=
  addf (addf (addf (addf (addf (addf (addf (addf (addf (addf (addf (addf (addf (addf (addf (wide (a 0)) (wide (a 1)))
    (wide (a 2))) (wide (a 3))) (wide (a 4))) (wide (a 5))) (wide (a 6))) (wide (a 7))) (wide (a 8))) (wide (a 9)))
    (wide (a 10))) (wide (a 11))) (wide (a 12))) (wide (a 13))) (wide (a 14))) (wide (a 15))

/-- A sum rounded. -/
def narrow (v : FVec F S16x256 .f32) : FVec F S16x256 .bf16 :=
  shapeCast S16x256 (truncf .bf16 v bitsLt_bf16_f32) shapeCasts_S16x256_S16x256

/-- One layer's weights, rounded. -/
def nwi (w : Vec F S1x256x512 .f32) : FVec F S256x512 .bf16 :=
  truncf .bf16 (shapeCast S256x512 w shapeCasts_S1x256x512_S256x512) bitsLt_bf16_f32
def nwo (w : Vec F S1x512x256 .f32) : FVec F S512x256 .bf16 :=
  truncf .bf16 (shapeCast S512x256 w shapeCasts_S1x512x256_S512x256) bitsLt_bf16_f32

/-- A device's part of a layer on sixty-four rows. -/
def mlp64 (wi : FVec F S256x512 .bf16) (wo : FVec F S512x256 .bf16) (a b c d : Vec F S1x16x256 .bf16) : FVec F S64x256 .bf16 :=
  shapeCast S64x256
    (truncf .bf16
      (matmul dot_S64x512_S512x256_S64x256_1_0_0_1_n_n none
        (truncf .bf16
          (maximumf
            (matmul dot_S64x256_S256x512_S64x512_1_0_0_1_n_n none
              (concatenate S64x256 0 [⟨S16x256, dn a⟩, ⟨S16x256, dn b⟩, ⟨S16x256, dn c⟩, ⟨S16x256, dn d⟩]
                concatenates_S16x256_S16x256_S16x256_S16x256_S64x256_d0)
              wi (constant S64x512 .f32 0x00000000#32))
            (broadcast S64x512 (Scalar.ofBits .f32 0x00000000#32)))
          bitsLt_bf16_f32)
        wo (constant S64x256 .f32 0x00000000#32))
      bitsLt_bf16_f32)
    shapeCasts_S64x256_S64x256

/-! ## The antipode -/

/-- The device that sums the next layer's rows of device `i`. -/
def ap (i : Fin 16) : Fin 16 := ⟨4 * (3 - i.val / 4) + ((i.val % 4) + 2) % 4, by omega⟩
theorem ap_ap (i : Fin 16) : ap (ap i) = i := by revert i; decide

/-- A block's group and its place there. -/
def gOf (b : Fin 16) : Fin 4 := ⟨b.val / 4, by omega⟩
def jOf (b : Fin 16) : Fin 4 := ⟨b.val % 4, by omega⟩
theorem gj_of (b : Fin 16) : gj (gOf b) (jOf b) = b := by revert b; decide
theorem gOf_gj (g j : Fin 4) : gOf (gj g j) = g := by revert g j; decide
theorem jOf_gj (g j : Fin 4) : jOf (gj g j) = j := by revert g j; decide

/-! ## The values -/

variable (m : (ℓ : Loc nD τ sig) → Buf (Elt F) ℓ)

def xin (s : Dev nD) : Vec F S256x256 .f32 := m ((s : Thread nD τ).loc main_arg0)
def win0 (s : Dev nD) : Vec F S256x512 .f32 := m ((s : Thread nD τ).loc main_arg1)
def win1 (s : Dev nD) : Vec F S256x512 .f32 := m ((s : Thread nD τ).loc main_arg2)
def win2 (s : Dev nD) : Vec F S256x512 .f32 := m ((s : Thread nD τ).loc main_arg3)
def wout0 (s : Dev nD) : Vec F S512x256 .f32 := m ((s : Thread nD τ).loc main_arg4)
def wout1 (s : Dev nD) : Vec F S512x256 .f32 := m ((s : Thread nD τ).loc main_arg5)
def wout2 (s : Dev nD) : Vec F S512x256 .f32 := m ((s : Thread nD τ).loc main_arg6)

/-- The weights with the unit axis that the kernel loads them with. -/
def upi (w : Vec F S256x512 .f32) : Vec F S1x256x512 .f32 := shapeCast S1x256x512 w scWi
def upo (w : Vec F S512x256 .f32) : Vec F S1x512x256 .f32 := shapeCast S1x512x256 w scWo

/-- Device `s`'s partial result of the first layer. -/
def part0 (s : Dev nD) : FVec F S256x256 .bf16 := k0_pay1 (xin m s) (upi (win0 m s)) (upo (wout0 m s))
def blk0 (s d : Fin 16) : Vec F S16x256 .bf16 := rows256 d (part0 m s)
def total0 (c : Fin 16) : FVec F S16x256 .f32 := sum16 fun s => up (blk0 m s c)
def rvec0 (c : Fin 16) : FVec F S16x256 .bf16 := narrow (total0 m c)

/-- Device `s`'s partial result of the second layer on the rows of devices `4 g … 4 g + 3`. -/
def grp1 (s : Fin 16) (g : Fin 4) : FVec F S64x256 .bf16 :=
  mlp64 (nwi (upi (win1 m s))) (nwo (upo (wout1 m s))) (up (rvec0 m (gj g 0))) (up (rvec0 m (gj g 1))) (up (rvec0 m (gj g 2)))
    (up (rvec0 m (gj g 3)))
def blk1 (s d : Fin 16) : Vec F S16x256 .bf16 := rows64 (jOf (ap d)) (grp1 m s (gOf (ap d)))
def total1 (c : Fin 16) : FVec F S16x256 .f32 := sum16 fun s => up (blk1 m s c)
def rvec1 (c : Fin 16) : FVec F S16x256 .bf16 := narrow (total1 m c)

/-- Device `s`'s partial result of the third layer on the rows that the antipodes of devices `4 g … 4 g + 3` hold. -/
def grp2 (s : Fin 16) (g : Fin 4) : FVec F S64x256 .bf16 :=
  mlp64 (nwi (upi (win2 m s))) (nwo (upo (wout2 m s))) (up (rvec1 m (ap (gj g 0)))) (up (rvec1 m (ap (gj g 1))))
    (up (rvec1 m (ap (gj g 2)))) (up (rvec1 m (ap (gj g 3))))
def blk2 (s d : Fin 16) : Vec F S16x256 .bf16 := rows64 (jOf d) (grp2 m s (gOf d))
def total2 (c : Fin 16) : FVec F S16x256 .f32 := sum16 fun s => up (blk2 m s c)

/-- What device `c` leaves in its result. -/
def outv (c : Fin 16) : FVec F S16x256 .f32 := k0_pay117 (total2 m c)

/-- The partial result of layer `l` that device `s` sends to device `d`. -/
def blk (l : ℕ) (s d : Fin 16) : Vec F S16x256 .bf16 :=
  if l = 0 then blk0 m s d else if l = 1 then blk1 m s d else blk2 m s d
/-- The rows of layer `l` that device `s` sends to every other. -/
def rvec (l : ℕ) (s : Fin 16) : Vec F S16x256 .bf16 := if l = 0 then rvec0 m s else rvec1 m s

end Cert.MlpIdeal
-- ==== Proof.Ideal.Protocol.lean ====
/-
# The protocol of the sixteen devices

Every device meets every other at three barriers, in three scatters (one per layer) and in two gathers.

* Barrier `r` hands device `c`, from every other device `d`, slot `c` of `d`'s receive buffers, to be filled by the next
  scatter and the next gather.
* A scatter fills slot `s` of a device with device `s`'s partial result for that device's rows; a gather fills it with the
  summed rows of device `s`.
* A send semaphore hands back what was sent: the block of the partial result, or one sixteenth of the summed rows.

Each device pays 128 times in a fixed order, eight rounds of meetings with sixteen devices each (nothing to itself).
A meeting's level is its place in that order, and a device waits only at a level below all that it still has to pay.
-/
module

public import proofs.«01_k».proof.Proof.Ideal.Contents

@[expose] public section

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
/-! ## The resource algebra -/

abbrev UB : Type := URounds (GSem nD τ sig) (Fin 16)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Cells -/

/-- A semaphore of device `c`. -/
abbrev cell (c : Dev nD) (sm : SemLoc sig) : GSem nD τ sig := ((c : Thread nD τ), sm)

/-- What a semaphore counts. -/
inductive Sort' where
  | bar
  | rs (s : Fin 16)
  | ag (s : Fin 16)
  | rsend (s : Fin 16)
  | asend (s : Fin 16)
  | ld (j : Fin 8)
  deriving DecidableEq

def sortOf : SemLoc sig → Sort'
  | .reg _ => .bar
  | .dma q =>
    if q.val / 16 = 0 then .rs ⟨q.val % 16, Nat.mod_lt _ (by decide)⟩
    else if q.val / 16 = 1 then .ag ⟨q.val % 16, Nat.mod_lt _ (by decide)⟩
    else if q.val / 16 = 2 then .rsend ⟨q.val % 16, Nat.mod_lt _ (by decide)⟩
    else if q.val / 16 = 3 then .asend ⟨q.val % 16, Nat.mod_lt _ (by decide)⟩
    else .ld ⟨q.val % 8, Nat.mod_lt _ (by decide)⟩

theorem sortOf_bar (q : Sem sig) : sortOf (.reg q) = .bar := rfl
theorem sortOf_rs (s : Fin 16) : sortOf (.dma (rsS s)) = .rs s := by revert s; decide
theorem sortOf_ag (s : Fin 16) : sortOf (.dma (agS s)) = .ag s := by revert s; decide
theorem sortOf_rsend (s : Fin 16) : sortOf (.dma (rsendS s)) = .rsend s := by revert s; decide
theorem sortOf_asend (s : Fin 16) : sortOf (.dma (asendS s)) = .asend s := by revert s; decide
theorem sortOf_ld (j : Fin 8) : sortOf (.dma (ldS j)) = .ld j := by revert j; decide

/-! ## Assertions -/

section Assertions
variable {sp : Space} {s : Shape} {e : EltTy}

/-- Device `c` owns the memref, whatever it holds. -/
def anyAt (M : Memref sig .tc sp s e) (c : Dev nD) : sProp 𝕄 :=
  iprop(∃ f, M.view.loc (c : Thread nD τ) ↦[M.view.set]{fullShare} f)
/-- Device `c` owns the memref and reads `v` there. -/
def holds (M : Memref sig .tc sp s e) (c : Dev nD) (v : Vec F s e) : sProp 𝕄 :=
  iprop(∃ f, (M.view.loc (c : Thread nD τ) ↦[M.view.set]{fullShare} f) ∗ ⌜M.view.read (Elt F) f = v⌝)

instance anyAt_storable (M : Memref sig .tc sp s e) (c : Dev nD) : BI.Storable (upEmb : UEmb _ 𝕄) (anyAt (F := F) M c) := by
  unfold anyAt; infer_instance
instance holds_storable (M : Memref sig .tc sp s e) (c : Dev nD) (v : Vec F s e) :
    BI.Storable (upEmb : UEmb _ 𝕄) (holds M c v) := by
  unfold holds; infer_instance

theorem holds_any (M : Memref sig .tc sp s e) (c : Dev nD) (v : Vec F s e) : holds M c v ⊢ anyAt M c := by
  unfold holds anyAt
  iintro ⟨%f, H, -⟩
  iexists f
  iexact H

end Assertions

/-- The share of the summed rows that the copy to device `j` reads. -/
def shr (j : Fin 16) : PosShare TreeShare := Transfers.dealOf fullShare Finset.univ j
/-- That share of device `c`'s summed rows of layer `l`. -/
def rShare (c : Dev nD) (l : ℕ) (j : Fin 16) : sProp 𝕄 :=
  rM.view.loc (c : Thread nD τ) ↦[rM.view.set]{shr j} (rvec m l c : Vec F S16x256 .bf16)

instance rShare_storable (c : Dev nD) (l : ℕ) (j : Fin 16) : BI.Storable (upEmb : UEmb _ 𝕄) (rShare m c l j) := by
  unfold rShare; infer_instance

/-- An argument of the kernel, unchanged. -/
def argAt (b : Ref sig .tc) (c : Dev nD) : sProp 𝕄 :=
  ((Memref.whole b).view.loc (c : Thread nD τ)) ↦[(Memref.whole b).view.set]{fullShare} m ((c : Thread nD τ).loc b)

instance argAt_storable (b : Ref sig .tc) (c : Dev nD) : BI.Storable (upEmb : UEmb _ 𝕄) (argAt m b c) := by
  unfold argAt; infer_instance

/-! ## The schedule -/

/-- What a message of sixteen rows counts. -/
abbrev N : ℕ := (blkM 0).view.dmaCredit
theorem N_pos : 0 < N := View.dmaCredit_pos _ (by decide)

/-- What the `j`-th copy within a device counts. -/
def NL (j : Fin 8) : ℕ :=
  match j with
  | 0 => xM.view.dmaCredit
  | 1 => (wiL 0).view.dmaCredit
  | 2 => (woL 0).view.dmaCredit
  | 3 => (wiL 1).view.dmaCredit
  | 4 => (woL 1).view.dmaCredit
  | 5 => (wiL 2).view.dmaCredit
  | 6 => (woL 2).view.dmaCredit
  | 7 => (Memref.whole main_v1).view.dmaCredit
theorem NL_pos (j : Fin 8) : 0 < NL j := by
  unfold NL
  split <;> exact View.dmaCredit_pos _ (by decide)

/-- What device `d` hands device `c` at barrier `r`. -/
def barPay (c : Dev nD) (r : ℕ) (d : Dev nD) : sProp 𝕄 :=
  iprop(anyAt (slot rsM c) d ∗ reached ER (cell d (.dma (rsS c))) r
    ∗ (if r = 0 then iprop(emp) else iprop(anyAt (slot agM c) d ∗ reached ER (cell d (.dma (agS c))) (r - 1))))

/-- What the copy number `j` within device `c` hands it. -/
def ldPay (c : Dev nD) (j : Fin 8) : sProp 𝕄 :=
  match j with
  | 0 => iprop(holds xM c (xin m c) ∗ argAt m main_arg0 c)
  | 1 => iprop(holds (wiL 0) c (win0 m c) ∗ argAt m main_arg1 c)
  | 2 => iprop(holds (woL 0) c (wout0 m c) ∗ argAt m main_arg4 c)
  | 3 => iprop(holds (wiL 1) c (win1 m c) ∗ argAt m main_arg2 c)
  | 4 => iprop(holds (woL 1) c (wout1 m c) ∗ argAt m main_arg5 c)
  | 5 => iprop(holds (wiL 2) c (win2 m c) ∗ argAt m main_arg3 c)
  | 6 => iprop(holds (woL 2) c (wout2 m c) ∗ argAt m main_arg6 c)
  | 7 => iprop(holds (Memref.whole main_v1) c (outv m c) ∗ anyAt oM c)

/-- The block of the partial result that goes to device `j` in scatter `r`. -/
def sentB (r : ℕ) (j : Fin 16) : Fin 16 := if r = 1 then ap j else j

def dutiesS (k : Sort') (c : Dev nD) (r : ℕ) : Finset (Fin 16) :=
  match k with
  | .bar => if r < 3 then Finset.univ.erase c else ∅
  | .rs s => if r < 3 ∧ s ≠ c then {s} else ∅
  | .ag s => if r < 2 ∧ s ≠ c then {s} else ∅
  | .rsend s => if r < 3 ∧ s ≠ c then {s} else ∅
  | .asend s => if r < 2 ∧ s ≠ c then {s} else ∅
  | .ld _ => if r < 1 then {0} else ∅

def amountS (k : Sort') : ℕ :=
  match k with
  | .bar => 1
  | .ld j => NL j
  | _ => N

def payS (k : Sort') (c : Dev nD) (r : ℕ) (d : Fin 16) : sProp 𝕄 :=
  match k with
  | .bar => barPay c r d
  | .rs s => iprop(holds (slot rsM s) c (blk m r s c) ∗ reached ER (cell s (.reg barS)) (r + 1))
  | .ag s => holds (slot agM s) c (rvec m r s)
  | .rsend s => anyAt (blkM (sentB r s)) c
  | .asend s => rShare m c r s
  | .ld j => ldPay m c j

theorem amountS_pos (k : Sort') : 0 < amountS k := by
  unfold amountS
  split
  · exact Nat.one_pos
  · exact NL_pos _
  · exact N_pos

/-- The schedule of all meetings. -/
def Rd : Rounds.Schedule (GSem nD τ sig) (Fin 16) 𝕄 where
  duties g r := if g.1.2 = .tc then dutiesS (sortOf g.2) g.1.1 r else ∅
  unitless _ := False
  amount g _ _ := amountS (sortOf g.2)
  payload g r d := payS m (sortOf g.2) g.1.1 r d
  amount_pos g _ _ _ := amountS_pos _

instance Rd_storable (g : GSem nD τ sig) (r : ℕ) (d : Fin 16) :
    BI.Storable (upEmb : UEmb _ 𝕄) ((Rd m).payload g r d) := by
  show BI.Storable upEmb (payS m (sortOf g.2) g.1.1 r d)
  unfold payS barPay ldPay
  (repeat' split) <;> infer_instance

section Sched
variable (c : Dev nD) (s : Fin 16) (r : ℕ)

theorem duties_cell (sm : SemLoc sig) : (Rd m).duties (cell c sm) r = dutiesS (sortOf sm) c r := by
  show (if (cell c sm).1.2 = .tc then dutiesS (sortOf sm) c r else ∅) = _
  exact if_pos rfl
theorem amount_cell (sm : SemLoc sig) (d : Fin 16) : (Rd m).amount (cell c sm) r d = amountS (sortOf sm) := rfl
theorem payload_cell (sm : SemLoc sig) (d : Fin 16) : (Rd m).payload (cell c sm) r d = payS m (sortOf sm) c r d := rfl

theorem duties_bar (h : r < 3) : (Rd m).duties (cell c (.reg barS)) r = Finset.univ.erase c := by
  rw [duties_cell]; exact if_pos h
theorem duties_rs (h : r < 3) (hs : s ≠ c) : (Rd m).duties (cell c (.dma (rsS s))) r = {s} := by
  rw [duties_cell, sortOf_rs]; exact if_pos ⟨h, hs⟩
theorem duties_ag (h : r < 2) (hs : s ≠ c) : (Rd m).duties (cell c (.dma (agS s))) r = {s} := by
  rw [duties_cell, sortOf_ag]; exact if_pos ⟨h, hs⟩
theorem duties_rsend (h : r < 3) (hs : s ≠ c) : (Rd m).duties (cell c (.dma (rsendS s))) r = {s} := by
  rw [duties_cell, sortOf_rsend]; exact if_pos ⟨h, hs⟩
theorem duties_asend (h : r < 2) (hs : s ≠ c) : (Rd m).duties (cell c (.dma (asendS s))) r = {s} := by
  rw [duties_cell, sortOf_asend]; exact if_pos ⟨h, hs⟩
theorem duties_ld (j : Fin 8) : (Rd m).duties (cell c (.dma (ldS j))) 0 = {0} := by
  rw [duties_cell, sortOf_ld]; rfl

theorem amount_bar (d : Fin 16) : (Rd m).amount (cell c (.reg barS)) r d = 1 := rfl
theorem amount_rs (d : Fin 16) : (Rd m).amount (cell c (.dma (rsS s))) r d = N := by rw [amount_cell, sortOf_rs]; rfl
theorem amount_ag (d : Fin 16) : (Rd m).amount (cell c (.dma (agS s))) r d = N := by rw [amount_cell, sortOf_ag]; rfl
theorem amount_rsend (d : Fin 16) : (Rd m).amount (cell c (.dma (rsendS s))) r d = N := by rw [amount_cell, sortOf_rsend]; rfl
theorem amount_asend (d : Fin 16) : (Rd m).amount (cell c (.dma (asendS s))) r d = N := by rw [amount_cell, sortOf_asend]; rfl
theorem amount_ld (j : Fin 8) (d : Fin 16) : (Rd m).amount (cell c (.dma (ldS j))) r d = NL j := by rw [amount_cell, sortOf_ld]; rfl

theorem expect_bar (h : r < 3) : (Rd m).expect (cell c (.reg barS)) r = 15 := by
  unfold Schedule.expect Schedule.amountOf
  rw [duties_bar m c r h, Finset.sum_congr rfl fun d _ => amount_bar m c r d, Finset.sum_const,
    Finset.card_erase_of_mem (Finset.mem_univ _), Finset.card_univ, Fintype.card_fin]
  rfl
/-- A cell with one duty expects what that duty pays. -/
theorem expect_one {g : GSem nD τ sig} {d : Fin 16} {n : ℕ} (h : (Rd m).duties g r = {d}) (ha : (Rd m).amount g r d = n) :
    (Rd m).expect g r = n := by
  unfold Schedule.expect Schedule.amountOf; rw [h, Finset.sum_singleton, ha]
/-- And hands over what that duty hands over. -/
theorem rest_one {g : GSem nD τ sig} {d : Fin 16} (h : (Rd m).duties g r = {d}) :
    bigSep ((Rd m).duties g r \ ∅) (fun d => (Rd m).payload g r d) = (Rd m).payload g r d := by
  rw [Finset.sdiff_empty, h, bigSep_singleton]

theorem payload_bar (d : Fin 16) : (Rd m).payload (cell c (.reg barS)) r d = barPay c r d := rfl
theorem payload_rs (d : Fin 16) : (Rd m).payload (cell c (.dma (rsS s))) r d
    = iprop(holds (slot rsM s) c (blk m r s c) ∗ reached ER (cell s (.reg barS)) (r + 1)) := by
  rw [payload_cell, sortOf_rs]; rfl
theorem payload_ag (d : Fin 16) : (Rd m).payload (cell c (.dma (agS s))) r d = holds (slot agM s) c (rvec m r s) := by
  rw [payload_cell, sortOf_ag]; rfl
theorem payload_rsend (d : Fin 16) : (Rd m).payload (cell c (.dma (rsendS s))) r d = anyAt (blkM (sentB r s)) c := by
  rw [payload_cell, sortOf_rsend]; rfl
theorem payload_asend (d : Fin 16) : (Rd m).payload (cell c (.dma (asendS s))) r d = rShare m c r s := by
  rw [payload_cell, sortOf_asend]; rfl
theorem payload_ld (j : Fin 8) (d : Fin 16) : (Rd m).payload (cell c (.dma (ldS j))) r d = ldPay m c j := by
  rw [payload_cell, sortOf_ld]; rfl

end Sched

/-! ## What a device owes, and the levels -/

/-- The semaphore that device `c` pays in meeting `ph`, -/
def phSem (ph : ℕ) (c : Fin 16) : SemLoc sig :=
  match ph with
  | 0 | 2 | 5 => .reg barS
  | 3 | 6 => .dma (agS c)
  | _ => .dma (rsS c)
/-- its round, -/
def phR (ph : ℕ) : ℕ :=
  match ph with
  | 0 | 1 | 3 => 0
  | 2 | 4 | 6 => 1
  | _ => 2
/-- what it pays, -/
def phN (ph : ℕ) : ℕ :=
  match ph with
  | 0 | 2 | 5 => 1
  | _ => N
/-- the device that it pays in place `p`, -/
def phD (ph : ℕ) (p : Fin 16) : Fin 16 := if ph = 4 then ap p else p
/-- and the level. -/
def phL (ph : ℕ) : ℕ :=
  match ph with
  | 0 => 1
  | 1 => 3
  | 2 => 5
  | 3 => 6
  | 4 => 7
  | 5 => 9
  | 6 => 10
  | _ => 11

def plc (j : ℕ) : Fin 16 := ⟨j % 16, Nat.mod_lt _ (by decide)⟩

/-- Device `c`'s payment number `j`. -/
def pay (c : Fin 16) (j : ℕ) : CellTallies nD τ sig ℕ :=
  if phD (j / 16) (plc j) = c then 0
  else tallyAt (cell (phD (j / 16) (plc j)) (phSem (j / 16) c)) (phR (j / 16)) (phN (j / 16))

/-- What device `c` owes from its payment `i` on. -/
def O (c : Fin 16) (i : ℕ) : CellTallies nD τ sig ℕ := ∑ j ∈ Finset.Ico i 128, pay c j

theorem O_step (c : Fin 16) (i : ℕ) (h : i < 128) : O c i = O c (i + 1) + pay c i := by
  unfold O
  have e : Finset.Ico i 128 = insert i (Finset.Ico (i + 1) 128) := by
    ext x; simp only [Finset.mem_Ico, Finset.mem_insert]; omega
  rw [e, Finset.sum_insert (by simp), add_comm]
theorem O_end (c : Fin 16) : O c 128 = 0 := by unfold O; rw [Finset.Ico_self, Finset.sum_empty]

def L (g : GSem nD τ sig) : Finset ℕ := if g.1.2 = .tc then Finset.range 3 else ∅
def lv (g : GSem nD τ sig) (r : ℕ) : ℕ :=
  match sortOf g.2 with
  | .bar => 4 * r + 1
  | .rs _ => 4 * r + 3
  | .ag _ => 4 * r + 6
  | _ => 0

theorem L_of_ne (g : GSem nD τ sig) (h : g.1.2 ≠ .tc) : L g = ∅ := if_neg h
theorem L_tc (c : Dev nD) (sm : SemLoc sig) : L (cell c sm) = Finset.range 3 := if_pos rfl

theorem lv_ph (d c : Fin 16) (ph : ℕ) (h : ph < 8) : lv (cell d (phSem ph c)) (phR ph) = phL ph := by
  unfold lv
  have h' : ph = 0 ∨ ph = 1 ∨ ph = 2 ∨ ph = 3 ∨ ph = 4 ∨ ph = 5 ∨ ph = 6 ∨ ph = 7 := by omega
  rcases h' with rfl | rfl | rfl | rfl | rfl | rfl | rfl | rfl <;> simp only [phSem, phR, phL, sortOf_bar, sortOf_rs, sortOf_ag]
theorem phR_lt (ph : ℕ) : phR ph < 3 := by unfold phR; split <;> decide

theorem O_pos {c : Fin 16} {i : ℕ} {g : GSem nD τ sig} {u : ℕ} (h : 0 < O c i g u) :
    ∃ j, i ≤ j ∧ j < 128 ∧ g = cell (phD (j / 16) (plc j)) (phSem (j / 16) c) ∧ u = phR (j / 16) := by
  unfold O at h
  rw [Finset.sum_apply, Finsupp.finset_sum_apply] at h
  obtain ⟨j, hj, hp⟩ := Finset.exists_ne_zero_of_sum_ne_zero h.ne'
  rw [Finset.mem_Ico] at hj
  refine ⟨j, hj.1, hj.2, ?_⟩
  unfold pay at hp
  split at hp
  · exact absurd rfl hp
  · rw [tallyAt_apply] at hp
    by_contra hn
    exact hp (if_neg hn)

/-- A device may wait at a level below every payment it still has to make. -/
theorem mayWait (c : Dev nD) (sm : SemLoc sig) (r i : ℕ) (hr : r < 3)
    (h : ∀ ph, i / 16 ≤ ph → ph < 8 → lv (cell c sm) r < phL ph) :
    (levAts L lv : sProp 𝕄) ⊢ MayWait (c : Thread nD τ) sm r (O c i) :=
  MayOwe.of_cut (L := L) (lev := lv) (lv (cell c sm) r)
    (fun p hp => by rw [Finset.mem_singleton.mp hp]; show r ∈ L (cell c sm); rw [L_tc]; exact Finset.mem_range.mpr hr)
    (fun g u hg => by
      obtain ⟨j, _, _, rfl, rfl⟩ := O_pos hg
      rw [L_tc]; exact Finset.mem_range.mpr (phR_lt _))
    (fun p hp => by rw [Finset.mem_singleton.mp hp])
    (fun g u hg => by
      obtain ⟨j, h1, h2, rfl, rfl⟩ := O_pos hg
      rw [lv_ph _ _ _ (by omega)]
      exact h _ (Nat.div_le_div_right h1) (by omega))

/-- What device `c` still owes. -/
def Ow (c : Dev nD) (i : ℕ) : sProp 𝕄 := iprop(∃ W, owes (c : Thread nD τ) (O c i) W)

/-- The invariants of all cells, and the levels. -/
def Ctx (K : Dev nD × SemLoc sig → ℕ) : sProp 𝕄 :=
  iprop((bigSep Finset.univ fun p : Dev nD × SemLoc sig => cellInv ER (Rd m) (K p) (cell p.1 p.2)) ∗ levAts L lv)

instance Ctx_persistent (K : Dev nD × SemLoc sig → ℕ) : BI.Persistent (Ctx m K) := by unfold Ctx; infer_instance

theorem Ctx_cell (K : Dev nD × SemLoc sig → ℕ) (c : Dev nD) (sm : SemLoc sig) :
    Ctx m K ⊢ cellInv ER (Rd m) (K (c, sm)) (cell c sm) := by
  unfold Ctx
  have h : (bigSep Finset.univ fun p : Dev nD × SemLoc sig => cellInv ER (Rd m) (K p) (cell p.1 p.2))
      ⊢ (cellInv ER (Rd m) (K (c, sm)) (cell c sm) : sProp 𝕄) := bigSep_elim (Finset.mem_univ (c, sm))
  iintro ⟨H, -⟩
  iapply h
  iexact H
theorem Ctx_lev (K : Dev nD × SemLoc sig → ℕ) : Ctx m K ⊢ (levAts L lv : sProp 𝕄) := by
  unfold Ctx; iintro ⟨-, H⟩; iexact H

end Cert.MlpIdeal
-- ==== Proof.Ideal.Family.lean ====
/-
# Families over the sixteen devices

A loop over the devices, in a fixed order, turns the assertion `P s` into `Q s`, one device `s` after the other.
`Fam P Q ord i` is the state before place `i`: `Q s` for the devices whose turn has come, `P s` for the others.
-/
module

public import proofs.«01_k».proof.Proof.Ideal.Protocol

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families -/

/-- A loop's state before place `i`. -/
def Fam (P Q : Fin 16 → sProp 𝕄) (ord : Fin 16 → Fin 16) (i : ℕ) : sProp 𝕄 :=
  bigSep Finset.univ fun s => if (ord s).val < i then Q s else P s

/-- All devices but `s`, at place `i`. -/
def FamRest (P Q : Fin 16 → sProp 𝕄) (ord : Fin 16 → Fin 16) (i : ℕ) (s : Fin 16) : sProp 𝕄 :=
  bigSep (Finset.univ.erase s) fun s => if (ord s).val < i then Q s else P s

variable {P Q : Fin 16 → sProp (MT nD τ sig ℕ (Elt F) ℕ UU ℕ)} {ord : Fin 16 → Fin 16}

theorem Fam_zero : Fam P Q ord 0 = bigSep Finset.univ P := by
  unfold Fam
  exact bigSep_congr fun s _ => if_neg (Nat.not_lt_zero _)
theorem Fam_end : Fam P Q ord 16 = bigSep Finset.univ Q := by
  unfold Fam
  exact bigSep_congr fun s _ => if_pos (ord s).isLt

/-- Before its turn, a device has `P`; -/
theorem Fam_take (s : Fin 16) (i : ℕ) (h : i ≤ (ord s).val) : Fam P Q ord i = iprop(P s ∗ FamRest P Q ord i s) := by
  unfold Fam FamRest
  rw [bigSep_univ_at _ s, if_neg (by omega)]
/-- after its turn, `Q`; -/
theorem Fam_done (s : Fin 16) (i : ℕ) (h : (ord s).val < i) : Fam P Q ord i = iprop(Q s ∗ FamRest P Q ord i s) := by
  unfold Fam FamRest
  rw [bigSep_univ_at _ s, if_pos h]
/-- and its turn changes nothing for the others. -/
theorem FamRest_succ (ho : Function.Injective ord) (s : Fin 16) (i : ℕ) (h : (ord s).val = i) :
    FamRest P Q ord (i + 1) s = FamRest P Q ord i s := by
  unfold FamRest
  refine bigSep_congr fun t ht => ?_
  have hts : t ≠ s := (Finset.mem_erase.mp ht).1
  have hne : (ord t).val ≠ i := fun e => hts (ho (Fin.ext (e.trans h.symm)))
  by_cases hl : (ord t).val < i
  · rw [if_pos hl, if_pos (by omega)]
  · rw [if_neg hl, if_neg (by omega)]

theorem Fam_next (ho : Function.Injective ord) (s : Fin 16) (i : ℕ) (h : (ord s).val = i) :
    Fam P Q ord (i + 1) = iprop(Q s ∗ FamRest P Q ord i s) := by
  rw [Fam_done s (i + 1) (by omega), FamRest_succ ho s i h]

theorem ap_injective : Function.Injective ap := fun a b h => by rw [← ap_ap a, h, ap_ap]

/-- One assertion about device `c`, another about every other device. -/
def split (c : Dev nD) (own : sProp 𝕄) (X : Fin 16 → sProp 𝕄) (s : Fin 16) : sProp 𝕄 := if s = c then own else X s
theorem split_own (c : Dev nD) (own : sProp 𝕄) (X : Fin 16 → sProp 𝕄) (s : Fin 16) (h : s = c) : split c own X s = own := if_pos h
theorem split_ne (c : Dev nD) (own : sProp 𝕄) (X : Fin 16 → sProp 𝕄) (s : Fin 16) (h : s ≠ c) : split c own X s = X s := if_neg h

/-- An assertion about every device but `c`. -/
def others (c : Dev nD) (X : Fin 16 → sProp 𝕄) : sProp 𝕄 := bigSep (Finset.univ.erase c) X

theorem split_all (c : Dev nD) (own : sProp 𝕄) (X : Fin 16 → sProp 𝕄) :
    bigSep Finset.univ (split c own X) = iprop(own ∗ others c X) := by
  unfold others
  rw [bigSep_univ_at _ c, split_own _ _ _ _ rfl]
  congr 1
  exact bigSep_congr fun s hs => split_ne _ _ _ _ (Finset.mem_erase.mp hs).1
theorem others_sep (c : Dev nD) (X Y : Fin 16 → sProp 𝕄) : others c (fun s => iprop(X s ∗ Y s)) = iprop(others c X ∗ others c Y) := by
  unfold others; exact bigSep_sep' ..
theorem split_emp_all (c : Dev nD) (X : Fin 16 → sProp 𝕄) : bigSep Finset.univ (split c iprop(emp) X) = others c X := by
  rw [split_all]
  exact equiv_iff.mp BI.emp_sep

/-- The device that device `c` serves at place `i` of scatter `r`, as the place that serves device `s`. -/
theorem sentB_sentB (r : ℕ) (s : Fin 16) : sentB r (sentB r s) = s := by
  unfold sentB; split
  · exact ap_ap s
  · rfl
theorem sentB_injective (r : ℕ) : Function.Injective (sentB r) := fun a b h => by rw [← sentB_sentB r a, h, sentB_sentB]

/-! ## What is owed, step by step -/

variable (m : (ℓ : Loc nD τ sig) → Buf (Elt F) ℓ)

/-- The device at place `i` of a loop. -/
theorem plc_val (i : ℕ) (h : i < 16) : (plc i).val = i := Nat.mod_eq_of_lt h

theorem pay_at (c : Fin 16) (ph i : ℕ) (h : i < 16) : pay c (16 * ph + i)
    = if phD ph (plc i) = c then 0 else tallyAt (cell (phD ph (plc i)) (phSem ph c)) (phR ph) (phN ph) := by
  unfold pay
  rw [show (16 * ph + i) / 16 = ph by omega, show plc (16 * ph + i) = plc i from Fin.ext (by show (16 * ph + i) % 16 = i % 16; omega)]

/-- The state of what is owed before place `i` of meeting `ph`. -/
def OwP (c : Dev nD) (ph i : ℕ) : sProp 𝕄 := Ow c (16 * ph + i)

theorem OwP_own (c : Dev nD) (ph i : ℕ) (hp : ph < 8) (h : i < 16) (hc : phD ph (plc i) = c) :
    OwP (F := F) c ph i = OwP c ph (i + 1) := by
  unfold OwP Ow
  rw [O_step c (16 * ph + i) (by omega), pay_at c ph i h, if_pos hc, add_zero]; rfl
theorem O_other (c s : Dev nD) (ph i : ℕ) (hp : ph < 8) (h : i < 16) (hs : phD ph (plc i) = s) (hc : s ≠ c) :
    O c (16 * ph + i) = O c (16 * ph + (i + 1)) + tallyAt (cell s (phSem ph c)) (phR ph) (phN ph) := by
  rw [O_step c (16 * ph + i) (by omega), pay_at c ph i h, hs, if_neg hc]; rfl

end Cert.MlpIdeal
-- ==== Proof.Ideal.Steps.lean ====
/-
# One step of the program
-/
module

public import proofs.«01_k».proof.Proof.Ideal.Family

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Hands the kernel's arguments to a part of its body. -/
abbrev onArgs {β : Sort _} (f : (arg0 : Memref sig .tc .hbm S256x256 .f32) → (harg0 : arg0.IsWhole) → (arg1 : Memref sig .tc .hbm S256x512 .f32) → (harg1 : arg1.IsWhole) → (arg2 : Memref sig .tc .hbm S512x256 .f32) → (harg2 : arg2.IsWhole) → (arg3 : Memref sig .tc .hbm S256x512 .f32) → (harg3 : arg3.IsWhole) → (arg4 : Memref sig .tc .hbm S512x256 .f32) → (harg4 : arg4.IsWhole) → (arg5 : Memref sig .tc .hbm S256x512 .f32) → (harg5 : arg5.IsWhole) → (arg6 : Memref sig .tc .hbm S512x256 .f32) → (harg6 : arg6.IsWhole) → (arg7 : Memref sig .tc .hbm S16x256 .f32) → (harg7 : arg7.IsWhole) → (arg8 : Memref sig .tc .vmem S256x256 .f32) → (harg8 : arg8.IsWhole) → (arg9 : Memref sig .tc .vmem S3x256x512 .f32) → (harg9 : arg9.IsWhole) → (arg10 : Memref sig .tc .vmem S3x512x256 .f32) → (harg10 : arg10.IsWhole) → (arg11 : Memref sig .tc .vmem S16x256 .f32) → (harg11 : arg11.IsWhole) → (arg12 : Memref sig .tc .vmem S256x256 .bf16) → (harg12 : arg12.IsWhole) → (arg13 : Memref sig .tc .vmem S16x256 .bf16) → (harg13 : arg13.IsWhole) → (arg14 : Memref sig .tc .vmem S16x16x256 .bf16) → (harg14 : arg14.IsWhole) → (arg15 : Memref sig .tc .vmem S16x16x256 .bf16) → (harg15 : arg15.IsWhole) → (arg16 : DmaSems sig S16) → (arg17 : DmaSems sig S16) → (arg18 : DmaSems sig S16) → (arg19 : DmaSems sig S16) → (arg20 : DmaSems sig S8) → β) : β :=
  f (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12

/-- Running a program on device `c`. -/
abbrev PP : Type → Type 1 := Prog (TpuEff nD τ sig (Elt F) Λ₀ .tc)

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-! ## Barriers -/

/-- The meeting of barrier `r`. -/
def phB (r : ℕ) : ℕ := if r = 0 then 0 else if r = 1 then 2 else 5

/-- What device `c` needs to signal the others at barrier `r`. -/
def sigP (r : ℕ) (c : Dev nD) : Fin 16 → sProp 𝕄 := split c iprop(emp) fun s =>
  iprop(dutyTok ER (cell s (.reg barS)) r c ∗ barPay s r c ∗ reached ER (cell s (.reg barS)) r)

/-- The state of the signals of barrier `r`. -/
def SigF (r : ℕ) (c : Dev nD) (i : ℕ) : sProp 𝕄 := Fam (sigP r c) (fun _ => iprop(emp)) id i

/-- One signal of barrier `r`. -/
theorem step_signal {r i : ℕ} {cond : Prop} [Decidable cond] {dev : cond → Dev nD} {sem : Sem sig}
    (hk : Ctx m K ∗ OwP c (phB r) (i + 1) ∗ SigF r c (i + 1) ∗ R ⊢ wp frame (wpE (defs₀ (F := F)) Variants.none (c : Thread nD τ) none) Set.univ k Q)
    (hr : r < 3 := by decide +kernel) (hi : i < 16 := by decide +kernel) (hsem : sem = barS := by rfl)
    (hc : cond ↔ plc i ≠ c := by revert c; decide +kernel)
    (hd : ∀ h, dev h = plc i := by revert c; decide +kernel) :
    Ctx m K ∗ OwP c (phB r) i ∗ SigF r c i ∗ R ⊢
      wp frame (wpE (defs₀ (F := F)) Variants.none (c : Thread nD τ) none) Set.univ (if h : cond then (semSignalWord (dev h) sem 1#32 >>= fun _ => k) else k) Q := by
  subst hsem
  have hph : phD (phB r) (plc i) = plc i := by
    unfold phB; (repeat' split) <;> rfl
  have hv := plc_val i hi
  have hp : phB r < 8 := by unfold phB; (repeat' split) <;> decide
  have hS : phSem (phB r) c = .reg barS ∧ phR (phB r) = r ∧ phN (phB r) = 1 := by
    have : r = 0 ∨ r = 1 ∨ r = 2 := by omega
    rcases this with rfl | rfl | rfl <;> exact ⟨rfl, rfl, rfl⟩
  by_cases hsc : plc i = c
  · rw [dif_neg (fun h => (hc.mp h) hsc)]
    refine BIBase.Entails.trans (Entails.of_eq ?_) hk
    unfold SigF
    rw [Fam_take (ord := id) (plc i) i (le_of_eq hv.symm), Fam_next Function.injective_id (plc i) i hv, OwP_own c _ i hp hi (hph.trans hsc)]
    unfold sigP; rw [split_own _ _ _ _ hsc]
  · rw [dif_pos (hc.mpr hsc), hd]
    have hO : O c (16 * phB r + i) = O c (16 * phB r + (i + 1)) + tallyAt ((plc i : Thread nD τ), .reg barS) r (1#32).toNat := by
      rw [O_other c (plc i) (phB r) i hp hi hph hsc, hS.1, hS.2.1, hS.2.2]; rfl
    unfold SigF
    unfold SigF at hk
    rw [Fam_next Function.injective_id (plc i) i hv] at hk
    rw [Fam_take (ord := id) (plc i) i (le_of_eq hv.symm)]
    conv => rhs; simp only [semSignalWord, Prog.lift, Prog.bind_op, Prog.bind_ret]
    unfold sigP OwP Ow
    rw [split_ne _ _ _ _ hsc]
    iintro ⟨#HC, ⟨%W, HO⟩, ⟨⟨Htok, Hpay, #Hr⟩, HF⟩, HR⟩
    iapply (Rounds.wp_signal Variants.none ER (Rd m) (c : Thread nD τ) none (dst := (plc i : Thread nD τ)) (κ := K (plc i, .reg barS))
      (r := r) (d := c) (by rw [duties_bar m _ _ hr]; exact Finset.mem_erase.mpr ⟨fun e => hsc e.symm, Finset.mem_univ _⟩)
      ((amount_bar m (plc i) r c).trans (by decide)) r (O c (16 * phB r + (i + 1))) hO) $$ [HO Htok Hpay]
    · isplitr; · iapply (Ctx_cell m K (plc i) (.reg barS)); iexact HC
      isplitl [HO]; · iexact HO
      isplitl [Htok]; · iexact Htok
      isplitl [Hpay]; · rw [payload_bar]; iexact Hpay
      iexact Hr
    iintro HO
    iapply hk
    isplitr; · iexact HC
    isplitl [HO]; · unfold OwP Ow; iexists W; iexact HO
    isplitl [HF]
    · isplitr; · iempintro
      iexact HF
    iexact HR

/-- A wait for all that a cell expects in a round, by a device that still owes its payments from `i` of meeting `ph` on. -/
theorem core_wait {sm : SemLoc sig} {r n ph i : ℕ} {w : TpuEff nD τ sig (Elt F) Λ₀ .tc PUnit}
    (hw : ∀ X : PUnit → sProp 𝕄, wpE (defs₀ (F := F)) Variants.none (c : Thread nD τ) none Set.univ w X
      = waitSpec (c : Thread nD τ) Set.univ sm n X)
    (hr : r < 3) (he : (Rd m).expect (cell c sm) r = n)
    (hlv : ∀ ph', (16 * ph + i) / 16 ≤ ph' → ph' < 8 → lv (cell c sm) r < phL ph')
    (hk : Ctx m K ∗ OwP c ph i ∗ (atPos ER (cell c sm) (r + 1) ∅ 0 ∗ reached ER (cell c sm) (r + 1)
        ∗ bigSep ((Rd m).duties (cell c sm) r \ ∅) (fun d => (Rd m).payload (cell c sm) r d)) ∗ R ⊢ wp frame (wpE (defs₀ (F := F)) Variants.none (c : Thread nD τ) none) Set.univ k Q) :
    Ctx m K ∗ OwP c ph i ∗ (cred (tallyAt (cell c sm) r n) ∗ atPos ER (cell c sm) r ∅ 0) ∗ R
      ⊢ wp frame (wpE (defs₀ (F := F)) Variants.none (c : Thread nD τ) none) Set.univ (.op w fun _ => k) Q := by
  have hmay : Ctx m K ⊢ (MayWait (c : Thread nD τ) sm r (O c (16 * ph + i)) : sProp 𝕄) :=
    BIBase.Entails.trans (Ctx_lev m K) (mayWait (F := F) c sm r (16 * ph + i) hr hlv)
  unfold OwP Ow
  iintro ⟨#HC, ⟨%W, HO⟩, ⟨Hcr, Hat⟩, HR⟩
  iapply (Rounds.wp_wait_rest_token Variants.none ER (Rd m) (c : Thread nD τ) none (κ := K (c, sm)) hw (Set.mem_univ _) r
    (O := O c (16 * ph + i)) (W := W) (R := r) (m := 0) (T := ∅) (by rw [he]; exact Nat.zero_add n)) $$ [Hcr HO Hat]
  · isplitr; · iapply (Ctx_cell m K c sm); iexact HC
    isplitl [Hcr]; · iexact Hcr
    isplitl [HO]; · iexact HO
    isplitr
    · iapply hmay; iexact HC
    iexact Hat
  iintro ⟨HO, Hat, Hre, Hp⟩
  iapply hk
  isplitr; · iexact HC
  isplitl [HO]; · unfold OwP Ow; iexists (insert (sm, r) W); iexact HO
  isplitl [Hat Hre Hp]
  · isplitl [Hat]; · iexact Hat
    isplitl [Hre]; · iexact Hre
    iexact Hp
  iexact HR

/-- A cell with one duty in the round hands over that duty's payload. -/
theorem core_wait_one {sm : SemLoc sig} {r n ph i : ℕ} {d : Fin 16} {w : TpuEff nD τ sig (Elt F) Λ₀ .tc PUnit} {T : sProp 𝕄}
    (hw : ∀ X : PUnit → sProp 𝕄, wpE (defs₀ (F := F)) Variants.none (c : Thread nD τ) none Set.univ w X
      = waitSpec (c : Thread nD τ) Set.univ sm n X)
    (hr : r < 3) (hdut : (Rd m).duties (cell c sm) r = {d}) (ha : (Rd m).amount (cell c sm) r d = n)
    (hT : (Rd m).payload (cell c sm) r d = T)
    (hlv : ∀ ph', (16 * ph + i) / 16 ≤ ph' → ph' < 8 → lv (cell c sm) r < phL ph')
    (hk : Ctx m K ∗ OwP c ph i ∗ (atPos ER (cell c sm) (r + 1) ∅ 0 ∗ reached ER (cell c sm) (r + 1) ∗ T) ∗ R ⊢ wp frame (wpE (defs₀ (F := F)) Variants.none (c : Thread nD τ) none) Set.univ k Q) :
    Ctx m K ∗ OwP c ph i ∗ (cred (tallyAt (cell c sm) r n) ∗ atPos ER (cell c sm) r ∅ 0) ∗ R
      ⊢ wp frame (wpE (defs₀ (F := F)) Variants.none (c : Thread nD τ) none) Set.univ (.op w fun _ => k) Q := by
  refine core_wait hw hr (expect_one m r hdut ha) hlv ?_
  rw [rest_one m r hdut, hT]
  exact hk

/-- The wait of barrier `r`. -/
theorem step_bar {r ph i : ℕ} {sem : Sem sig}
    (hk : Ctx m K ∗ OwP c ph i ∗ (atPos ER (cell c (.reg barS)) (r + 1) ∅ 0 ∗ reached ER (cell c (.reg barS)) (r + 1)
        ∗ others c (barPay c r)) ∗ R ⊢ wp frame (wpE (defs₀ (F := F)) Variants.none (c : Thread nD τ) none) Set.univ k Q)
    (hr : r < 3 := by decide +kernel) (hsem : sem = barS := by rfl)
    (hlv : ∀ ph' < 8, (16 * ph + i) / 16 ≤ ph' → 4 * r + 1 < phL ph' := by decide +kernel) :
    Ctx m K ∗ OwP c ph i ∗ (cred (tallyAt (cell c (.reg barS)) r 15) ∗ atPos ER (cell c (.reg barS)) r ∅ 0) ∗ R
      ⊢ wp frame (wpE (defs₀ (F := F)) Variants.none (c : Thread nD τ) none) Set.univ (semWaitWord sem 15#32 >>= fun _ => k) Q := by
  subst hsem
  conv => rhs; simp only [semWaitWord, Prog.lift, Prog.bind_op, Prog.bind_ret]
  refine core_wait (wpE_semWait_eq Variants.none (c : Thread nD τ) none Set.univ) hr (expect_bar m c r hr)
    (fun ph' h1 h2 => hlv ph' h2 h1) ?_
  rw [duties_bar m c r hr, Finset.sdiff_empty]
  exact hk

end Cert.MlpIdeal
-- ==== Proof.Ideal.Scatter.lean ====
/-
# Scatters and gathers: the sending side

In scatter `r` a device sends one block of its partial result to every other device and stores its own block into its own
receive buffer; in gather `r` it sends its summed rows to every other device and stores them into its own receive buffer.
-/
module

public import proofs.«01_k».proof.Proof.Ideal.Steps

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-! ## Pieces named by their offsets -/

theorem slot_eq (M : Memref sig .tc .vmem S16x16x256 .bf16) (s : Fin 16) {off : Fin 3 → ℕ} {inb} {hst}
    (h : off = ![s.val, 0, 0]) :
    (M.slice (Rect.unit (s := S16x16x256) off S1x16x256.size inb) hst).squeeze S16x256 squeezes_S1x16x256_S16x256 = slot M s := by
  subst h; rfl
theorem blkM_eq (b : Fin 16) {off : Fin 2 → ℕ} {inb} {hst} (h : off = ![16 * b.val, 0]) :
    pM.slice (Rect.unit (s := S256x256) off S16x256.size inb) hst = blkM b := by
  subst h; rfl

/-- A slot at an offset. -/
abbrev slotO (M : Memref sig .tc .vmem S16x16x256 .bf16) (off : Fin 3 → ℕ) (inb : ∀ a, off a + S1x16x256.size a ≤ S16x16x256.size a) :
    Memref sig .tc .vmem S16x256 .bf16 :=
  (M.slice (Rect.unit (s := S16x16x256) off S1x16x256.size inb) (fun _ => rfl)).squeeze S16x256 squeezes_S1x16x256_S16x256
/-- A block at an offset. -/
abbrev blkO (off : Fin 2 → ℕ) (inb : ∀ a, off a + S16x256.size a ≤ S256x256.size a) : Memref sig .tc .vmem S16x256 .bf16 :=
  pM.slice (Rect.unit (s := S256x256) off S16x256.size inb) (fun _ => rfl)
/-- A semaphore of an array of sixteen, at an offset. -/
abbrev semO (A : DmaSems sig S16) (off : Fin 1 → ℕ) (inb : ∀ a, off a + S1.size a ≤ S16.size a) : DmaSem sig :=
  ((A.slice (Rect.unit (s := S16) off S1.size inb)).squeeze S_ squeezes_S1_S_).sem

/-- The elements of a slot. -/
theorem slot_set (M : Memref sig .tc .vmem S16x16x256 .bf16) (s : Fin 16) :
    (slot M s).view.set = M.view.setOn (Rect.unit (s := S16x16x256) ![s.val, 0, 0] S1x16x256.size (inbSlot s)).set := by
  refine (View.set_reshape _ _).trans ?_
  exact View.set_slice _ _
theorem blk_set (b : Fin 16) :
    (blkM b).view.set = pM.view.setOn (Rect.unit (s := S256x256) ![16 * b.val, 0] S16x256.size (inbBlk b)).set :=
  View.set_slice _ _

/-! ## Scatter -/

/-- The meeting of scatter `r`. -/
def phS (r : ℕ) : ℕ := if r = 0 then 1 else if r = 1 then 4 else 7

/-- What device `c` needs for its message to device `s` in scatter `r`, and for its own block. -/
def rsP (r : ℕ) (c : Dev nD) : Fin 16 → sProp 𝕄 := split c (anyAt (slot rsM c) c) fun s =>
  iprop(anyAt (slot rsM c) s ∗ reached ER (cell s (.dma (rsS c))) r ∗ dutyTok ER (cell s (.dma (rsS c))) r c
    ∗ dutyTok ER (cell c (.dma (rsendS s))) r s ∗ reached ER (cell c (.dma (rsendS s))) r
    ∗ reached ER (cell c (.reg barS)) (r + 1))
/-- What it has afterwards. -/
def rsQ (m : (ℓ : Loc nD τ sig) → Buf (Elt F) ℓ) (r : ℕ) (c : Dev nD) : Fin 16 → sProp 𝕄 :=
  split c iprop(anyAt (blkM (sentB r c)) c ∗ holds (slot rsM c) c (blk m r c c)) fun s =>
    cred (tallyAt (cell c (.dma (rsendS s))) r N)

/-- The state of the sends of scatter `r`. -/
def RsF (m : (ℓ : Loc nD τ sig) → Buf (Elt F) ℓ) (r : ℕ) (c : Dev nD) (i : ℕ) : sProp 𝕄 := Fam (rsP r c) (rsQ m r c) (sentB r) i
/-- The state after the message of place `i` and before the own block. -/
def RsMid (m : (ℓ : Loc nD τ sig) → Buf (Elt F) ℓ) (r : ℕ) (c : Dev nD) (i : ℕ) : sProp 𝕄 :=
  iprop((if sentB r (plc i) = c then iprop(holds (blkM (sentB r c)) c (blk m r c c) ∗ anyAt (slot rsM c) c)
    else cred (tallyAt (cell c (.dma (rsendS (sentB r (plc i))))) r N))
    ∗ FamRest (rsP r c) (rsQ m r c) (sentB r) i (sentB r (plc i)))

theorem phS_facts (r : ℕ) (hr : r < 3) (c p : Fin 16) : phS r < 8 ∧ phD (phS r) p = sentB r p ∧ phSem (phS r) c = .dma (rsS c)
    ∧ phR (phS r) = r ∧ phN (phS r) = N := by
  have : r = 0 ∨ r = 1 ∨ r = 2 := by omega
  rcases this with rfl | rfl | rfl <;> exact ⟨by decide, rfl, rfl, rfl, rfl⟩

/-- The block of place `i` of scatter `r`. -/
def Blk (m : (ℓ : Loc nD τ sig) → Buf (Elt F) ℓ) (r : ℕ) (c : Dev nD) (i : ℕ) : sProp 𝕄 :=
  holds (blkM (plc i)) c (blk m r c (sentB r (plc i)))

/-- The message to one other device. -/
theorem core_rs_send {r i : ℕ} {s : Dev nD} {src : Memref sig .tc .vmem S16x256 .bf16}
    {dst : Memref sig .tc .vmem S16x256 .bf16} {dev : Dev nD} {sS sem : DmaSem sig}
    {hsc : dst.view.ref.isScScratch = false} {h1 : src.view.WordExact} {h2 : dst.view.WordExact}
    {h3 : DmaTarget.Typed .vmem (SemLoc.dma sem) (.remote (dev : Thread nD τ) dst (SemLoc.dma sS) hsc)}
    (hr : r < 3) (hi : i < 16) (hs : sentB r (plc i) = s) (hsc' : s ≠ c) (hsrc : src = blkM (plc i)) (hdst : dst = slot rsM c)
    (hdev : dev = s) (hsS : sS = rsendS s) (hsem : sem = rsS c) {X : sProp 𝕄}
    (hk : Ctx m K ∗ OwP c (phS r) (i + 1) ∗ (cred (tallyAt (cell c (.dma (rsendS s))) r N) ∗ X) ∗ R ⊢ wp frame (wpE (defs₀ (F := F)) Variants.none (c : Thread nD τ) none) Set.univ k Q) :
    Ctx m K ∗ OwP c (phS r) i ∗ ((anyAt (slot rsM c) s ∗ reached ER (cell s (.dma (rsS c))) r
      ∗ dutyTok ER (cell s (.dma (rsS c))) r c ∗ dutyTok ER (cell c (.dma (rsendS s))) r s
      ∗ reached ER (cell c (.dma (rsendS s))) r ∗ reached ER (cell c (.reg barS)) (r + 1)) ∗ X) ∗ Blk m r c i ∗ R
      ⊢ wp frame (wpE (defs₀ (F := F)) Variants.none (c : Thread nD τ) none) Set.univ (.op (.enqueueDma src (.remote (dev : Thread nD τ) dst (.dma sS) hsc) (.dma sem) h1 h2 h3) fun _ => k) Q := by
  subst hsrc hdst hdev hsS hsem
  obtain ⟨hp, hD, hS, hR, hN⟩ := phS_facts r hr c (plc i)
  have hO : O c (16 * phS r + i) = O c (16 * phS r + (i + 1)) + tallyAt (cell dev (.dma (rsS c))) r N := by
    rw [O_other c dev (phS r) i hp hi (hD.trans hs) hsc', hS, hR, hN]
  have hb : sentB r dev = plc i := by rw [← hs, sentB_sentB]
  unfold Blk OwP Ow
  rw [hs]
  unfold anyAt holds
  iintro ⟨#HC, ⟨%W, HO⟩, ⟨⟨⟨%fd, Hd⟩, #Hr2, Ht2, Ht1, #Hr1, #Hb⟩, HX⟩, ⟨%fs, Hs, %hfs⟩, HR⟩
  iapply (Rounds.wp_send_pointsTo_with Variants.none ER (Rd m) (c : Thread nD τ) none (c' := (dev : Thread nD τ))
      (κ₁ := K (c, .dma (rsendS dev))) (κ₂ := K (dev, .dma (rsS c)))
      (F := reached ER (cell c (.reg barS)) (r + 1)) (r₁ := r) (r₂ := r) (d₁ := dev) (d₂ := c) (fd := fd)
      (by rw [duties_rsend m c dev r hr hsc']; exact Finset.mem_singleton_self _)
      (by rw [duties_rs m dev c r hr (fun e => hsc' e.symm)]; exact Finset.mem_singleton_self _)
      r r N rfl (amount_rsend m c dev r dev) (amount_rs m dev c r c) (O c (16 * phS r + (i + 1))) hO (W := W)
      (by rw [payload_rsend, hb]; unfold anyAt; iintro H; iexists fs; iexact H)
      (by
        rw [payload_rs]; unfold holds
        iintro ⟨H, Hb⟩
        isplitl [H]
        · iexists _
          isplitl [H]; · iexact H
          ipureintro
          rw [View.read_write_univ]; exact hfs
        · iexact Hb)) $$ [HO Hd Ht2 Ht1 Hs]
  · isplitr; · iapply (Ctx_cell m K c (.dma (rsendS dev))); iexact HC
    isplitr; · iapply (Ctx_cell m K dev (.dma (rsS c))); iexact HC
    isplitl [Hs]; · iexact Hs
    isplitl [Hd]
    · isplitl [Hd]; · iexact Hd
      iexact Hb
    isplitl [HO]; · iexact HO
    isplitl [Ht1]; · iexact Ht1
    isplitr; · iexact Hr1
    isplitl [Ht2]; · iexact Ht2
    iexact Hr2
  iintro ⟨Hcr, HO⟩
  iapply hk
  isplitr; · iexact HC
  isplitl [HO]; · unfold OwP Ow; iexists W; iexact HO
  isplitl [Hcr HX]
  · isplitl [Hcr]; · iexact Hcr
    iexact HX
  iexact HR

/-- The message of place `i`. -/
theorem step_rs_send {r i : ℕ} {cond : Prop} [Decidable cond] {offb : Fin 2 → ℕ} {inbb}
    {offd : Fin 3 → ℕ} {inbd : cond → ∀ a, offd a + S1x16x256.size a ≤ S16x16x256.size a}
    {dev : cond → Dev nD} {offS : Fin 1 → ℕ} {inbS} {offs : Fin 1 → ℕ} {inbs : cond → ∀ a, offs a + S1.size a ≤ S16.size a}
    {h0 : ∀ h, (slotO rsM offd (inbd h)).view.ref.isScScratch = false} {h1 : cond → (blkO offb inbb).view.WordExact}
    {h2 : ∀ h, (slotO rsM offd (inbd h)).view.WordExact}
    {h3 : ∀ h, DmaTarget.Typed .vmem (SemLoc.dma (semO cc0_scratch8 offs (inbs h)))
      (.remote (dev h : Thread nD τ) (slotO rsM offd (inbd h)) (SemLoc.dma (semO cc0_scratch10 offS inbS)) (h0 h))}
    (hk : Ctx m K ∗ OwP c (phS r) (i + 1) ∗ RsMid m r c i ∗ R ⊢ wp frame (wpE (defs₀ (F := F)) Variants.none (c : Thread nD τ) none) Set.univ k Q)
    (hr : r < 3 := by decide +kernel) (hi : i < 16 := by decide +kernel)
    (hc : cond ↔ sentB r (plc i) ≠ c := by revert c; decide +kernel)
    (hob : offb = ![16 * (plc i).val, 0] := by decide +kernel)
    (hod : offd = ![c.val, 0, 0] := by revert c; decide +kernel)
    (hdev : ∀ h, dev h = sentB r (plc i) := by revert c; decide +kernel)
    (hoS : offS = ![(sentB r (plc i)).val] := by decide +kernel)
    (hos : offs = ![c.val] := by revert c; decide +kernel) :
    Ctx m K ∗ OwP c (phS r) i ∗ RsF m r c i ∗ Blk m r c i ∗ R ⊢
      wp frame (wpE (defs₀ (F := F)) Variants.none (c : Thread nD τ) none) Set.univ (if h : cond then
        (Prog.lift (.enqueueDma (blkO offb inbb)
          (.remote (dev h : Thread nD τ) (slotO rsM offd (inbd h)) (.dma (semO cc0_scratch10 offS inbS)) (h0 h))
          (.dma (semO cc0_scratch8 offs (inbs h)))
          (h1 h) (h2 h) (h3 h)) >>= fun _ => k) else k) Q := by
  have hv := plc_val i hi
  have hord : (sentB r (sentB r (plc i))).val = i := by rw [sentB_sentB]; exact hv
  obtain ⟨hp, hD, -, -, -⟩ := phS_facts r hr c (plc i)
  unfold RsMid at hk
  unfold RsF
  rw [Fam_take (sentB r (plc i)) i (le_of_eq hord.symm)]
  by_cases hsc : sentB r (plc i) = c
  · rw [dif_neg (fun h => (hc.mp h) hsc)]
    refine BIBase.Entails.trans ?_ hk
    rw [if_pos hsc, OwP_own c _ i hp hi (hD.trans hsc)]
    unfold rsP Blk
    rw [split_own _ _ _ _ hsc, hsc, show plc i = sentB r c by rw [← hsc, sentB_sentB]]
    iintro ⟨HC, HO, ⟨Ha, HF⟩, Hb, HR⟩
    isplitl [HC]; · iexact HC
    isplitl [HO]; · iexact HO
    isplitl [Ha HF Hb]
    · isplitl [Ha Hb]
      · isplitl [Hb]; · iexact Hb
        iexact Ha
      iexact HF
    iexact HR
  · rw [if_neg hsc] at hk
    rw [dif_pos (hc.mpr hsc)]
    unfold rsP
    rw [split_ne _ _ _ _ hsc]
    conv => rhs; simp only [Prog.lift, Prog.bind_op, Prog.bind_ret]
    exact core_rs_send hr hi rfl hsc (blkM_eq _ hob) (slot_eq _ _ hod) (hdev _) (rsendS_eq _ _ hoS) (rsS_eq _ _ hos) hk

theorem dn_up (v : Vec F S16x256 .bf16) : shapeCast S16x256 (up v) shapeCasts_S1x16x256_S16x256 = v :=
  (shapeCast_shapeCast (s := S16x256) (t := S1x16x256) v shapeCasts_S16x256_S1x16x256 shapeCasts_S1x16x256_S16x256).trans rfl

/-- Storing the own block, at the place of the own device. -/
theorem step_rs_own {r i : ℕ} {cond : Prop} [Decidable cond] {offb : Fin 2 → ℕ} {inbb}
    {offd : Fin 3 → ℕ} {inbd : ∀ a, offd a + S1x16x256.size a ≤ S16x16x256.size a}
    {h0 : cond → pM.view.LoadsAt (Rect.unit (s := S256x256) offb S16x256.size inbb).toLoadRect}
    {h1 : cond → rsM.view.LoadsAt (Rect.unit (s := S16x16x256) offd S1x16x256.size inbd).toLoadRect}
    {h2 : cond → (rsM.access (Rect.unit (s := S16x16x256) offd S1x16x256.size inbd)).Stores Finset.univ}
    {h3 : cond → ((Finset.univ : Finset (Rect.unit (s := S16x16x256) offd S1x16x256.size inbd).shape.Idx) = Finset.univ
      ∨ ∀ a, (Rect.unit (s := S16x16x256) offd S1x16x256.size inbd).stride a = 1)} {payf : Vec F S16x256 .bf16 → Vec F S1x16x256 .bf16}
    (hk : Ctx m K ∗ OwP c (phS r) (i + 1) ∗ RsF m r c (i + 1) ∗ R ⊢ wp frame (wpE (defs₀ (F := F)) Variants.none (c : Thread nD τ) none) Set.univ k Q)
    (hr : r < 3 := by decide +kernel) (hi : i < 16 := by decide +kernel)
    (hc : cond ↔ sentB r (plc i) = c := by revert c; decide +kernel)
    (hob : offb = ![16 * (plc i).val, 0] := by decide +kernel)
    (hod : offd = ![(sentB r (plc i)).val, 0, 0] := by decide +kernel)
    (hpay : payf = up := by rfl) :
    Ctx m K ∗ OwP c (phS r) (i + 1) ∗ RsMid m r c i ∗ R ⊢
      wp frame (wpE (defs₀ (F := F)) Variants.none (c : Thread nD τ) none) Set.univ (if h : cond then
        (Prog.lift (.load pM (Rect.unit (s := S256x256) offb S16x256.size inbb).toLoadRect (h0 h)) >>= fun v =>
          Prog.lift (.load rsM (Rect.unit (s := S16x16x256) offd S1x16x256.size inbd).toLoadRect (h1 h)) >>= fun _ =>
          Prog.lift (.store rsM (Rect.unit (s := S16x16x256) offd S1x16x256.size inbd) (payf v) Finset.univ (h2 h) (h3 h)) >>= fun _ => k)
        else k) Q := by
  have hv := plc_val i hi
  have hord : (sentB r (sentB r (plc i))).val = i := by rw [sentB_sentB]; exact hv
  unfold RsF at hk
  unfold RsMid
  rw [Fam_next (sentB_injective r) (sentB r (plc i)) i hord] at hk
  subst hob hod hpay
  by_cases hsc : sentB r (plc i) = c
  · rw [dif_pos (hc.mpr hsc), if_pos hsc]
    have hq : rsQ m r c (sentB r (plc i)) = iprop(anyAt (blkM (sentB r c)) c ∗ holds (slot rsM c) c (blk m r c c)) :=
      split_own _ _ _ _ hsc
    rw [hq] at hk
    clear hq
    conv => rhs; simp only [Prog.lift, Prog.bind_op, Prog.bind_ret]
    have hb : sentB r c = plc i := by rw [← hsc, sentB_sentB]
    rw [hb] at hk ⊢
    obtain rfl := hsc
    unfold anyAt holds at hk ⊢
    iintro ⟨HC, HO, ⟨⟨⟨%f, Hb, %hf⟩, ⟨%g, Hs⟩⟩, HF⟩, HR⟩
    iapply (wp_load Variants.none (sentB r (plc i) : Thread nD τ) none Set.univ (m := pM) (by rw [blk_set])) $$ Hb
    iintro Hb
    iapply (wp_load Variants.none (sentB r (plc i) : Thread nD τ) none Set.univ (m := rsM) (by rw [slot_set])) $$ Hs
    iintro Hs
    iapply (wp_store Variants.none (sentB r (plc i) : Thread nD τ) none Set.univ (m := rsM)
      (r := Rect.unit (s := S16x16x256) ![(sentB r (plc i)).val, 0, 0] S1x16x256.size inbd) (Mk := Finset.univ)
      (S := (slot rsM (sentB r (plc i))).view.set)
      (by rw [slot_set, View.setOn_univ, View.set_slice]; exact Finset.Subset.refl _)) $$ Hs
    iintro Hs
    iapply hk
    isplitl [HC]; · iexact HC
    isplitl [HO]; · iexact HO
    isplitl [Hb Hs HF]
    · isplitl [Hb Hs]
      · isplitl [Hb]; · iexists f; iexact Hb
        iexists _
        isplitl [Hs]; · iexact Hs
        ipureintro
        rw [store_slot, ← hf]
        exact dn_up _
      iexact HF
    iexact HR
  · rw [dif_neg (fun h => hsc (hc.mp h)), if_neg hsc]
    unfold rsQ at hk
    rw [split_ne _ _ _ _ hsc] at hk
    exact hk

end Cert.MlpIdeal
-- ==== Proof.Ideal.Gather.lean ====
/-
# Gathers: the sending side
-/
module

public import proofs.«01_k».proof.Proof.Ideal.Scatter

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-- The meeting of gather `r`. -/
def phA (r : ℕ) : ℕ := if r = 0 then 3 else 6

theorem read_rows (f : rM.view.ty.Contents (Elt F)) (inb : ∀ a, (![0, 0] : Fin 2 → ℕ) a + S16x256.size a ≤ S16x256.size a) :
    rM.view.readAt (Elt F) (Rect.unit (s := S16x256) ![0, 0] S16x256.size inb).toLoadRect f = f :=
  Memref.readAt_unit_zero (Elt F) cc0_scratch5 (by funext a; fin_cases a <;> rfl) inb f

/-- What device `c` needs for its message to device `s` in gather `r`, and for its own rows. -/
def agP (m : (ℓ : Loc nD τ sig) → Buf (Elt F) ℓ) (r : ℕ) (c : Dev nD) : Fin 16 → sProp 𝕄 :=
  split c iprop(rShare m c r c ∗ anyAt (slot agM c) c) fun s =>
    iprop((anyAt (slot agM c) s ∗ reached ER (cell s (.dma (agS c))) r) ∗ dutyTok ER (cell s (.dma (agS c))) r c
      ∗ dutyTok ER (cell c (.dma (asendS s))) r s ∗ reached ER (cell c (.dma (asendS s))) r ∗ rShare m c r s)
/-- What it has afterwards. -/
def agQ (m : (ℓ : Loc nD τ sig) → Buf (Elt F) ℓ) (r : ℕ) (c : Dev nD) : Fin 16 → sProp 𝕄 :=
  split c iprop(rShare m c r c ∗ holds (slot agM c) c (rvec m r c)) fun s => cred (tallyAt (cell c (.dma (asendS s))) r N)

/-- The state of the sends of gather `r`. -/
def AgF (m : (ℓ : Loc nD τ sig) → Buf (Elt F) ℓ) (r : ℕ) (c : Dev nD) (i : ℕ) : sProp 𝕄 := Fam (agP m r c) (agQ m r c) id i
/-- The state after the message of place `i` and before the own rows. -/
def AgMid (m : (ℓ : Loc nD τ sig) → Buf (Elt F) ℓ) (r : ℕ) (c : Dev nD) (i : ℕ) : sProp 𝕄 :=
  iprop((if plc i = c then iprop(rShare m c r c ∗ anyAt (slot agM c) c) else cred (tallyAt (cell c (.dma (asendS (plc i)))) r N))
    ∗ FamRest (agP m r c) (agQ m r c) id i (plc i))

theorem phA_facts (r : ℕ) (hr : r < 2) (c p : Fin 16) : phA r < 8 ∧ phD (phA r) p = p ∧ phSem (phA r) c = .dma (agS c)
    ∧ phR (phA r) = r ∧ phN (phA r) = N := by
  have : r = 0 ∨ r = 1 := by omega
  rcases this with rfl | rfl <;> exact ⟨by decide, rfl, rfl, rfl, rfl⟩

/-- The message to one other device. -/
theorem core_ag_send {r i : ℕ} {s : Dev nD} {dst : Memref sig .tc .vmem S16x256 .bf16} {dev : Dev nD} {sS sem : DmaSem sig}
    {hsc : dst.view.ref.isScScratch = false} {h1 : rM.view.WordExact} {h2 : dst.view.WordExact}
    {h3 : DmaTarget.Typed .vmem (SemLoc.dma sem) (.remote (dev : Thread nD τ) dst (SemLoc.dma sS) hsc)}
    (hr : r < 2) (hi : i < 16) (hs : plc i = s) (hsc' : s ≠ c) (hdst : dst = slot agM c)
    (hdev : dev = s) (hsS : sS = asendS s) (hsem : sem = agS c) {X : sProp 𝕄}
    (hk : Ctx m K ∗ OwP c (phA r) (i + 1) ∗ (cred (tallyAt (cell c (.dma (asendS s))) r N) ∗ X) ∗ R ⊢ wp frame (wpE (defs₀ (F := F)) Variants.none (c : Thread nD τ) none) Set.univ k Q) :
    Ctx m K ∗ OwP c (phA r) i ∗ (((anyAt (slot agM c) s ∗ reached ER (cell s (.dma (agS c))) r)
      ∗ dutyTok ER (cell s (.dma (agS c))) r c ∗ dutyTok ER (cell c (.dma (asendS s))) r s
      ∗ reached ER (cell c (.dma (asendS s))) r ∗ rShare m c r s) ∗ X) ∗ R
      ⊢ wp frame (wpE (defs₀ (F := F)) Variants.none (c : Thread nD τ) none) Set.univ (.op (.enqueueDma rM (.remote (dev : Thread nD τ) dst (.dma sS) hsc) (.dma sem) h1 h2 h3) fun _ => k) Q := by
  subst hdst hdev hsS hsem
  obtain ⟨hp, hD, hS, hR, hN⟩ := phA_facts r hr c (plc i)
  have hO : O c (16 * phA r + i) = O c (16 * phA r + (i + 1)) + tallyAt (cell dev (.dma (agS c))) r N := by
    rw [O_other c dev (phA r) i hp hi (hD.trans hs) hsc', hS, hR, hN]
  unfold OwP Ow anyAt rShare
  iintro ⟨#HC, ⟨%W, HO⟩, ⟨⟨⟨⟨%fd, Hd⟩, #Hr2⟩, Ht2, Ht1, #Hr1, Hs⟩, HX⟩, HR⟩
  iapply (Rounds.wp_send_pointsTo Variants.none ER (Rd m) (c : Thread nD τ) none (c' := (dev : Thread nD τ))
      (κ₁ := K (c, .dma (asendS dev))) (κ₂ := K (dev, .dma (agS c)))
      (r₁ := r) (r₂ := r) (d₁ := dev) (d₂ := c) (fd := fd)
      (by rw [duties_asend m c dev r hr hsc']; exact Finset.mem_singleton_self _)
      (by rw [duties_ag m dev c r hr (fun e => hsc' e.symm)]; exact Finset.mem_singleton_self _)
      r r N rfl (amount_asend m c dev r dev) (amount_ag m dev c r c) (O c (16 * phA r + (i + 1))) hO (W := W)
      (by rw [payload_asend]; unfold rShare; iintro H; iexact H)
      (by
        rw [payload_ag]; unfold holds
        iintro H
        iexists _
        isplitl [H]; · iexact H
        ipureintro
        rw [View.read_write_univ]; rfl)) $$ [HO Hd Ht2 Ht1 Hs]
  · isplitr; · iapply (Ctx_cell m K c (.dma (asendS dev))); iexact HC
    isplitr; · iapply (Ctx_cell m K dev (.dma (agS c))); iexact HC
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply hk
  isplitr; · iexact HC
  isplitl [HO]; · unfold OwP Ow; iexists W; iexact HO
  isplitl [Hcr HX]
  · isplitl [Hcr]; · iexact Hcr
    iexact HX
  iexact HR

/-- The message of place `i`. -/
theorem step_ag_send {r i : ℕ} {cond : Prop} [Decidable cond]
    {offd : Fin 3 → ℕ} {inbd : cond → ∀ a, offd a + S1x16x256.size a ≤ S16x16x256.size a}
    {dev : cond → Dev nD} {offS : Fin 1 → ℕ} {inbS} {offs : Fin 1 → ℕ} {inbs : cond → ∀ a, offs a + S1.size a ≤ S16.size a}
    {h0 : ∀ h, (slotO agM offd (inbd h)).view.ref.isScScratch = false} {h1 : cond → rM.view.WordExact}
    {h2 : ∀ h, (slotO agM offd (inbd h)).view.WordExact}
    {h3 : ∀ h, DmaTarget.Typed .vmem (SemLoc.dma (semO cc0_scratch9 offs (inbs h)))
      (.remote (dev h : Thread nD τ) (slotO agM offd (inbd h)) (SemLoc.dma (semO cc0_scratch11 offS inbS)) (h0 h))}
    (hk : Ctx m K ∗ OwP c (phA r) (i + 1) ∗ AgMid m r c i ∗ R ⊢ wp frame (wpE (defs₀ (F := F)) Variants.none (c : Thread nD τ) none) Set.univ k Q)
    (hr : r < 2 := by decide +kernel) (hi : i < 16 := by decide +kernel)
    (hc : cond ↔ plc i ≠ c := by revert c; decide +kernel)
    (hod : offd = ![c.val, 0, 0] := by revert c; decide +kernel)
    (hdev : ∀ h, dev h = plc i := by revert c; decide +kernel)
    (hoS : offS = ![(plc i).val] := by decide +kernel)
    (hos : offs = ![c.val] := by revert c; decide +kernel) :
    Ctx m K ∗ OwP c (phA r) i ∗ AgF m r c i ∗ R ⊢
      wp frame (wpE (defs₀ (F := F)) Variants.none (c : Thread nD τ) none) Set.univ (if h : cond then
        (Prog.lift (.enqueueDma rM
          (.remote (dev h : Thread nD τ) (slotO agM offd (inbd h)) (.dma (semO cc0_scratch11 offS inbS)) (h0 h))
          (.dma (semO cc0_scratch9 offs (inbs h)))
          (h1 h) (h2 h) (h3 h)) >>= fun _ => k) else k) Q := by
  have hv := plc_val i hi
  obtain ⟨hp, hD, -, -, -⟩ := phA_facts r hr c (plc i)
  unfold AgMid at hk
  unfold AgF
  rw [Fam_take (ord := id) (plc i) i (le_of_eq hv.symm)]
  by_cases hsc : plc i = c
  · rw [dif_neg (fun h => (hc.mp h) hsc)]
    refine BIBase.Entails.trans (Entails.of_eq ?_) hk
    have hq : agP m r c (plc i) = iprop(rShare m c r c ∗ anyAt (slot agM c) c) := split_own _ _ _ _ hsc
    rw [if_pos hsc, OwP_own c _ i hp hi (hD.trans hsc), hq]
  · rw [if_neg hsc] at hk
    rw [dif_pos (hc.mpr hsc)]
    unfold agP
    rw [split_ne _ _ _ _ hsc]
    conv => rhs; simp only [Prog.lift, Prog.bind_op, Prog.bind_ret]
    exact core_ag_send hr hi rfl hsc (slot_eq _ _ hod) (hdev _) (asendS_eq _ _ hoS) (agS_eq _ _ hos) hk

/-- Storing the own rows, at the place of the own device. -/
theorem step_ag_own {r i : ℕ} {cond : Prop} [Decidable cond] {inbb : ∀ a, (![0, 0] : Fin 2 → ℕ) a + S16x256.size a ≤ S16x256.size a}
    {offd : Fin 3 → ℕ} {inbd : ∀ a, offd a + S1x16x256.size a ≤ S16x16x256.size a}
    {h0 : cond → rM.view.LoadsAt (Rect.unit (s := S16x256) ![0, 0] S16x256.size inbb).toLoadRect}
    {h1 : cond → agM.view.LoadsAt (Rect.unit (s := S16x16x256) offd S1x16x256.size inbd).toLoadRect}
    {h2 : cond → (agM.access (Rect.unit (s := S16x16x256) offd S1x16x256.size inbd)).Stores Finset.univ}
    {h3 : cond → ((Finset.univ : Finset (Rect.unit (s := S16x16x256) offd S1x16x256.size inbd).shape.Idx) = Finset.univ
      ∨ ∀ a, (Rect.unit (s := S16x16x256) offd S1x16x256.size inbd).stride a = 1)} {payf : Vec F S16x256 .bf16 → Vec F S1x16x256 .bf16}
    (hk : Ctx m K ∗ OwP c (phA r) (i + 1) ∗ AgF m r c (i + 1) ∗ R ⊢ wp frame (wpE (defs₀ (F := F)) Variants.none (c : Thread nD τ) none) Set.univ k Q)
    (hr : r < 2 := by decide +kernel) (hi : i < 16 := by decide +kernel)
    (hc : cond ↔ plc i = c := by revert c; decide +kernel)
    (hod : offd = ![(plc i).val, 0, 0] := by decide +kernel)
    (hpay : payf = up := by rfl) :
    Ctx m K ∗ OwP c (phA r) (i + 1) ∗ AgMid m r c i ∗ R ⊢
      wp frame (wpE (defs₀ (F := F)) Variants.none (c : Thread nD τ) none) Set.univ (if h : cond then
        (Prog.lift (.load rM (Rect.unit (s := S16x256) ![0, 0] S16x256.size inbb).toLoadRect (h0 h)) >>= fun v =>
          Prog.lift (.load agM (Rect.unit (s := S16x16x256) offd S1x16x256.size inbd).toLoadRect (h1 h)) >>= fun _ =>
          Prog.lift (.store agM (Rect.unit (s := S16x16x256) offd S1x16x256.size inbd) (payf v) Finset.univ (h2 h) (h3 h)) >>= fun _ => k)
        else k) Q := by
  have hv := plc_val i hi
  unfold AgF at hk
  unfold AgMid
  rw [Fam_next Function.injective_id (plc i) i hv] at hk
  subst hod hpay
  by_cases hsc : plc i = c
  · rw [dif_pos (hc.mpr hsc), if_pos hsc]
    have hq : agQ m r c (plc i) = iprop(rShare m c r c ∗ holds (slot agM c) c (rvec m r c)) :=
      split_own _ _ _ _ hsc
    rw [hq] at hk
    clear hq
    conv => rhs; simp only [Prog.lift, Prog.bind_op, Prog.bind_ret]
    obtain rfl := hsc
    unfold anyAt rShare at *
    unfold holds at hk
    iintro ⟨HC, HO, ⟨⟨Hb, ⟨%g, Hs⟩⟩, HF⟩, HR⟩
    iapply (wp_load Variants.none (plc i : Thread nD τ) none Set.univ (m := rM)
      (S := rM.view.set) (View.setOn_subset_set _ _)) $$ Hb
    iintro Hb
    iapply (wp_load Variants.none (plc i : Thread nD τ) none Set.univ (m := agM) (by rw [slot_set])) $$ Hs
    iintro Hs
    iapply (wp_store Variants.none (plc i : Thread nD τ) none Set.univ (m := agM)
      (r := Rect.unit (s := S16x16x256) ![(plc i).val, 0, 0] S1x16x256.size inbd) (Mk := Finset.univ)
      (S := (slot agM (plc i)).view.set)
      (by rw [slot_set, View.setOn_univ, View.set_slice]; exact Finset.Subset.refl _)) $$ Hs
    iintro Hs
    iapply hk
    isplitl [HC]; · iexact HC
    isplitl [HO]; · iexact HO
    isplitl [Hb Hs HF]
    · isplitl [Hb Hs]
      · isplitl [Hb]; · iexact Hb
        iexists _
        isplitl [Hs]; · iexact Hs
        ipureintro
        rw [store_slot]
        refine (dn_up _).trans ?_
        exact read_rows (rvec m r (plc i)) inbb
      iexact HF
    iexact HR
  · rw [dif_neg (fun h => hsc (hc.mp h)), if_neg hsc]
    unfold agQ at hk
    rw [split_ne _ _ _ _ hsc] at hk
    exact hk

end Cert.MlpIdeal
-- ==== Proof.Ideal.Recv.lean ====
/-
# Waits for messages, and loads of what arrived

A loop that waits for one message after the other turns, for device `s`, the credit and the position of the cell into what
the message hands over. For its own number the device waits for nothing and has the piece already.
-/
module

public import proofs.«01_k».proof.Proof.Ideal.Gather

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-- A wait loop: `sm s` is the semaphore for device `s`, `T s` what the device has of `s` afterwards, `X s` what else the
message of another device brings; `own` is what it has for itself from the start. -/
def WF (sm : Fin 16 → DmaSem sig) (r : ℕ) (c : Dev nD) (own : sProp 𝕄) (T X : Fin 16 → sProp 𝕄) (ord : Fin 16 → Fin 16) (i : ℕ) : sProp 𝕄 :=
  Fam (split c own fun s => iprop(cred (tallyAt (cell c (.dma (sm s))) r N) ∗ atPos ER (cell c (.dma (sm s))) r ∅ 0))
    (fun s => iprop(T s ∗ split c iprop(emp)
      (fun s => iprop(atPos ER (cell c (.dma (sm s))) (r + 1) ∅ 0 ∗ reached ER (cell c (.dma (sm s))) (r + 1) ∗ X s)) s)) ord i

theorem core_fam_wait {sm : Fin 16 → DmaSem sig} {r i ph j : ℕ} {own : sProp 𝕄} {T X : Fin 16 → sProp 𝕄} {ord : Fin 16 → Fin 16}
    {s : Fin 16} {cond : Prop} [Decidable cond] {sem : cond → DmaSem sig}
    {sp : Space} {sh : Shape} {e : EltTy} {src dst : cond → Memref sig .tc sp sh e}
    {h1 : ∀ h, (src h).view.WordExact} {h2 : ∀ h, (dst h).view.WordExact}
    (ho : Function.Injective ord) (hs : (ord s).val = i) (hr : r < 3) (hc : cond ↔ s ≠ c) (hsem : ∀ h, sem h = sm s)
    (hN : ∀ h, (dst h).view.dmaCredit = N)
    (hdut : s ≠ c → (Rd m).duties (cell c (.dma (sm s))) r = {s})
    (ha : (Rd m).amount (cell c (.dma (sm s))) r s = N)
    (hpay : (Rd m).payload (cell c (.dma (sm s))) r s ⊢ iprop(T s ∗ X s)) (hown : s = c → own ⊢ T s)
    (hlv : ∀ ph', (16 * ph + j) / 16 ≤ ph' → ph' < 8 → lv (cell c (.dma (sm s))) r < phL ph')
    (hk : Ctx m K ∗ OwP c ph j ∗ WF sm r c own T X ord (i + 1) ∗ R ⊢ wp frame (wpE (defs₀ (F := F)) Variants.none (c : Thread nD τ) none) Set.univ k Q) :
    Ctx m K ∗ OwP c ph j ∗ WF sm r c own T X ord i ∗ R ⊢
      wp frame (wpE (defs₀ (F := F)) Variants.none (c : Thread nD τ) none) Set.univ (if h : cond then (Prog.lift (.waitDma2 (sem h) (src h) (dst h) (h1 h) (h2 h)) >>= fun _ => k) else k) Q := by
  unfold WF at hk ⊢
  rw [Fam_next ho s i hs] at hk
  rw [Fam_take s i (le_of_eq hs.symm)]
  by_cases hsc : s = c
  · rw [dif_neg (fun h => (hc.mp h) hsc)]
    refine BIBase.Entails.trans ?_ hk
    rw [split_own _ _ _ _ hsc, split_own _ _ _ _ hsc]
    iintro ⟨HC, HO, ⟨H, HF⟩, HR⟩
    isplitl [HC]; · iexact HC
    isplitl [HO]; · iexact HO
    isplitl [H HF]
    · isplitl [H]
      · isplitl [H]; · iapply (hown hsc); iexact H
        iempintro
      iexact HF
    iexact HR
  · rw [split_ne _ _ _ _ hsc] at hk ⊢
    rw [dif_pos (hc.mpr hsc)]
    conv => rhs; simp only [Prog.lift, Prog.bind_op, Prog.bind_ret]
    have h : Ctx m K ∗ OwP c ph j ∗ (cred (tallyAt (cell c (.dma (sm s))) r N) ∗ atPos ER (cell c (.dma (sm s))) r ∅ 0)
        ∗ (FamRest (split c own fun s => iprop(cred (tallyAt (cell c (.dma (sm s))) r N) ∗ atPos ER (cell c (.dma (sm s))) r ∅ 0))
          (fun s => iprop(T s ∗ split c iprop(emp)
            (fun s => iprop(atPos ER (cell c (.dma (sm s))) (r + 1) ∅ 0 ∗ reached ER (cell c (.dma (sm s))) (r + 1) ∗ X s)) s)) ord i s ∗ R)
        ⊢ wp frame (wpE (defs₀ (F := F)) Variants.none (c : Thread nD τ) none) Set.univ (.op (.waitDma2 (sem (hc.mpr hsc)) (src (hc.mpr hsc)) (dst (hc.mpr hsc)) (h1 (hc.mpr hsc)) (h2 (hc.mpr hsc))) fun _ => k) Q := by
      refine core_wait_one (d := s) (T := (Rd m).payload (cell c (.dma (sm s))) r s) ?_ hr (hdut hsc) ha rfl hlv ?_
      · intro Y
        rw [wpE_waitDma2_eq Variants.none (c : Thread nD τ) none Set.univ, hN, hsem]
      · refine BIBase.Entails.trans ?_ hk
        iintro ⟨HC, HO, ⟨Hat, Hre, HT⟩, HF, HR⟩
        ihave HT := hpay $$ HT
        icases HT with ⟨HT, HX⟩
        isplitl [HC]; · iexact HC
        isplitl [HO]; · iexact HO
        isplitl [Hat Hre HT HX HF]
        · isplitl [Hat Hre HT HX]
          · isplitl [HT]; · iexact HT
            isplitl [Hat]; · iexact Hat
            isplitl [Hre]; · iexact Hre
            iexact HX
          iexact HF
        iexact HR
    refine BIBase.Entails.trans ?_ h
    iintro ⟨HC, HO, ⟨H, HF⟩, HR⟩
    isplitl [HC]; · iexact HC
    isplitl [HO]; · iexact HO
    isplitl [H]; · iexact H
    isplitl [HF]; · iexact HF
    iexact HR

/-- The arrivals of scatter `r`. -/
def RvF (m : (ℓ : Loc nD τ sig) → Buf (Elt F) ℓ) (r : ℕ) (c : Dev nD) (i : ℕ) : sProp 𝕄 :=
  WF rsS r c (holds (slot rsM c) c (blk m r c c)) (fun s => holds (slot rsM s) c (blk m r s c))
    (fun s => reached ER (cell s (.reg barS)) (r + 1)) id i
/-- The arrivals of gather `r`; the second one's come in the order of the antipodes. -/
def AgV (m : (ℓ : Loc nD τ sig) → Buf (Elt F) ℓ) (r : ℕ) (c : Dev nD) (i : ℕ) : sProp 𝕄 :=
  WF agS r c (holds (slot agM c) c (rvec m r c)) (fun s => holds (slot agM s) c (rvec m r s)) (fun s => iprop(emp)) (sentB r) i
/-- The departures of scatter `r`. -/
def RwF (m : (ℓ : Loc nD τ sig) → Buf (Elt F) ℓ) (r : ℕ) (c : Dev nD) (i : ℕ) : sProp 𝕄 :=
  WF rsendS r c (anyAt (blkM (sentB r c)) c) (fun s => anyAt (blkM (sentB r s)) c) (fun s => iprop(emp)) id i
/-- The departures of gather `r`. -/
def AgW (m : (ℓ : Loc nD τ sig) → Buf (Elt F) ℓ) (r : ℕ) (c : Dev nD) (i : ℕ) : sProp 𝕄 :=
  WF asendS r c (rShare m c r c) (fun s => rShare m c r s) (fun s => iprop(emp)) id i

theorem lv_rs (c : Dev nD) (s : Fin 16) (r : ℕ) : lv (cell c (.dma (rsS s))) r = 4 * r + 3 := by unfold lv; rw [sortOf_rs]
theorem lv_ag (c : Dev nD) (s : Fin 16) (r : ℕ) : lv (cell c (.dma (agS s))) r = 4 * r + 6 := by unfold lv; rw [sortOf_ag]
theorem lv_rsend (c : Dev nD) (s : Fin 16) (r : ℕ) : lv (cell c (.dma (rsendS s))) r = 0 := by unfold lv; rw [sortOf_rsend]
theorem lv_asend (c : Dev nD) (s : Fin 16) (r : ℕ) : lv (cell c (.dma (asendS s))) r = 0 := by unfold lv; rw [sortOf_asend]
theorem lv_ld (c : Dev nD) (j : Fin 8) (r : ℕ) : lv (cell c (.dma (ldS j))) r = 0 := by unfold lv; rw [sortOf_ld]
theorem phL_pos (ph : ℕ) : 0 < phL ph := by unfold phL; split <;> decide

theorem sep_emp_intro (P : sProp 𝕄) : P ⊢ iprop(P ∗ emp) := Entails.of_eq (equiv_iff.mp BI.sep_emp).symm

section Waits
variable {r i ph j : ℕ} {cond : Prop} [Decidable cond] {offs : Fin 1 → ℕ} {inbs : cond → ∀ a, offs a + S1.size a ≤ S16.size a}
    {src dst : cond → Memref sig .tc .vmem S16x256 .bf16}
    {h1 : ∀ h, (src h).view.WordExact} {h2 : ∀ h, (dst h).view.WordExact}

/-- The wait for the block of device `i`. -/
theorem step_rs_recv
    (hk : Ctx m K ∗ OwP c ph j ∗ RvF m r c (i + 1) ∗ R ⊢ wp frame (wpE (defs₀ (F := F)) Variants.none (c : Thread nD τ) none) Set.univ k Q)
    (hr : r < 3 := by decide +kernel) (hi : i < 16 := by decide +kernel)
    (hc : cond ↔ plc i ≠ c := by revert c; decide +kernel)
    (hos : offs = ![(plc i).val] := by decide +kernel)
    (hN : ∀ h, (dst h).view.dmaCredit = N := by exact fun _ => rfl)
    (hlv : ∀ ph' < 8, (16 * ph + j) / 16 ≤ ph' → 4 * r + 3 < phL ph' := by decide +kernel) :
    Ctx m K ∗ OwP c ph j ∗ RvF m r c i ∗ R ⊢
      wp frame (wpE (defs₀ (F := F)) Variants.none (c : Thread nD τ) none) Set.univ (if h : cond then (Prog.lift (.waitDma2 (semO cc0_scratch8 offs (inbs h)) (src h) (dst h) (h1 h) (h2 h)) >>= fun _ => k) else k) Q := by
  unfold RvF at hk ⊢
  refine core_fam_wait Function.injective_id (plc_val i hi) hr hc (fun h => rsS_eq _ _ hos) hN
    (fun h => duties_rs m c _ r hr h) (amount_rs m c _ r _) (Entails.of_eq (payload_rs m c _ r _)) ?_
    (fun ph' h1 h2 => by rw [lv_rs]; exact hlv ph' h2 h1) hk
  rintro rfl
  exact BIBase.Entails.rfl

/-- The wait for the rows at place `i`. -/
theorem step_ag_recv
    (hk : Ctx m K ∗ OwP c ph j ∗ AgV m r c (i + 1) ∗ R ⊢ wp frame (wpE (defs₀ (F := F)) Variants.none (c : Thread nD τ) none) Set.univ k Q)
    (hr : r < 2 := by decide +kernel) (hi : i < 16 := by decide +kernel)
    (hc : cond ↔ sentB r (plc i) ≠ c := by revert c; decide +kernel)
    (hos : offs = ![(sentB r (plc i)).val] := by decide +kernel)
    (hN : ∀ h, (dst h).view.dmaCredit = N := by exact fun _ => rfl)
    (hlv : ∀ ph' < 8, (16 * ph + j) / 16 ≤ ph' → 4 * r + 6 < phL ph' := by decide +kernel) :
    Ctx m K ∗ OwP c ph j ∗ AgV m r c i ∗ R ⊢
      wp frame (wpE (defs₀ (F := F)) Variants.none (c : Thread nD τ) none) Set.univ (if h : cond then (Prog.lift (.waitDma2 (semO cc0_scratch9 offs (inbs h)) (src h) (dst h) (h1 h) (h2 h)) >>= fun _ => k) else k) Q := by
  unfold AgV at hk ⊢
  refine core_fam_wait (sentB_injective r) (by rw [sentB_sentB]; exact plc_val i hi) (by omega) hc (fun h => agS_eq _ _ hos) hN
    (fun h => duties_ag m c _ r hr h) (amount_ag m c _ r _)
    (BIBase.Entails.trans (Entails.of_eq (payload_ag m c _ r _)) (sep_emp_intro _)) ?_
    (fun ph' h1 h2 => by rw [lv_ag]; exact hlv ph' h2 h1) hk
  intro h; rw [h]

/-- The wait for the departure of the block for device `i`. -/
theorem step_rs_sent
    (hk : Ctx m K ∗ OwP c ph j ∗ RwF m r c (i + 1) ∗ R ⊢ wp frame (wpE (defs₀ (F := F)) Variants.none (c : Thread nD τ) none) Set.univ k Q)
    (hr : r < 3 := by decide +kernel) (hi : i < 16 := by decide +kernel)
    (hc : cond ↔ plc i ≠ c := by revert c; decide +kernel)
    (hos : offs = ![(plc i).val] := by decide +kernel)
    (hN : ∀ h, (dst h).view.dmaCredit = N := by exact fun _ => rfl) :
    Ctx m K ∗ OwP c ph j ∗ RwF m r c i ∗ R ⊢
      wp frame (wpE (defs₀ (F := F)) Variants.none (c : Thread nD τ) none) Set.univ (if h : cond then (Prog.lift (.waitDma2 (semO cc0_scratch10 offs (inbs h)) (src h) (dst h) (h1 h) (h2 h)) >>= fun _ => k) else k) Q := by
  unfold RwF at hk ⊢
  refine core_fam_wait Function.injective_id (plc_val i hi) hr hc (fun h => rsendS_eq _ _ hos) hN
    (fun h => duties_rsend m c _ r hr h) (amount_rsend m c _ r _)
    (BIBase.Entails.trans (Entails.of_eq (payload_rsend m c _ r _)) (sep_emp_intro _)) ?_
    (fun ph' h1 h2 => by rw [lv_rsend]; exact phL_pos _) hk
  rintro rfl
  exact BIBase.Entails.rfl

/-- The wait for the departure of the rows for device `i`. -/
theorem step_ag_sent
    (hk : Ctx m K ∗ OwP c ph j ∗ AgW m r c (i + 1) ∗ R ⊢ wp frame (wpE (defs₀ (F := F)) Variants.none (c : Thread nD τ) none) Set.univ k Q)
    (hr : r < 2 := by decide +kernel) (hi : i < 16 := by decide +kernel)
    (hc : cond ↔ plc i ≠ c := by revert c; decide +kernel)
    (hos : offs = ![(plc i).val] := by decide +kernel)
    (hN : ∀ h, (dst h).view.dmaCredit = N := by exact fun _ => rfl) :
    Ctx m K ∗ OwP c ph j ∗ AgW m r c i ∗ R ⊢
      wp frame (wpE (defs₀ (F := F)) Variants.none (c : Thread nD τ) none) Set.univ (if h : cond then (Prog.lift (.waitDma2 (semO cc0_scratch11 offs (inbs h)) (src h) (dst h) (h1 h) (h2 h)) >>= fun _ => k) else k) Q := by
  unfold AgW at hk ⊢
  refine core_fam_wait Function.injective_id (plc_val i hi) (by omega) hc (fun h => asendS_eq _ _ hos) hN
    (fun h => duties_asend m c _ r hr h) (amount_asend m c _ r _)
    (BIBase.Entails.trans (Entails.of_eq (payload_asend m c _ r _)) (sep_emp_intro _)) ?_
    (fun ph' h1 h2 => by rw [lv_asend]; exact phL_pos _) hk
  rintro rfl
  exact BIBase.Entails.rfl

end Waits

/-! ## Loads of what arrived -/

/-- A load of a slot that a wait loop has passed. -/
theorem core_slot_load {M : Memref sig .tc .vmem S16x16x256 .bf16} {sm : Fin 16 → DmaSem sig} {r i : ℕ} {own : sProp 𝕄}
    {X : Fin 16 → sProp 𝕄} {val : Fin 16 → Vec F S16x256 .bf16}
    {ord : Fin 16 → Fin 16} {s : Fin 16} {off : Fin 3 → ℕ} {inb : ∀ a, off a + S1x16x256.size a ≤ S16x16x256.size a}
    {h0 : M.view.LoadsAt (Rect.unit (s := S16x16x256) off S1x16x256.size inb).toLoadRect}
    {kf : Vec F S1x16x256 .bf16 → Prog (TpuEff nD τ sig (Elt F) Λ₀ .tc) α} {O' : sProp 𝕄}
    (hs : (ord s).val < i) (hoff : off = ![s.val, 0, 0])
    (hk : Ctx m K ∗ O' ∗ WF sm r c own (fun s => holds (slot M s) c (val s)) X ord i ∗ R ⊢ wp frame (wpE (defs₀ (F := F)) Variants.none (c : Thread nD τ) none) Set.univ (kf (up (val s))) Q) :
    Ctx m K ∗ O' ∗ WF sm r c own (fun s => holds (slot M s) c (val s)) X ord i ∗ R ⊢
      wp frame (wpE (defs₀ (F := F)) Variants.none (c : Thread nD τ) none) Set.univ (Prog.lift (.load M (Rect.unit (s := S16x16x256) off S1x16x256.size inb).toLoadRect h0) >>= kf) Q := by
  subst hoff
  unfold WF at hk ⊢
  rw [Fam_done s i hs] at hk ⊢
  conv => rhs; simp only [Prog.lift, Prog.bind_op, Prog.bind_ret]
  unfold holds at hk ⊢
  iintro ⟨HC, HO, ⟨⟨⟨%f, Hb, %hf⟩, HX⟩, HF⟩, HR⟩
  iapply (wp_load Variants.none (c : Thread nD τ) none Set.univ (m := M) (by rw [slot_set])) $$ Hb
  iintro Hb
  rw [show M.view.readAt (Elt F) (Rect.unit (s := S16x16x256) ![s.val, 0, 0] S1x16x256.size inb).toLoadRect f = up (val s) by
    rw [← hf]; exact load_slot M s f]
  iapply hk
  isplitl [HC]; · iexact HC
  isplitl [HO]; · iexact HO
  isplitl [Hb HX HF]
  · isplitl [Hb HX]
    · isplitl [Hb]
      · iexists f; isplitl [Hb]; · iexact Hb
        ipureintro; exact hf
      iexact HX
    iexact HF
  iexact HR

/-- The device whose slot lies at an offset. -/
def slotNo (off : Fin 3 → ℕ) : Fin 16 := plc (off 0)

theorem step_rs_load {r i : ℕ} {off : Fin 3 → ℕ} {inb : ∀ a, off a + S1x16x256.size a ≤ S16x16x256.size a}
    {h0 : rsM.view.LoadsAt (Rect.unit (s := S16x16x256) off S1x16x256.size inb).toLoadRect}
    {kf : Vec F S1x16x256 .bf16 → Prog (TpuEff nD τ sig (Elt F) Λ₀ .tc) α} {O' : sProp 𝕄}
    (hk : Ctx m K ∗ O' ∗ RvF m r c i ∗ R ⊢ wp frame (wpE (defs₀ (F := F)) Variants.none (c : Thread nD τ) none) Set.univ (kf (up (blk m r (slotNo off) c))) Q)
    (hs : (slotNo off).val < i := by decide +kernel) (hoff : off = ![(slotNo off).val, 0, 0] := by decide +kernel) :
    Ctx m K ∗ O' ∗ RvF m r c i ∗ R ⊢
      wp frame (wpE (defs₀ (F := F)) Variants.none (c : Thread nD τ) none) Set.univ (Prog.lift (.load rsM (Rect.unit (s := S16x16x256) off S1x16x256.size inb).toLoadRect h0) >>= kf) Q := by
  unfold RvF at hk ⊢
  exact core_slot_load (ord := id) hs hoff hk

theorem step_ag_load {r i : ℕ} {off : Fin 3 → ℕ} {inb : ∀ a, off a + S1x16x256.size a ≤ S16x16x256.size a}
    {h0 : agM.view.LoadsAt (Rect.unit (s := S16x16x256) off S1x16x256.size inb).toLoadRect}
    {kf : Vec F S1x16x256 .bf16 → Prog (TpuEff nD τ sig (Elt F) Λ₀ .tc) α} {O' : sProp 𝕄}
    (hk : Ctx m K ∗ O' ∗ AgV m r c i ∗ R ⊢ wp frame (wpE (defs₀ (F := F)) Variants.none (c : Thread nD τ) none) Set.univ (kf (up (rvec m r (slotNo off)))) Q)
    (hs : (sentB r (slotNo off)).val < i := by decide +kernel) (hoff : off = ![(slotNo off).val, 0, 0] := by decide +kernel) :
    Ctx m K ∗ O' ∗ AgV m r c i ∗ R ⊢
      wp frame (wpE (defs₀ (F := F)) Variants.none (c : Thread nD τ) none) Set.univ (Prog.lift (.load agM (Rect.unit (s := S16x16x256) off S1x16x256.size inb).toLoadRect h0) >>= kf) Q := by
  unfold AgV at hk ⊢
  exact core_slot_load hs hoff hk

end Cert.MlpIdeal
-- ==== Proof.Ideal.Pieces.lean ====
/-
# Cutting buffers into pieces and putting the pieces together
-/
module

public import proofs.«01_k».proof.Proof.Ideal.Recv

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-- A set of elements, held whatever they are. -/
def anyL (ℓ : Loc nD τ sig) (S : Finset (Idx ℓ)) : sProp 𝕄 := iprop(∃ f, ℓ ↦[S]{fullShare} f)

section Cut
variable {ℓ : Loc nD τ sig} {n : ℕ} {S : Finset (Idx ℓ)} {T : Fin n → Finset (Idx ℓ)} {q : PosShare TreeShare}

/-- Disjoint pieces of one buffer. -/
def Pieces (S : Finset (Idx ℓ)) (T : Fin n → Finset (Idx ℓ)) : Prop :=
  S = Finset.univ.biUnion T ∧ ∀ i j, i ≠ j → Disjoint (T i) (T j)

theorem cut (h : Pieces S T) (f : Buf (Elt F) ℓ) :
    (ℓ ↦[S]{q} f : sProp 𝕄) = bigSep Finset.univ fun i => ℓ ↦[T i]{q} f := by
  rw [h.1]
  exact pointsTo_biUnion Finset.univ T fun i _ j _ hij => h.2 i j hij

theorem anyL_cut (h : Pieces S T) : (anyL ℓ S : sProp 𝕄) ⊢ bigSep Finset.univ fun i => anyL ℓ (T i) := by
  unfold anyL
  iintro ⟨%f, H⟩
  have e : (ℓ ↦[S]{fullShare} f : sProp 𝕄) ⊢ bigSep Finset.univ fun i => iprop(∃ f, ℓ ↦[T i]{fullShare} f) := by
    rw [cut h f]
    refine bigSep_mono fun i _ => ?_
    have h1 : (ℓ ↦[T i]{fullShare} f : sProp 𝕄) ⊢ iprop(∃ f, ℓ ↦[T i]{fullShare} f) := by iintro H; iexists f; iexact H
    exact h1
  iapply e
  iexact H

theorem anyL_join [Inhabited (Fin n)] (h : Pieces S T) :
    (bigSep Finset.univ fun i => anyL ℓ (T i)) ⊢ (anyL ℓ S : sProp 𝕄) := by
  unfold anyL
  have h0 : (bigSep Finset.univ fun i => iprop(∃ f, ℓ ↦[T i]{fullShare} f) : sProp 𝕄)
      ⊢ iprop(∃ fs : Fin n → Buf (Elt F) ℓ, bigSep Finset.univ fun i => ℓ ↦[T i]{fullShare} fs i) := BI.bigSep_exists_pi _ _
  iintro H
  ihave H := h0 $$ H
  icases H with ⟨%fs, H⟩
  have e := pointsTo_biUnion_join (q := fullShare) (Ix := ℕ) (Name := ℕ) (U := UU) (Lvl := ℕ) (ℓ := ℓ) Finset.univ T fs (fs default)
    fun i _ j _ hij => h.2 i j hij
  ihave H := e $$ H
  icases H with ⟨%g, -, H⟩
  iexists g
  rw [h.1]
  iexact H

end Cut

/-- Pieces of a shape are pieces of what a view shows of it. -/
theorem pieces_on {sp : Space} {s : Shape} {e : EltTy} (v : View sig .tc sp s e) {n : ℕ} {A : Finset s.Idx} {B : Fin n → Finset s.Idx}
    (hc : ∀ x, x ∈ A ↔ ∃ i, x ∈ B i) (hd : ∀ i j, i ≠ j → Disjoint (B i) (B j)) (c : Dev nD) :
    Pieces (ℓ := v.loc (c : Thread nD τ)) (v.setOn A) fun i => v.setOn (B i) := by
  refine ⟨?_, fun i j hij => (Finset.disjoint_map _).mpr (hd i j hij)⟩
  ext y
  simp only [View.setOn, Finset.mem_biUnion, Finset.mem_univ, true_and, Finset.mem_map]
  constructor
  · rintro ⟨x, hx, rfl⟩
    obtain ⟨i, hi⟩ := (hc x).mp hx
    exact ⟨i, x, hi, rfl⟩
  · rintro ⟨i, x, hx, rfl⟩
    exact ⟨x, (hc x).mpr ⟨i, hx⟩, rfl⟩

/-! ## The slots of a receive buffer -/

theorem slot_pieces (M : Memref sig .tc .vmem S16x16x256 .bf16) (c : Dev nD) :
    Pieces (ℓ := M.view.loc (c : Thread nD τ)) M.view.set fun s => (slot M s).view.set := by
  have h := pieces_on M.view (A := Finset.univ)
    (B := fun s : Fin 16 => (Rect.unit (s := S16x16x256) ![s.val, 0, 0] S1x16x256.size (inbSlot s)).set)
    (fun x => by
      refine ⟨fun _ => ⟨x 0, ?_⟩, fun _ => Finset.mem_univ _⟩
      rw [Rect.mem_set_unit]
      intro a
      have h1 : (x 1).val < 16 := (x 1).isLt
      have h2 : (x 2).val < 256 := (x 2).isLt
      fin_cases a
      · show (x 0).val ≤ (x 0).val ∧ (x 0).val < (x 0).val + 1; omega
      · show 0 ≤ (x 1).val ∧ (x 1).val < 0 + 16; omega
      · show 0 ≤ (x 2).val ∧ (x 2).val < 0 + 256; omega)
    (fun i j hij => Rect.unit_disjoint (a := 0) (by
      show i.val + 1 ≤ j.val ∨ j.val + 1 ≤ i.val
      have := fun e => hij (Fin.ext e)
      omega)) c
  rw [View.setOn_univ] at h
  have e : (fun s => (slot M s).view.set) = fun s : Fin 16 =>
      M.view.setOn (Rect.unit (s := S16x16x256) ![s.val, 0, 0] S1x16x256.size (inbSlot s)).set := funext fun s => slot_set M s
  rw [e]; exact h

/-! ## The layers of the weights -/

theorem wiL_set (l : Fin 3) : (wiL l).view.set
    = wiM.view.setOn (Rect.unit (s := S3x256x512) ![l.val, 0, 0] S1x256x512.size (inbWin l)).set :=
  (View.set_reshape _ _).trans (View.set_slice _ _)
theorem woL_set (l : Fin 3) : (woL l).view.set
    = woM.view.setOn (Rect.unit (s := S3x512x256) ![l.val, 0, 0] S1x512x256.size (inbWout l)).set :=
  (View.set_reshape _ _).trans (View.set_slice _ _)

theorem wi_pieces (c : Dev nD) : Pieces (ℓ := wiM.view.loc (c : Thread nD τ)) wiM.view.set fun l => (wiL l).view.set := by
  have h := pieces_on wiM.view (A := Finset.univ)
    (B := fun l : Fin 3 => (Rect.unit (s := S3x256x512) ![l.val, 0, 0] S1x256x512.size (inbWin l)).set)
    (fun x => by
      refine ⟨fun _ => ⟨x 0, ?_⟩, fun _ => Finset.mem_univ _⟩
      rw [Rect.mem_set_unit]
      intro a
      have h1 : (x 1).val < 256 := (x 1).isLt
      have h2 : (x 2).val < 512 := (x 2).isLt
      fin_cases a
      · show (x 0).val ≤ (x 0).val ∧ (x 0).val < (x 0).val + 1; omega
      · show 0 ≤ (x 1).val ∧ (x 1).val < 0 + 256; omega
      · show 0 ≤ (x 2).val ∧ (x 2).val < 0 + 512; omega)
    (fun i j hij => Rect.unit_disjoint (a := 0) (by
      show i.val + 1 ≤ j.val ∨ j.val + 1 ≤ i.val
      have := fun e => hij (Fin.ext e)
      omega)) c
  rw [View.setOn_univ] at h
  have e : (fun l => (wiL l).view.set) = fun l : Fin 3 =>
      wiM.view.setOn (Rect.unit (s := S3x256x512) ![l.val, 0, 0] S1x256x512.size (inbWin l)).set := funext fun l => wiL_set l
  rw [e]; exact h

theorem wo_pieces (c : Dev nD) : Pieces (ℓ := woM.view.loc (c : Thread nD τ)) woM.view.set fun l => (woL l).view.set := by
  have h := pieces_on woM.view (A := Finset.univ)
    (B := fun l : Fin 3 => (Rect.unit (s := S3x512x256) ![l.val, 0, 0] S1x512x256.size (inbWout l)).set)
    (fun x => by
      refine ⟨fun _ => ⟨x 0, ?_⟩, fun _ => Finset.mem_univ _⟩
      rw [Rect.mem_set_unit]
      intro a
      have h1 : (x 1).val < 512 := (x 1).isLt
      have h2 : (x 2).val < 256 := (x 2).isLt
      fin_cases a
      · show (x 0).val ≤ (x 0).val ∧ (x 0).val < (x 0).val + 1; omega
      · show 0 ≤ (x 1).val ∧ (x 1).val < 0 + 512; omega
      · show 0 ≤ (x 2).val ∧ (x 2).val < 0 + 256; omega)
    (fun i j hij => Rect.unit_disjoint (a := 0) (by
      show i.val + 1 ≤ j.val ∨ j.val + 1 ≤ i.val
      have := fun e => hij (Fin.ext e)
      omega)) c
  rw [View.setOn_univ] at h
  have e : (fun l => (woL l).view.set) = fun l : Fin 3 =>
      woM.view.setOn (Rect.unit (s := S3x512x256) ![l.val, 0, 0] S1x512x256.size (inbWout l)).set := funext fun l => woL_set l
  rw [e]; exact h

/-! ## The partial result -/

theorem grp_set (g : Fin 4) : (grpM g).view.set
    = pM.view.setOn (Rect.unit (s := S256x256) ![64 * g.val, 0] S64x256.size (inbGrp g)).set := View.set_slice _ _

/-- Rows of the partial result. -/
theorem mem_rows {n : ℕ} (o : ℕ) (size : Fin 2 → ℕ) (inb) (x : S256x256.Idx) (h0 : size 0 = n) (h1 : size 1 = 256) :
    x ∈ (Rect.unit (s := S256x256) ![o, 0] size inb).set ↔ o ≤ (x 0).val ∧ (x 0).val < o + n := by
  rw [Rect.mem_set_unit]
  have hx : (x 1).val < 256 := (x 1).isLt
  constructor
  · intro h
    have := h 0
    rw [h0] at this
    exact this
  · intro h a
    fin_cases a
    · show o ≤ (x 0).val ∧ (x 0).val < o + size 0; rw [h0]; exact h
    · show 0 ≤ (x 1).val ∧ (x 1).val < 0 + size 1; rw [h1]; omega

theorem blk_pieces (c : Dev nD) : Pieces (ℓ := pM.view.loc (c : Thread nD τ)) pM.view.set fun b => (blkM b).view.set := by
  have h := pieces_on pM.view (A := Finset.univ)
    (B := fun b : Fin 16 => (Rect.unit (s := S256x256) ![16 * b.val, 0] S16x256.size (inbBlk b)).set)
    (fun x => by
      have hx : (x 0).val < 256 := (x 0).isLt
      refine ⟨fun _ => ⟨⟨(x 0).val / 16, by omega⟩, ?_⟩, fun _ => Finset.mem_univ _⟩
      rw [mem_rows (n := 16) _ _ _ _ rfl rfl]
      dsimp only
      omega)
    (fun i j hij => Rect.unit_disjoint (a := 0) (by
      show 16 * i.val + 16 ≤ 16 * j.val ∨ 16 * j.val + 16 ≤ 16 * i.val
      have := fun e => hij (Fin.ext e)
      omega)) c
  rw [View.setOn_univ] at h
  have e : (fun b => (blkM b).view.set) = fun b : Fin 16 =>
      pM.view.setOn (Rect.unit (s := S256x256) ![16 * b.val, 0] S16x256.size (inbBlk b)).set := funext fun b => blk_set b
  rw [e]; exact h

theorem grp_pieces (c : Dev nD) : Pieces (ℓ := pM.view.loc (c : Thread nD τ)) pM.view.set fun g => (grpM g).view.set := by
  have h := pieces_on pM.view (A := Finset.univ)
    (B := fun g : Fin 4 => (Rect.unit (s := S256x256) ![64 * g.val, 0] S64x256.size (inbGrp g)).set)
    (fun x => by
      have hx : (x 0).val < 256 := (x 0).isLt
      refine ⟨fun _ => ⟨⟨(x 0).val / 64, by omega⟩, ?_⟩, fun _ => Finset.mem_univ _⟩
      rw [mem_rows (n := 64) _ _ _ _ rfl rfl]
      dsimp only
      omega)
    (fun i j hij => Rect.unit_disjoint (a := 0) (by
      show 64 * i.val + 64 ≤ 64 * j.val ∨ 64 * j.val + 64 ≤ 64 * i.val
      have := fun e => hij (Fin.ext e)
      omega)) c
  rw [View.setOn_univ] at h
  have e : (fun g => (grpM g).view.set) = fun g : Fin 4 =>
      pM.view.setOn (Rect.unit (s := S256x256) ![64 * g.val, 0] S64x256.size (inbGrp g)).set := funext fun g => grp_set g
  rw [e]; exact h

theorem row_pieces (g : Fin 4) (c : Dev nD) :
    Pieces (ℓ := pM.view.loc (c : Thread nD τ)) (grpM g).view.set fun j => (blkM (gj g j)).view.set := by
  have h := pieces_on pM.view (A := (Rect.unit (s := S256x256) ![64 * g.val, 0] S64x256.size (inbGrp g)).set)
    (B := fun j : Fin 4 => (Rect.unit (s := S256x256) ![16 * (gj g j).val, 0] S16x256.size (inbBlk (gj g j))).set)
    (fun x => by
      rw [mem_rows (n := 64) _ _ _ _ rfl rfl]
      constructor
      · intro hx
        refine ⟨⟨((x 0).val - 64 * g.val) / 16, by omega⟩, ?_⟩
        rw [mem_rows (n := 16) _ _ _ _ rfl rfl]
        unfold gj
        dsimp only
        omega
      · rintro ⟨j, hj⟩
        rw [mem_rows (n := 16) _ _ _ _ rfl rfl] at hj
        unfold gj at hj
        dsimp only at hj
        have := j.isLt
        omega)
    (fun i j hij => Rect.unit_disjoint (a := 0) (by
      show 16 * (4 * g.val + i.val) + 16 ≤ 16 * (4 * g.val + j.val) ∨ 16 * (4 * g.val + j.val) + 16 ≤ 16 * (4 * g.val + i.val)
      have := fun e => hij (Fin.ext e)
      omega)) c
  rw [← grp_set] at h
  have e : (fun j => (blkM (gj g j)).view.set) = fun j : Fin 4 =>
      pM.view.setOn (Rect.unit (s := S256x256) ![16 * (gj g j).val, 0] S16x256.size (inbBlk (gj g j))).set :=
    funext fun j => blk_set (gj g j)
  rw [e]; exact h

/-! ## Whole buffers and their pieces -/

theorem slot_any_eq (M : Memref sig .tc .vmem S16x16x256 .bf16) (c : Dev nD) (s : Fin 16) :
    (anyAt (slot M s) c : sProp 𝕄) = anyL (M.view.loc (c : Thread nD τ)) (slot M s).view.set := rfl
theorem wiL_any_eq (c : Dev nD) (l : Fin 3) :
    (anyAt (wiL l) c : sProp 𝕄) = anyL (wiM.view.loc (c : Thread nD τ)) (wiL l).view.set := rfl
theorem woL_any_eq (c : Dev nD) (l : Fin 3) :
    (anyAt (woL l) c : sProp 𝕄) = anyL (woM.view.loc (c : Thread nD τ)) (woL l).view.set := rfl
theorem blk_any_eq (c : Dev nD) (b : Fin 16) :
    (anyAt (blkM b) c : sProp 𝕄) = anyL (pM.view.loc (c : Thread nD τ)) (blkM b).view.set := rfl
theorem grp_any_eq (c : Dev nD) (g : Fin 4) :
    (anyAt (grpM g) c : sProp 𝕄) = anyL (pM.view.loc (c : Thread nD τ)) (grpM g).view.set := rfl
theorem any_eq {sp : Space} {s : Shape} {e : EltTy} (M : Memref sig .tc sp s e) (c : Dev nD) :
    (anyAt M c : sProp 𝕄) = anyL (M.view.loc (c : Thread nD τ)) M.view.set := rfl

theorem any_slots (M : Memref sig .tc .vmem S16x16x256 .bf16) (c : Dev nD) :
    (anyAt M c : sProp 𝕄) ⊢ bigSep Finset.univ fun s => anyAt (slot M s) c := by
  simp only [slot_any_eq]; rw [any_eq]; exact anyL_cut (slot_pieces M c)
theorem slots_any (M : Memref sig .tc .vmem S16x16x256 .bf16) (c : Dev nD) :
    (bigSep Finset.univ fun s => anyAt (slot M s) c) ⊢ (anyAt M c : sProp 𝕄) := by
  simp only [slot_any_eq]; rw [any_eq]; exact anyL_join (slot_pieces M c)
theorem any_grps (c : Dev nD) : (anyAt pM c : sProp 𝕄) ⊢ bigSep Finset.univ fun g => anyAt (grpM g) c := by
  simp only [grp_any_eq]; rw [any_eq]; exact anyL_cut (grp_pieces c)
theorem blks_any (c : Dev nD) : (bigSep Finset.univ fun b => anyAt (blkM b) c) ⊢ (anyAt pM c : sProp 𝕄) := by
  simp only [blk_any_eq]; rw [any_eq]; exact anyL_join (blk_pieces c)
theorem any_wi (c : Dev nD) : (anyAt wiM c : sProp 𝕄) ⊢ bigSep Finset.univ fun l => anyAt (wiL l) c := by
  simp only [wiL_any_eq]; rw [any_eq]; exact anyL_cut (wi_pieces c)
theorem wi_any (c : Dev nD) : (bigSep Finset.univ fun l => anyAt (wiL l) c) ⊢ (anyAt wiM c : sProp 𝕄) := by
  simp only [wiL_any_eq]; rw [any_eq]; exact anyL_join (wi_pieces c)
theorem any_wo (c : Dev nD) : (anyAt woM c : sProp 𝕄) ⊢ bigSep Finset.univ fun l => anyAt (woL l) c := by
  simp only [woL_any_eq]; rw [any_eq]; exact anyL_cut (wo_pieces c)
theorem wo_any (c : Dev nD) : (bigSep Finset.univ fun l => anyAt (woL l) c) ⊢ (anyAt woM c : sProp 𝕄) := by
  simp only [woL_any_eq]; rw [any_eq]; exact anyL_join (wo_pieces c)

end Cert.MlpIdeal
-- ==== Proof.Ideal.Local.lean ====
/-
# Steps within a device

Copies between the device's memories, loads and stores of its own buffers, and the rules that put steps together.
-/
module

public import proofs.«01_k».proof.Proof.Ideal.Pieces

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-! ## Putting steps together -/

/-- The end of a piece of the program: it returns `a`. -/
theorem fin {P : sProp 𝕄} (a : α) : P ⊢ wp frame (wpE (defs₀ (F := F)) Variants.none (c : Thread nD τ) none) Set.univ (pure a) (fun v => iprop(⌜v = a⌝ ∗ P)) := by
  rw [wp_pure]
  refine BIBase.Entails.trans ?_ fupd_intro
  iintro H
  isplitr; · ipureintro; rfl
  iexact H

/-- A piece of the program that returns `g w` for some `w` that the proof names. -/
theorem fin_some {β : Type} {P : sProp 𝕄} (g : β → α) (w : β) :
    P ⊢ wp frame (wpE (defs₀ (F := F)) Variants.none (c : Thread nD τ) none) Set.univ (pure (g w)) (fun v => iprop(∃ w, ⌜v = g w⌝ ∗ P)) := by
  rw [wp_pure]
  refine BIBase.Entails.trans ?_ fupd_intro
  iintro H
  iexists w
  isplitr; · ipureintro; rfl
  iexact H

/-- A piece that returns `g w` for some `w`, and another after it. -/
theorem seq_some {β γ : Type} {P P' : sProp 𝕄} {p : Prog (TpuEff nD τ sig (Elt F) Λ₀ .tc) β}
    {f : β → Prog (TpuEff nD τ sig (Elt F) Λ₀ .tc) α} {g : γ → β}
    (h1 : P ⊢ wp frame (wpE (defs₀ (F := F)) Variants.none (c : Thread nD τ) none) Set.univ p (fun v => iprop(∃ w, ⌜v = g w⌝ ∗ P'))) (h2 : ∀ w, P' ⊢ wp frame (wpE (defs₀ (F := F)) Variants.none (c : Thread nD τ) none) Set.univ (f (g w)) Q) : P ⊢ wp frame (wpE (defs₀ (F := F)) Variants.none (c : Thread nD τ) none) Set.univ (p >>= f) Q := by
  rw [wp_bind]
  refine BIBase.Entails.trans h1 (wp_mono _ _ _ ?_)
  intro v
  iintro ⟨%w, %hv, H⟩
  subst hv
  iapply (h2 w) $$ [H]
  iexact H

/-- One piece of the program after another. -/
theorem seq {β : Type} {P P' : sProp 𝕄} {p : Prog (TpuEff nD τ sig (Elt F) Λ₀ .tc) β} {f : β → Prog (TpuEff nD τ sig (Elt F) Λ₀ .tc) α} {a : β}
    (h1 : P ⊢ wp frame (wpE (defs₀ (F := F)) Variants.none (c : Thread nD τ) none) Set.univ p (fun v => iprop(⌜v = a⌝ ∗ P'))) (h2 : P' ⊢ wp frame (wpE (defs₀ (F := F)) Variants.none (c : Thread nD τ) none) Set.univ (f a) Q) : P ⊢ wp frame (wpE (defs₀ (F := F)) Variants.none (c : Thread nD τ) none) Set.univ (p >>= f) Q := by
  rw [wp_bind]
  refine BIBase.Entails.trans h1 (wp_mono _ _ _ ?_)
  intro v
  iintro ⟨%hv, H⟩
  subst hv
  iapply h2
  iexact H

/-- From one meeting to the next. -/
theorem phase (ph' : ℕ) {ph i : ℕ} {P W C : sProp 𝕄} (hk : C ∗ OwP c ph' 0 ∗ P ⊢ W)
    (h : 16 * ph + i = 16 * ph' := by decide +kernel) : C ∗ OwP c ph i ∗ P ⊢ W := by
  have e : OwP (F := F) c ph i = OwP c ph' 0 := by unfold OwP; rw [h]; rfl
  rw [e]; exact hk

/-! ## Copies within the device -/

/-- What copy `j` starts from. -/
def ldPre (m : (ℓ : Loc nD τ sig) → Buf (Elt F) ℓ) (c : Dev nD) (j : Fin 8) : sProp 𝕄 :=
  match j with
  | 0 => iprop(argAt m main_arg0 c ∗ anyAt xM c)
  | 1 => iprop(argAt m main_arg1 c ∗ anyAt (wiL 0) c)
  | 2 => iprop(argAt m main_arg4 c ∗ anyAt (woL 0) c)
  | 3 => iprop(argAt m main_arg2 c ∗ anyAt (wiL 1) c)
  | 4 => iprop(argAt m main_arg5 c ∗ anyAt (woL 1) c)
  | 5 => iprop(argAt m main_arg3 c ∗ anyAt (wiL 2) c)
  | 6 => iprop(argAt m main_arg6 c ∗ anyAt (woL 2) c)
  | 7 => iprop(holds oM c (outv m c) ∗ anyAt (Memref.whole main_v1) c)

/-- The token and the position of the cell of copy `j`. -/
def ldTok (c : Dev nD) (j : Fin 8) : sProp 𝕄 :=
  iprop(dutyTok ER (cell c (.dma (ldS j))) 0 0 ∗ reached ER (cell c (.dma (ldS j))) 0 ∗ atPos ER (cell c (.dma (ldS j))) 0 ∅ 0)
/-- Before, -/
def CpI (m : (ℓ : Loc nD τ sig) → Buf (Elt F) ℓ) (c : Dev nD) (j : Fin 8) : sProp 𝕄 := iprop(ldPre m c j ∗ ldTok c j)
/-- during -/
def CpW (c : Dev nD) (j : Fin 8) : sProp 𝕄 :=
  iprop(cred (tallyAt (cell c (.dma (ldS j))) 0 (NL j)) ∗ atPos ER (cell c (.dma (ldS j))) 0 ∅ 0)
/-- and after copy `j`. -/
def CpD (m : (ℓ : Loc nD τ sig) → Buf (Elt F) ℓ) (c : Dev nD) (j : Fin 8) : sProp 𝕄 :=
  iprop(ldPay m c j ∗ atPos ER (cell c (.dma (ldS j))) 1 ∅ 0)

/-- A semaphore of the array of the copies within the device, at an offset. -/
abbrev semL (off : Fin 1 → ℕ) (inb : ∀ a, off a + S1.size a ≤ S8.size a) : DmaSem sig :=
  ((cc0_scratch12.slice (Rect.unit (s := S8) off S1.size inb)).squeeze S_ squeezes_S1_S_).sem

/-- The start of copy `j`. -/
theorem step_copy (j : Fin 8) {sp sp' : Space} {s : Shape} {e : EltTy} {src : Memref sig .tc sp s e} {dst : Memref sig .tc sp' s e}
    {off : Fin 1 → ℕ} {inb} {h1 : src.view.WordExact} {h2 : dst.view.WordExact}
    {h3 : DmaTarget.Typed (nD := nD) sp (SemLoc.dma (semL off inb)) (DmaTarget.here (p := (Proc.tc : Proc τ)) dst)} {O' : sProp 𝕄}
    (hpre : ldPre m c j ⊢ iprop(∃ fs fd, ⌜((dst.view.loc (c : Thread nD τ) ↦[dst.view.set]{fullShare}
        (dst.view.write (Elt F) fd (src.view.read (Elt F) fs) Finset.univ))
        ∗ (src.view.loc (c : Thread nD τ) ↦[src.view.set]{fullShare} fs) : sProp 𝕄) ⊢ ldPay m c j⌝
      ∗ (src.view.loc (c : Thread nD τ) ↦[src.view.set]{fullShare} fs) ∗ (dst.view.loc (c : Thread nD τ) ↦[dst.view.set]{fullShare} fd)))
    (hk : Ctx m K ∗ O' ∗ CpW c j ∗ R ⊢ wp frame (wpE (defs₀ (F := F)) Variants.none (c : Thread nD τ) none) Set.univ k Q)
    (hoff : off = ![j.val] := by decide +kernel) (hN : dst.view.dmaCredit = NL j := by rfl) :
    Ctx m K ∗ O' ∗ CpI m c j ∗ R ⊢
      wp frame (wpE (defs₀ (F := F)) Variants.none (c : Thread nD τ) none) Set.univ (Prog.lift (.enqueueDma src (.here dst) (.dma (semL off inb)) h1 h2 h3) >>= fun _ => k) Q := by
  have hs : semL off inb = ldS j := ldS_eq j inb hoff
  conv => rhs; simp only [Prog.lift, Prog.bind_op, Prog.bind_ret]
  revert h3
  rw [hs]
  intro h3
  unfold CpI CpW at *
  unfold ldTok
  iintro ⟨#HC, HO, ⟨Hpre, Htok, Hre, Hat⟩, HR⟩
  ihave H := hpre $$ Hpre
  icases H with ⟨%fs, %fd, %hpay, Hs, Hd⟩
  iapply (Rounds.wp_copy_pointsTo Variants.none ER (Rd m) (c : Thread nD τ) none (κ := K (c, .dma (ldS j))) (src := src) (dst := dst)
    (sem := .dma (ldS j)) (q := fullShare) (fs := fs) (fd := fd) (r := 0) (d := 0)
    (by rw [duties_ld m c j]; exact Finset.mem_singleton_self _) 0 (NL j) hN (amount_ld m c 0 j 0)
    (by rw [payload_ld m c 0 j 0]; exact hpay)) $$ [Htok Hre Hs Hd]
  · isplitr; · iapply (Ctx_cell m K c (.dma (ldS j))); iexact HC
    isplitl [Hs]; · iexact Hs
    isplitl [Hd]; · iexact Hd
    isplitl [Htok]; · iexact Htok
    iexact Hre
  iintro Hcr
  iapply hk
  isplitr; · iexact HC
  isplitl [HO]; · iexact HO
  isplitl [Hcr Hat]
  · isplitl [Hcr]; · iexact Hcr
    iexact Hat
  iexact HR

/-- A copy of an argument into a piece of the device's own memory. -/
theorem pre_arg {j : Fin 8} {sp' : Space} {s : Shape} {e : EltTy} {sp : Space} {src : Memref sig .tc sp s e} {dst : Memref sig .tc sp' s e}
    {v : Vec F s e} {fs : Buf (Elt F) (src.view.loc (c : Thread nD τ))}
    (h1 : ldPre m c j = iprop((src.view.loc (c : Thread nD τ) ↦[src.view.set]{fullShare} fs) ∗ anyAt dst c))
    (h2 : ldPay m c j = iprop(holds dst c v ∗ (src.view.loc (c : Thread nD τ) ↦[src.view.set]{fullShare} fs)))
    (hv : src.view.read (Elt F) fs = v) :
    ldPre m c j ⊢ iprop(∃ fs fd, ⌜((dst.view.loc (c : Thread nD τ) ↦[dst.view.set]{fullShare}
        (dst.view.write (Elt F) fd (src.view.read (Elt F) fs) Finset.univ))
        ∗ (src.view.loc (c : Thread nD τ) ↦[src.view.set]{fullShare} fs) : sProp 𝕄) ⊢ ldPay m c j⌝
      ∗ (src.view.loc (c : Thread nD τ) ↦[src.view.set]{fullShare} fs) ∗ (dst.view.loc (c : Thread nD τ) ↦[dst.view.set]{fullShare} fd)) := by
  rw [h1, h2]
  unfold anyAt holds
  iintro ⟨Hs, ⟨%fd, Hd⟩⟩
  iexists fs, fd
  isplitr
  · ipureintro
    iintro ⟨Hd, Hs⟩
    isplitl [Hd]
    · iexists _
      isplitl [Hd]; · iexact Hd
      ipureintro
      rw [View.read_write_univ]; exact hv
    iexact Hs
  isplitl [Hs]; · iexact Hs
  iexact Hd

/-- The copy of the result to its place. -/
theorem pre_out : ldPre m c 7 ⊢ iprop(∃ fs fd, ⌜(((Memref.whole main_v1).view.loc (c : Thread nD τ) ↦[(Memref.whole main_v1).view.set]{fullShare}
        ((Memref.whole main_v1).view.write (Elt F) fd (oM.view.read (Elt F) fs) Finset.univ))
        ∗ (oM.view.loc (c : Thread nD τ) ↦[oM.view.set]{fullShare} fs) : sProp 𝕄) ⊢ ldPay m c 7⌝
      ∗ (oM.view.loc (c : Thread nD τ) ↦[oM.view.set]{fullShare} fs)
      ∗ ((Memref.whole main_v1).view.loc (c : Thread nD τ) ↦[(Memref.whole main_v1).view.set]{fullShare} fd)) := by
  have h1 : ldPre m c 7 = iprop(holds oM c (outv m c) ∗ anyAt (Memref.whole main_v1) c) := rfl
  have h2 : ldPay m c 7 = iprop(holds (Memref.whole main_v1) c (outv m c) ∗ anyAt oM c) := rfl
  rw [h1, h2]
  unfold anyAt holds
  iintro ⟨⟨%fs, Hs, %hs⟩, ⟨%fd, Hd⟩⟩
  iexists fs, fd
  isplitr
  · ipureintro
    iintro ⟨Hd, Hs⟩
    isplitl [Hd]
    · iexists _
      isplitl [Hd]; · iexact Hd
      ipureintro
      rw [View.read_write_univ]; exact hs
    iexists fs; iexact Hs
  isplitl [Hs]; · iexact Hs
  iexact Hd

/-- The wait for copy `j`. -/
theorem step_copied (j : Fin 8) {ph i : ℕ} {sp sp' : Space} {s : Shape} {e : EltTy} {src : Memref sig .tc sp s e} {dst : Memref sig .tc sp' s e}
    {off : Fin 1 → ℕ} {inb} {h1 : src.view.WordExact} {h2 : dst.view.WordExact}
    (hk : Ctx m K ∗ OwP c ph i ∗ CpD m c j ∗ R ⊢ wp frame (wpE (defs₀ (F := F)) Variants.none (c : Thread nD τ) none) Set.univ k Q)
    (hoff : off = ![j.val] := by decide +kernel) (hN : dst.view.dmaCredit = NL j := by rfl) :
    Ctx m K ∗ OwP c ph i ∗ CpW c j ∗ R ⊢
      wp frame (wpE (defs₀ (F := F)) Variants.none (c : Thread nD τ) none) Set.univ (Prog.lift (.waitDma2 (semL off inb) src dst h1 h2) >>= fun _ => k) Q := by
  have hs : semL off inb = ldS j := ldS_eq j inb hoff
  conv => rhs; simp only [Prog.lift, Prog.bind_op, Prog.bind_ret]
  unfold CpW
  unfold CpD at hk
  refine core_wait_one (d := 0) (T := ldPay m c j) (fun Y => ?_) (by decide) (duties_ld m c j) (amount_ld m c 0 j 0) (payload_ld m c 0 j 0)
    (fun ph' h1 h2 => by rw [lv_ld]; exact phL_pos _) ?_
  · rw [wpE_waitDma2_eq Variants.none (c : Thread nD τ) none Set.univ, hN, hs]
  · refine BIBase.Entails.trans ?_ hk
    iintro ⟨HC, HO, ⟨Hat, -, HT⟩, HR⟩
    isplitl [HC]; · iexact HC
    isplitl [HO]; · iexact HO
    isplitl [Hat HT]
    · isplitl [HT]; · iexact HT
      iexact Hat
    iexact HR

/-! ## Loads and stores -/

/-- A load from a piece that a copy has filled. -/
theorem step_load_copied {j : Fin 8} {s s' : Shape} {e : EltTy} {M : Memref sig .tc .vmem s e} {D : Memref sig .tc .vmem s' e}
    {r : LoadRect s} {h0 : M.view.LoadsAt r} {v : Vec F s' e} {w : r.shape.Idx → Elt F e} {A O' : sProp 𝕄}
    {kf : (r.shape.Idx → Elt F e) → Prog (TpuEff nD τ sig (Elt F) Λ₀ .tc) α}
    (hpay : ldPay m c j = iprop(holds D c v ∗ A))
    (hload : (holds D c v : sProp 𝕄) ⊢ iprop((holds D c v -∗ wp frame (wpE (defs₀ (F := F)) Variants.none (c : Thread nD τ) none) Set.univ (kf w) Q) -∗ wp frame (wpE (defs₀ (F := F)) Variants.none (c : Thread nD τ) none) Set.univ (.op (.load M r h0 : TpuEff nD τ sig (Elt F) Λ₀ .tc (r.shape.Idx → Elt F e)) kf) Q))
    (hk : Ctx m K ∗ O' ∗ CpD m c j ∗ R ⊢ wp frame (wpE (defs₀ (F := F)) Variants.none (c : Thread nD τ) none) Set.univ (kf w) Q) :
    Ctx m K ∗ O' ∗ CpD m c j ∗ R ⊢ wp frame (wpE (defs₀ (F := F)) Variants.none (c : Thread nD τ) none) Set.univ (Prog.lift (.load M r h0 : TpuEff nD τ sig (Elt F) Λ₀ .tc (r.shape.Idx → Elt F e)) >>= kf) Q := by
  conv => rhs; simp only [Prog.lift, Prog.bind_op, Prog.bind_ret]
  unfold CpD at hk ⊢
  rw [hpay] at hk ⊢
  iintro ⟨HC, HO, ⟨⟨HD, HA⟩, Hat⟩, HR⟩
  iapply hload $$ HD
  iintro HD
  iapply hk
  isplitl [HC]; · iexact HC
  isplitl [HO]; · iexact HO
  isplitl [HD HA Hat]
  · isplitl [HD HA]
    · isplitl [HD]; · iexact HD
      iexact HA
    iexact Hat
  iexact HR

/-- A load reads what a held piece holds. -/
theorem load_holds {s s' : Shape} {e : EltTy} {M : Memref sig .tc .vmem s e} {D : Memref sig .tc .vmem s' e}
    {r : LoadRect s} {h0 : M.view.LoadsAt r} {v : Vec F s' e} {w : r.shape.Idx → Elt F e}
    {kf : (r.shape.Idx → Elt F e) → Prog (TpuEff nD τ sig (Elt F) Λ₀ .tc) α}
    (hloc : D.view.loc (c : Thread nD τ) = M.view.loc (c : Thread nD τ))
    (hv : ∀ f : Buf (Elt F) (D.view.loc (c : Thread nD τ)), D.view.read (Elt F) f = v →
      ((D.view.loc (c : Thread nD τ) ↦[D.view.set]{fullShare} f : sProp 𝕄)
        ⊢ iprop(((D.view.loc (c : Thread nD τ) ↦[D.view.set]{fullShare} f) -∗ wp frame (wpE (defs₀ (F := F)) Variants.none (c : Thread nD τ) none) Set.univ (kf w) Q) -∗ wp frame (wpE (defs₀ (F := F)) Variants.none (c : Thread nD τ) none) Set.univ (.op (.load M r h0 : TpuEff nD τ sig (Elt F) Λ₀ .tc (r.shape.Idx → Elt F e)) kf) Q))) :
    (holds D c v : sProp 𝕄) ⊢ iprop((holds D c v -∗ wp frame (wpE (defs₀ (F := F)) Variants.none (c : Thread nD τ) none) Set.univ (kf w) Q) -∗ wp frame (wpE (defs₀ (F := F)) Variants.none (c : Thread nD τ) none) Set.univ (.op (.load M r h0 : TpuEff nD τ sig (Elt F) Λ₀ .tc (r.shape.Idx → Elt F e)) kf) Q) := by
  unfold holds
  iintro ⟨%f, H, %hf⟩ Hk
  iapply (hv f hf) $$ H
  iintro H
  iapply Hk
  iexists f
  isplitl [H]; · iexact H
  ipureintro; exact hf

section Loads
variable {O' : sProp (MT nD τ sig ℕ (Elt F) ℕ UU ℕ)}

theorem step_load_x {inb : ∀ a, (![0, 0] : Fin 2 → ℕ) a + S256x256.size a ≤ S256x256.size a}
    {h0 : xM.view.LoadsAt (Rect.unit (s := S256x256) ![0, 0] S256x256.size inb).toLoadRect}
    {kf : Vec F S256x256 .f32 → Prog (TpuEff nD τ sig (Elt F) Λ₀ .tc) α}
    (hk : Ctx m K ∗ O' ∗ CpD m c 0 ∗ R ⊢ wp frame (wpE (defs₀ (F := F)) Variants.none (c : Thread nD τ) none) Set.univ (kf (xin m c)) Q) :
    Ctx m K ∗ O' ∗ CpD m c 0 ∗ R ⊢
      wp frame (wpE (defs₀ (F := F)) Variants.none (c : Thread nD τ) none) Set.univ (Prog.lift (.load xM (Rect.unit (s := S256x256) ![0, 0] S256x256.size inb).toLoadRect h0) >>= kf) Q := by
  refine step_load_copied (j := 0) (D := xM) (v := xin m c) rfl (load_holds rfl fun f hf => ?_) hk
  iintro H Hk
  iapply (wp_load Variants.none (c : Thread nD τ) none Set.univ (m := xM) (View.setOn_subset_set _ _)) $$ H
  rw [show xM.view.readAt (Elt F) (Rect.unit (s := S256x256) ![0, 0] S256x256.size inb).toLoadRect f = xin m c from
    (Memref.readAt_unit_zero (Elt F) cc0_scratch0 (by funext a; fin_cases a <;> rfl) inb f).trans hf]
  iexact Hk

/-- A load of a layer of the first weights. -/
theorem step_load_wi (j : Fin 8) (l : Fin 3) {v : Vec F S256x512 .f32} {A : sProp 𝕄}
    {off : Fin 3 → ℕ} {inb : ∀ a, off a + S1x256x512.size a ≤ S3x256x512.size a}
    {h0 : wiM.view.LoadsAt (Rect.unit (s := S3x256x512) off S1x256x512.size inb).toLoadRect}
    {kf : Vec F S1x256x512 .f32 → Prog (TpuEff nD τ sig (Elt F) Λ₀ .tc) α}
    (hpay : ldPay m c j = iprop(holds (wiL l) c v ∗ A))
    (hk : Ctx m K ∗ O' ∗ CpD m c j ∗ R ⊢ wp frame (wpE (defs₀ (F := F)) Variants.none (c : Thread nD τ) none) Set.univ (kf (upi v)) Q) (hoff : off = ![l.val, 0, 0] := by decide +kernel) :
    Ctx m K ∗ O' ∗ CpD m c j ∗ R ⊢
      wp frame (wpE (defs₀ (F := F)) Variants.none (c : Thread nD τ) none) Set.univ (Prog.lift (.load wiM (Rect.unit (s := S3x256x512) off S1x256x512.size inb).toLoadRect h0) >>= kf) Q := by
  subst hoff
  refine step_load_copied hpay (load_holds rfl fun f hf => ?_) hk
  iintro H Hk
  iapply (wp_load Variants.none (c : Thread nD τ) none Set.univ (m := wiM) (by rw [wiL_set])) $$ H
  rw [show wiM.view.readAt (Elt F) (Rect.unit (s := S3x256x512) ![l.val, 0, 0] S1x256x512.size inb).toLoadRect f = upi v by
    rw [← hf]; exact load_wi l f]
  iexact Hk

/-- A load of a layer of the second weights. -/
theorem step_load_wo (j : Fin 8) (l : Fin 3) {v : Vec F S512x256 .f32} {A : sProp 𝕄}
    {off : Fin 3 → ℕ} {inb : ∀ a, off a + S1x512x256.size a ≤ S3x512x256.size a}
    {h0 : woM.view.LoadsAt (Rect.unit (s := S3x512x256) off S1x512x256.size inb).toLoadRect}
    {kf : Vec F S1x512x256 .f32 → Prog (TpuEff nD τ sig (Elt F) Λ₀ .tc) α}
    (hpay : ldPay m c j = iprop(holds (woL l) c v ∗ A))
    (hk : Ctx m K ∗ O' ∗ CpD m c j ∗ R ⊢ wp frame (wpE (defs₀ (F := F)) Variants.none (c : Thread nD τ) none) Set.univ (kf (upo v)) Q) (hoff : off = ![l.val, 0, 0] := by decide +kernel) :
    Ctx m K ∗ O' ∗ CpD m c j ∗ R ⊢
      wp frame (wpE (defs₀ (F := F)) Variants.none (c : Thread nD τ) none) Set.univ (Prog.lift (.load woM (Rect.unit (s := S3x512x256) off S1x512x256.size inb).toLoadRect h0) >>= kf) Q := by
  subst hoff
  refine step_load_copied hpay (load_holds rfl fun f hf => ?_) hk
  iintro H Hk
  iapply (wp_load Variants.none (c : Thread nD τ) none Set.univ (m := woM) (by rw [woL_set])) $$ H
  rw [show woM.view.readAt (Elt F) (Rect.unit (s := S3x512x256) ![l.val, 0, 0] S1x512x256.size inb).toLoadRect f = upo v by
    rw [← hf]; exact load_wo l f]
  iexact Hk

/-- A load of a held buffer whose value nobody uses. -/
theorem step_load_any {s s' : Shape} {e : EltTy} {M : Memref sig .tc .vmem s e} {D : Memref sig .tc .vmem s' e}
    {r : LoadRect s} {h0 : M.view.LoadsAt r} {kf : (r.shape.Idx → Elt F e) → Prog (TpuEff nD τ sig (Elt F) Λ₀ .tc) α}
    (hload : ∀ f : Buf (Elt F) (D.view.loc (c : Thread nD τ)), ∃ w, (D.view.loc (c : Thread nD τ) ↦[D.view.set]{fullShare} f : sProp 𝕄)
      ⊢ iprop(((D.view.loc (c : Thread nD τ) ↦[D.view.set]{fullShare} f) -∗ wp frame (wpE (defs₀ (F := F)) Variants.none (c : Thread nD τ) none) Set.univ (kf w) Q) -∗ wp frame (wpE (defs₀ (F := F)) Variants.none (c : Thread nD τ) none) Set.univ (.op (.load M r h0 : TpuEff nD τ sig (Elt F) Λ₀ .tc (r.shape.Idx → Elt F e)) kf) Q))
    (hk : ∀ w, Ctx m K ∗ O' ∗ anyAt D c ∗ R ⊢ wp frame (wpE (defs₀ (F := F)) Variants.none (c : Thread nD τ) none) Set.univ (kf w) Q) :
    Ctx m K ∗ O' ∗ anyAt D c ∗ R ⊢ wp frame (wpE (defs₀ (F := F)) Variants.none (c : Thread nD τ) none) Set.univ (Prog.lift (.load M r h0 : TpuEff nD τ sig (Elt F) Λ₀ .tc (r.shape.Idx → Elt F e)) >>= kf) Q := by
  conv => rhs; simp only [Prog.lift, Prog.bind_op, Prog.bind_ret]
  have hk' : ∀ w f, Ctx m K ∗ O' ∗ (D.view.loc (c : Thread nD τ) ↦[D.view.set]{fullShare} f) ∗ R ⊢ wp frame (wpE (defs₀ (F := F)) Variants.none (c : Thread nD τ) none) Set.univ (kf w) Q := by
    intro w f
    refine BIBase.Entails.trans ?_ (hk w)
    unfold anyAt
    iintro ⟨HC, HO, H, HR⟩
    isplitl [HC]; · iexact HC
    isplitl [HO]; · iexact HO
    isplitl [H]; · iexists f; iexact H
    iexact HR
  unfold anyAt
  iintro ⟨HC, HO, ⟨%f, H⟩, HR⟩
  obtain ⟨w, hw⟩ := hload f
  iapply hw $$ H
  iintro H
  iapply (hk' w f)
  isplitl [HC]; · iexact HC
  isplitl [HO]; · iexact HO
  isplitl [H]; · iexact H
  iexact HR

theorem step_load_all {s : Shape} {e : EltTy} {M : Memref sig .tc .vmem s e}
    {r : LoadRect s} {h0 : M.view.LoadsAt r} {kf : (r.shape.Idx → Elt F e) → Prog (TpuEff nD τ sig (Elt F) Λ₀ .tc) α}
    (hk : ∀ w, Ctx m K ∗ O' ∗ anyAt M c ∗ R ⊢ wp frame (wpE (defs₀ (F := F)) Variants.none (c : Thread nD τ) none) Set.univ (kf w) Q) :
    Ctx m K ∗ O' ∗ anyAt M c ∗ R ⊢ wp frame (wpE (defs₀ (F := F)) Variants.none (c : Thread nD τ) none) Set.univ (Prog.lift (.load M r h0 : TpuEff nD τ sig (Elt F) Λ₀ .tc (r.shape.Idx → Elt F e)) >>= kf) Q :=
  step_load_any (fun f => ⟨_, wp_load Variants.none (c : Thread nD τ) none Set.univ (m := M) (View.setOn_subset_set _ _)⟩) hk

/-- The four blocks of a group of the partial result hold a stored value's rows. -/
def Grp (c : Dev nD) (g : Fin 4) : sProp 𝕄 := anyAt (grpM g) c

theorem step_load_grp (g : Fin 4) {off : Fin 2 → ℕ} {inb : ∀ a, off a + S64x256.size a ≤ S256x256.size a}
    {h0 : pM.view.LoadsAt (Rect.unit (s := S256x256) off S64x256.size inb).toLoadRect}
    {kf : Vec F S64x256 .bf16 → Prog (TpuEff nD τ sig (Elt F) Λ₀ .tc) α}
    (hk : ∀ w, Ctx m K ∗ O' ∗ Grp c g ∗ R ⊢ wp frame (wpE (defs₀ (F := F)) Variants.none (c : Thread nD τ) none) Set.univ (kf w) Q) (hoff : off = ![64 * g.val, 0] := by decide +kernel) :
    Ctx m K ∗ O' ∗ Grp c g ∗ R ⊢
      wp frame (wpE (defs₀ (F := F)) Variants.none (c : Thread nD τ) none) Set.univ (Prog.lift (.load pM (Rect.unit (s := S256x256) off S64x256.size inb).toLoadRect h0) >>= kf) Q := by
  subst hoff
  exact step_load_any (D := grpM g)
    (fun f => ⟨_, wp_load Variants.none (c : Thread nD τ) none Set.univ (m := pM) (by rw [grp_set])⟩) hk

/-- The value of group `g` in layer `r`. -/
def grpV (m : (ℓ : Loc nD τ sig) → Buf (Elt F) ℓ) (r : ℕ) (c : Dev nD) (g : Fin 4) : FVec F S64x256 .bf16 :=
  if r = 1 then grp1 m c g else grp2 m c g

theorem blk_grp (r : ℕ) (hr : r = 1 ∨ r = 2) (c : Dev nD) (g j : Fin 4) (b : Fin 16) (hb : gj g j = b) :
    blk m r c (sentB r b) = rows64 j (grpV m r c g) := by
  subst hb
  rcases hr with rfl | rfl
  · show blk1 m c (ap (gj g j)) = rows64 j (grp1 m c g)
    unfold blk1; rw [ap_ap, jOf_gj, gOf_gj]
  · show blk2 m c (gj g j) = rows64 j (grp2 m c g)
    unfold blk2; rw [jOf_gj, gOf_gj]

theorem step_store_grp {r i : ℕ} {off : Fin 2 → ℕ} {inb : ∀ a, off a + S64x256.size a ≤ S256x256.size a} {w : Vec F S64x256 .bf16}
    {h0 : (pM.access (Rect.unit (s := S256x256) off S64x256.size inb)).Stores Finset.univ}
    {h1 : ((Finset.univ : Finset (Rect.unit (s := S256x256) off S64x256.size inb).shape.Idx) = Finset.univ
      ∨ ∀ a, (Rect.unit (s := S256x256) off S64x256.size inb).stride a = 1)} (g : Fin 4)
    (hk : Ctx m K ∗ O' ∗ Blk m r c i ∗ Blk m r c (i + 1) ∗ Blk m r c (i + 2) ∗ Blk m r c (i + 3) ∗ R ⊢ wp frame (wpE (defs₀ (F := F)) Variants.none (c : Thread nD τ) none) Set.univ k Q)
    (hw : w = grpV m r c g)
    (hr : r = 1 ∨ r = 2 := by decide +kernel) (hi : ∀ j : Fin 4, gj g j = plc (i + j.val) := by decide +kernel)
    (hoff : off = ![64 * g.val, 0] := by decide +kernel) :
    Ctx m K ∗ O' ∗ Grp c g ∗ R ⊢
      wp frame (wpE (defs₀ (F := F)) Variants.none (c : Thread nD τ) none) Set.univ (Prog.lift (.store pM (Rect.unit (s := S256x256) off S64x256.size inb) w Finset.univ h0 h1) >>= fun _ => k) Q := by
  subst hoff hw
  conv => rhs; simp only [Prog.lift, Prog.bind_op, Prog.bind_ret]
  unfold Grp anyAt
  have hB : ∀ j : Fin 4, ∀ f, (pM.view.loc (c : Thread nD τ) ↦[(blkM (gj g j)).view.set]{fullShare}
      ((pM.access (Rect.unit (s := S256x256) ![64 * g.val, 0] S64x256.size inb)).write (Elt F) f (grpV m r c g) Finset.univ) : sProp 𝕄)
      ⊢ Blk m r c (i + j.val) := by
    intro j f
    unfold Blk holds
    rw [← hi j, blk_grp r hr c g j _ rfl]
    iintro H
    iexists _
    isplitl [H]; · iexact H
    ipureintro
    exact blk_of_grp g j f (grpV m r c g)
  have hcut : ∀ f, ((grpM g).view.loc (c : Thread nD τ) ↦[(grpM g).view.set]{fullShare}
      ((pM.access (Rect.unit (s := S256x256) ![64 * g.val, 0] S64x256.size inb)).write (Elt F) f (grpV m r c g) Finset.univ) : sProp 𝕄)
      ⊢ Blk m r c i ∗ Blk m r c (i + 1) ∗ Blk m r c (i + 2) ∗ Blk m r c (i + 3) := by
    intro f
    refine BIBase.Entails.trans (Entails.of_eq (cut (row_pieces g c) _)) ?_
    rw [bigSep_univ_eq_bigSepL [0, 1, 2, 3] (by decide +kernel) (by decide +kernel)]
    exact BIClass.sep_mono (hB 0 f) (BIClass.sep_mono (hB 1 f) (BIClass.sep_mono (hB 2 f) (hB 3 f)))
  iintro ⟨HC, HO, ⟨%f, H⟩, HR⟩
  iapply (wp_store Variants.none (c : Thread nD τ) none Set.univ (m := pM)
      (r := Rect.unit (s := S256x256) ![64 * g.val, 0] S64x256.size inb) (Mk := Finset.univ) (S := (grpM g).view.set)
      (by rw [View.setOn_univ])) $$ H
  iintro H
  ihave H := (hcut f) $$ H
  icases H with ⟨H0, H1, H2, H3⟩
  iapply hk
  isplitl [HC]; · iexact HC
  isplitl [HO]; · iexact HO
  isplitl [H0]; · iexact H0
  isplitl [H1]; · iexact H1
  isplitl [H2]; · iexact H2
  isplitl [H3]; · iexact H3
  iexact HR

/-- Four blocks of layer `r` from place `i` on. -/
abbrev Blk4 (m : (ℓ : Loc nD τ sig) → Buf (Elt F) ℓ) (r : ℕ) (c : Dev nD) (i : ℕ) (X : sProp 𝕄) : sProp 𝕄 :=
  iprop(Blk m r c i ∗ Blk m r c (i + 1) ∗ Blk m r c (i + 2) ∗ Blk m r c (i + 3) ∗ X)

/-- The store of the first layer's partial result. -/
theorem step_store_part {inb : ∀ a, (![0, 0] : Fin 2 → ℕ) a + S256x256.size a ≤ S256x256.size a} {w : Vec F S256x256 .bf16}
    {h0 : (pM.access (Rect.unit (s := S256x256) ![0, 0] S256x256.size inb)).Stores Finset.univ}
    {h1 : ((Finset.univ : Finset (Rect.unit (s := S256x256) ![0, 0] S256x256.size inb).shape.Idx) = Finset.univ
      ∨ ∀ a, (Rect.unit (s := S256x256) ![0, 0] S256x256.size inb).stride a = 1)}
    (hk : Ctx m K ∗ O' ∗ Blk4 m 0 c 0 (Blk4 m 0 c 4 (Blk4 m 0 c 8 (Blk4 m 0 c 12 R))) ⊢ wp frame (wpE (defs₀ (F := F)) Variants.none (c : Thread nD τ) none) Set.univ k Q)
    (hw : w = part0 m c := by rfl) :
    Ctx m K ∗ O' ∗ anyAt pM c ∗ R ⊢
      wp frame (wpE (defs₀ (F := F)) Variants.none (c : Thread nD τ) none) Set.univ (Prog.lift (.store pM (Rect.unit (s := S256x256) ![0, 0] S256x256.size inb) w Finset.univ h0 h1) >>= fun _ => k) Q := by
  subst hw
  conv => rhs; simp only [Prog.lift, Prog.bind_op, Prog.bind_ret]
  have hB : ∀ j : Fin 16, (pM.view.loc (c : Thread nD τ) ↦[(blkM j).view.set]{fullShare} (part0 m c) : sProp 𝕄) ⊢ Blk m 0 c j.val := by
    intro j
    unfold Blk holds
    rw [show plc j.val = j from Fin.ext (Nat.mod_eq_of_lt j.isLt)]
    iintro H
    iexists _
    isplitl [H]; · iexact H
    ipureintro
    exact blk_of_whole j (part0 m c)
  have hcut : (pM.view.loc (c : Thread nD τ) ↦[pM.view.set]{fullShare} (part0 m c) : sProp 𝕄)
      ⊢ bigSep Finset.univ fun j : Fin 16 => Blk m 0 c j.val :=
    BIBase.Entails.trans (Entails.of_eq (cut (blk_pieces c) _)) (bigSep_mono fun j _ => hB j)
  have hst : ∀ f, (pM.access (Rect.unit (s := S256x256) ![0, 0] S256x256.size inb)).write (Elt F) f (part0 m c) Finset.univ = part0 m c :=
    fun f => Memref.write_access_unit_zero_univ (Elt F) cc0_scratch4 (by funext a; fin_cases a <;> rfl) inb f (part0 m c)
  have hk' : Ctx m K ∗ O' ∗ (bigSep Finset.univ fun j : Fin 16 => Blk m 0 c j.val) ∗ R ⊢ wp frame (wpE (defs₀ (F := F)) Variants.none (c : Thread nD τ) none) Set.univ k Q := by
    refine BIBase.Entails.trans ?_ hk
    rw [bigSep_univ_eq_bigSepL [0, 1, 2, 3, 4, 5, 6, 7, 8, 9, 10, 11, 12, 13, 14, 15] (by decide +kernel) (by decide +kernel)]
    show Ctx m K ∗ O' ∗ (Blk m 0 c 0 ∗ Blk m 0 c 1 ∗ Blk m 0 c 2 ∗ Blk m 0 c 3 ∗ Blk m 0 c 4 ∗ Blk m 0 c 5 ∗ Blk m 0 c 6 ∗ Blk m 0 c 7
      ∗ Blk m 0 c 8 ∗ Blk m 0 c 9 ∗ Blk m 0 c 10 ∗ Blk m 0 c 11 ∗ Blk m 0 c 12 ∗ Blk m 0 c 13 ∗ Blk m 0 c 14 ∗ Blk m 0 c 15) ∗ R ⊢ _
    iintro ⟨HC, HO, ⟨H0, H1, H2, H3, H4, H5, H6, H7, H8, H9, H10, H11, H12, H13, H14, H15⟩, HR⟩
    isplitl [HC]; · iexact HC
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HR
  unfold anyAt
  iintro ⟨HC, HO, ⟨%f, H⟩, HR⟩
  iapply (wp_store Variants.none (c : Thread nD τ) none Set.univ (m := pM)
      (r := Rect.unit (s := S256x256) ![0, 0] S256x256.size inb) (Mk := Finset.univ) (S := pM.view.set)
      (by rw [View.setOn_univ]; exact View.set_slice_subset _ _)) $$ H
  iintro H
  rw [hst f]
  ihave H := hcut $$ H
  iapply hk'
  isplitl [HC]; · iexact HC
  isplitl [HO]; · iexact HO
  isplitl [H]; · iexact H
  iexact HR

/-- All shares of the summed rows. -/
def RAll (m : (ℓ : Loc nD τ sig) → Buf (Elt F) ℓ) (r : ℕ) (c : Dev nD) : sProp 𝕄 := bigSep Finset.univ fun j => rShare m c r j

theorem RAll_eq (r : ℕ) (c : Dev nD) : RAll m r c
    = (rM.view.loc (c : Thread nD τ) ↦[rM.view.set]{fullShare} (rvec m r c : Vec F S16x256 .bf16) : sProp 𝕄) :=
  (Transfers.pointsTo_deal Finset.univ Finset.univ_nonempty fullShare).symm

/-- The store of the summed rows. -/
theorem step_store_r {r : ℕ} {inb : ∀ a, (![0, 0] : Fin 2 → ℕ) a + S16x256.size a ≤ S16x256.size a} {w : Vec F S16x256 .bf16}
    {h0 : (rM.access (Rect.unit (s := S16x256) ![0, 0] S16x256.size inb)).Stores Finset.univ}
    {h1 : ((Finset.univ : Finset (Rect.unit (s := S16x256) ![0, 0] S16x256.size inb).shape.Idx) = Finset.univ
      ∨ ∀ a, (Rect.unit (s := S16x256) ![0, 0] S16x256.size inb).stride a = 1)}
    (hw : w = rvec m r c) (hk : Ctx m K ∗ O' ∗ RAll m r c ∗ R ⊢ wp frame (wpE (defs₀ (F := F)) Variants.none (c : Thread nD τ) none) Set.univ k Q) :
    Ctx m K ∗ O' ∗ anyAt rM c ∗ R ⊢
      wp frame (wpE (defs₀ (F := F)) Variants.none (c : Thread nD τ) none) Set.univ (Prog.lift (.store rM (Rect.unit (s := S16x256) ![0, 0] S16x256.size inb) w Finset.univ h0 h1) >>= fun _ => k) Q := by
  subst hw
  conv => rhs; simp only [Prog.lift, Prog.bind_op, Prog.bind_ret]
  rw [RAll_eq] at hk
  have hst : ∀ f, (rM.access (Rect.unit (s := S16x256) ![0, 0] S16x256.size inb)).write (Elt F) f (rvec m r c) Finset.univ = rvec m r c :=
    fun f => Memref.write_access_unit_zero_univ (Elt F) cc0_scratch5 (by funext a; fin_cases a <;> rfl) inb f (rvec m r c)
  unfold anyAt
  iintro ⟨HC, HO, ⟨%f, H⟩, HR⟩
  iapply (wp_store Variants.none (c : Thread nD τ) none Set.univ (m := rM)
      (r := Rect.unit (s := S16x256) ![0, 0] S16x256.size inb) (Mk := Finset.univ) (S := rM.view.set)
      (by rw [View.setOn_univ]; exact View.set_slice_subset _ _)) $$ H
  iintro H
  rw [hst f]
  iapply hk
  isplitl [HC]; · iexact HC
  isplitl [HO]; · iexact HO
  isplitl [H]; · iexact H
  iexact HR

/-- The store of the result. -/
theorem step_store_o {inb : ∀ a, (![0, 0] : Fin 2 → ℕ) a + S16x256.size a ≤ S16x256.size a} {w : Vec F S16x256 .f32}
    {h0 : (oM.access (Rect.unit (s := S16x256) ![0, 0] S16x256.size inb)).Stores Finset.univ}
    {h1 : ((Finset.univ : Finset (Rect.unit (s := S16x256) ![0, 0] S16x256.size inb).shape.Idx) = Finset.univ
      ∨ ∀ a, (Rect.unit (s := S16x256) ![0, 0] S16x256.size inb).stride a = 1)}
    (hw : w = outv m c) (hk : Ctx m K ∗ O' ∗ holds oM c (outv m c) ∗ R ⊢ wp frame (wpE (defs₀ (F := F)) Variants.none (c : Thread nD τ) none) Set.univ k Q) :
    Ctx m K ∗ O' ∗ anyAt oM c ∗ R ⊢
      wp frame (wpE (defs₀ (F := F)) Variants.none (c : Thread nD τ) none) Set.univ (Prog.lift (.store oM (Rect.unit (s := S16x256) ![0, 0] S16x256.size inb) w Finset.univ h0 h1) >>= fun _ => k) Q := by
  subst hw
  conv => rhs; simp only [Prog.lift, Prog.bind_op, Prog.bind_ret]
  have hst : ∀ f, (oM.access (Rect.unit (s := S16x256) ![0, 0] S16x256.size inb)).write (Elt F) f (outv m c) Finset.univ = outv m c :=
    fun f => Memref.write_access_unit_zero_univ (Elt F) cc0_scratch3 (by funext a; fin_cases a <;> rfl) inb f (outv m c)
  unfold anyAt
  unfold holds at hk
  iintro ⟨HC, HO, ⟨%f, H⟩, HR⟩
  iapply (wp_store Variants.none (c : Thread nD τ) none Set.univ (m := oM)
      (r := Rect.unit (s := S16x256) ![0, 0] S16x256.size inb) (Mk := Finset.univ) (S := oM.view.set)
      (by rw [View.setOn_univ]; exact View.set_slice_subset _ _)) $$ H
  iintro H
  rw [hst f]
  iapply hk
  isplitl [HC]; · iexact HC
  isplitl [HO]; · iexact HO
  isplitl [H]
  · iexists (outv m c)
    isplitl [H]; · iexact H
    ipureintro; rfl
  iexact HR

end Loads

end Cert.MlpIdeal
-- ==== Proof.Ideal.Glue.lean ====
/-
# From one meeting to the next

What a device holds between the loops of the kernel, and how the end of one loop makes the beginning of the next.
-/
module

public import proofs.«01_k».proof.Proof.Ideal.Local

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-! ## What a device holds between the loops -/

section Held
variable (r : ℕ) (c : Dev nD)

/-- The tokens of device `c`'s signals at barrier `r`, -/
def BarTok : sProp 𝕄 := others c fun s => dutyTok ER (cell s (.reg barS)) r c
/-- of its messages in scatter `r`, -/
def RsTok : sProp 𝕄 := others c fun s => iprop(dutyTok ER (cell s (.dma (rsS c))) r c ∗ dutyTok ER (cell c (.dma (rsendS s))) r s)
/-- and in gather `r`. -/
def AgTok : sProp 𝕄 := others c fun s => iprop(dutyTok ER (cell s (.dma (agS c))) r c ∗ dutyTok ER (cell c (.dma (asendS s))) r s)
/-- What it is owed at barrier `r`, -/
def BarCred : sProp 𝕄 := cred (tallyAt (cell c (.reg barS)) r 15)
/-- in scatter `r`, -/
def RsCred : sProp 𝕄 := others c fun s => cred (tallyAt (cell c (.dma (rsS s))) r N)
/-- and in gather `r`. -/
def AgCred : sProp 𝕄 := others c fun s => cred (tallyAt (cell c (.dma (agS s))) r N)
/-- Its places at the barrier -/
def BarPos : sProp 𝕄 := atPos ER (cell c (.reg barS)) r ∅ 0
/-- and at an array of semaphores, one for each other device. -/
def Pos (sm : Fin 16 → DmaSem sig) : sProp 𝕄 := others c fun s => atPos ER (cell c (.dma (sm s))) r ∅ 0
/-- Those semaphores have come to round `r`. -/
def Rch (sm : Fin 16 → DmaSem sig) : sProp 𝕄 := others c fun s => reached ER (cell c (.dma (sm s))) r
/-- Every other device's barrier has come to round `r`. -/
def BarRch : sProp 𝕄 := others c fun s => reached ER (cell s (.reg barS)) r
/-- What it needs to wait at barrier `r`, -/
def BarW : sProp 𝕄 := iprop(cred (tallyAt (cell c (.reg barS)) r 15) ∗ atPos ER (cell c (.reg barS)) r ∅ 0)
/-- and what it has then. -/
def BarM : sProp 𝕄 :=
  iprop(atPos ER (cell c (.reg barS)) (r + 1) ∅ 0 ∗ reached ER (cell c (.reg barS)) (r + 1) ∗ others c (barPay c r))
end Held

/-- All cells are at their first round. -/
def Reach0 : sProp 𝕄 := bigSep Finset.univ fun p : Dev nD × SemLoc sig => reached ER (cell p.1 p.2) 0
/-- The slots of an exchange buffer. -/
def Slots (M : Memref sig .tc .vmem S16x16x256 .bf16) (c : Dev nD) : sProp 𝕄 := bigSep Finset.univ fun s => anyAt (slot M s) c
/-- The own slot. -/
def Own (M : Memref sig .tc .vmem S16x16x256 .bf16) (c : Dev nD) : sProp 𝕄 := anyAt (slot M c) c

theorem Reach0_at (p : Dev nD × SemLoc sig) : (Reach0 : sProp 𝕄) ⊢ reached ER (cell p.1 p.2) 0 := bigSep_elim (Finset.mem_univ p)
instance Reach0_persistent : BI.Persistent (Reach0 : sProp 𝕄) := by unfold Reach0; infer_instance

theorem others_mono {X Y : Fin 16 → sProp 𝕄} (h : ∀ s, s ≠ c → X s ⊢ Y s) : others c X ⊢ others c Y :=
  bigSep_mono fun s hs => h s (Finset.mem_erase.mp hs).1
theorem others_of {P : sProp 𝕄} [BI.Persistent P] {X : Fin 16 → sProp 𝕄} (h : ∀ s, P ⊢ X s) : P ⊢ others c X :=
  BIBase.Entails.trans (BI.bigSep_of_persistent (Finset.univ.erase c) P) (bigSep_mono fun s _ => h s)
theorem univ_own (c : Fin 16) (X : Fin 16 → sProp 𝕄) : bigSep Finset.univ X = iprop(X c ∗ others c X) := bigSep_univ_at X c

/-! ## Bringing a resource to the front -/

section Bring
variable {C O' T T' X Y W : sProp (MT nD τ sig ℕ (Elt F) ℕ UU ℕ)}
theorem pO : iprop(X ∗ T) ⊢ iprop(X ∗ T) := BIBase.Entails.refl
theorem pS (h : T ⊢ iprop(X ∗ T')) : iprop(Y ∗ T) ⊢ iprop(X ∗ Y ∗ T') := by
  iintro ⟨HY, HT⟩
  ihave H := h $$ HT
  icases H with ⟨HX, HT⟩
  isplitl [HX]; · iexact HX
  isplitl [HY]; · iexact HY
  iexact HT
theorem bring (h : T ⊢ iprop(X ∗ T')) (hk : iprop(C ∗ O' ∗ X ∗ T') ⊢ W) : iprop(C ∗ O' ∗ T) ⊢ W := by
  refine BIBase.Entails.trans ?_ hk
  iintro ⟨HC, HO, HT⟩
  isplitl [HC]; · iexact HC
  isplitl [HO]; · iexact HO
  iapply h
  iexact HT
/-- Replacing the resources in front. -/
theorem turn (h : iprop(X ∗ T) ⊢ T') (hk : iprop(C ∗ O' ∗ T') ⊢ W) : iprop(C ∗ O' ∗ X ∗ T) ⊢ W := by
  refine BIBase.Entails.trans ?_ hk
  iintro ⟨HC, HO, HT⟩
  isplitl [HC]; · iexact HC
  isplitl [HO]; · iexact HO
  iapply h
  iexact HT
end Bring

/-! ## The steps between the loops -/

theorem bar_wait {r : ℕ} : BarCred r c ∗ BarPos r c ∗ R ⊢ BarW r c ∗ R := by
  unfold BarCred BarPos BarW
  iintro ⟨H1, H2, HR⟩
  isplitl [H1 H2]
  · isplitl [H1]; · iexact H1
    iexact H2
  iexact HR

theorem rch_zero (sm : Fin 16 → DmaSem sig) : Reach0 ∗ R ⊢ Rch 0 c sm ∗ Reach0 ∗ R := by
  have h : (Reach0 : sProp 𝕄) ⊢ Rch 0 c sm := others_of fun s => Reach0_at (c, .dma (sm s))
  iintro ⟨#H, HR⟩
  isplitr; · iapply h; iexact H
  isplitr; · iexact H
  iexact HR

theorem barPay_zero (c d : Dev nD) : (barPay c 0 d : sProp 𝕄) = iprop(anyAt (slot rsM c) d ∗ reached ER (cell d (.dma (rsS c))) 0) := by
  unfold barPay
  rw [if_pos rfl]
  congr 1
  exact equiv_iff.mp BI.sep_emp

/-- Before the first barrier: the other devices get their slots of the first exchange buffer. -/
theorem sig_first : BarTok 0 c ∗ Slots rsM c ∗ Reach0 ∗ R ⊢ SigF 0 c 0 ∗ Own rsM c ∗ Reach0 ∗ R := by
  unfold SigF BarTok Slots Own
  rw [Fam_zero]
  unfold sigP
  rw [split_emp_all, univ_own c]
  have h1 : (Reach0 : sProp 𝕄) ⊢ others c fun s => iprop(reached ER (cell c (.dma (rsS s))) 0 ∗ reached ER (cell s (.reg barS)) 0) :=
    others_of fun s => by
      iintro #H
      isplitr
      · iapply (Reach0_at (c, .dma (rsS s))); iexact H
      iapply (Reach0_at (s, .reg barS)); iexact H
  have h2 : iprop((others c fun s => dutyTok ER (cell s (.reg barS)) 0 c) ∗ (others c fun s => anyAt (slot rsM s) c)
      ∗ others c fun s => iprop(reached ER (cell c (.dma (rsS s))) 0 ∗ reached ER (cell s (.reg barS)) 0))
      ⊢ (others c fun s => iprop(dutyTok ER (cell s (.reg barS)) 0 c ∗ barPay s 0 c ∗ reached ER (cell s (.reg barS)) 0) : sProp 𝕄) := by
    rw [← others_sep, ← others_sep]
    refine others_mono fun s _ => ?_
    rw [barPay_zero]
    iintro ⟨H1, H2, H3, H4⟩
    isplitl [H1]; · iexact H1
    isplitl [H2 H3]
    · isplitl [H2]; · iexact H2
      iexact H3
    iexact H4
  iintro ⟨Ht, ⟨Ho, Hs⟩, #H0, HR⟩
  isplitl [Ht Hs]
  · iapply h2
    isplitl [Ht]; · iexact Ht
    isplitl [Hs]; · iexact Hs
    iapply h1; iexact H0
  isplitl [Ho]; · iexact Ho
  isplitr; · iexact H0
  iexact HR

/-- Before a later barrier: the other devices get their slots of both. -/
theorem sig_next (r : ℕ) : BarTok (r + 1) c ∗ Slots rsM c ∗ Rch (r + 1) c rsS ∗ BarRch (r + 1) c ∗ Slots agM c ∗ Rch r c agS ∗ R
    ⊢ SigF (r + 1) c 0 ∗ Own rsM c ∗ Own agM c ∗ R := by
  unfold SigF BarTok Slots Own Rch BarRch
  rw [Fam_zero]
  unfold sigP
  rw [split_emp_all, univ_own c, univ_own c]
  have h2 : iprop((others c fun s => dutyTok ER (cell s (.reg barS)) (r + 1) c) ∗ (others c fun s => anyAt (slot rsM s) c)
      ∗ (others c fun s => reached ER (cell c (.dma (rsS s))) (r + 1)) ∗ (others c fun s => reached ER (cell s (.reg barS)) (r + 1))
      ∗ (others c fun s => anyAt (slot agM s) c) ∗ (others c fun s => reached ER (cell c (.dma (agS s))) r))
      ⊢ (others c fun s => iprop(dutyTok ER (cell s (.reg barS)) (r + 1) c ∗ barPay s (r + 1) c ∗ reached ER (cell s (.reg barS)) (r + 1)) : sProp 𝕄) := by
    rw [← others_sep, ← others_sep, ← others_sep, ← others_sep, ← others_sep]
    refine others_mono fun s _ => ?_
    unfold barPay
    rw [if_neg (Nat.succ_ne_zero r), Nat.add_sub_cancel]
    iintro ⟨H1, H2, H3, H4, H5, H6⟩
    isplitl [H1]; · iexact H1
    isplitl [H2 H3 H5 H6]
    · isplitl [H2]; · iexact H2
      isplitl [H3]; · iexact H3
      isplitl [H5]; · iexact H5
      iexact H6
    iexact H4
  iintro ⟨H1, ⟨Ho, H2⟩, H3, H4, ⟨Hp, H5⟩, H6, HR⟩
  isplitl [H1 H2 H3 H4 H5 H6]
  · iapply h2
    isplitl [H1]; · iexact H1
    isplitl [H2]; · iexact H2
    isplitl [H3]; · iexact H3
    isplitl [H4]; · iexact H4
    isplitl [H5]; · iexact H5
    iexact H6
  isplitl [Ho]; · iexact Ho
  isplitl [Hp]; · iexact Hp
  iexact HR

/-- After the first barrier the scatter can begin. -/
theorem meet_first : BarM 0 c ∗ RsTok 0 c ∗ Own rsM c ∗ Rch 0 c rsendS ∗ R ⊢ BarPos 1 c ∗ RsF m 0 c 0 ∗ R := by
  unfold BarM RsTok Own Rch BarPos RsF
  rw [Fam_zero]
  unfold rsP
  rw [split_all]
  have h1 : (reached ER (cell c (.reg barS)) 1 : sProp 𝕄) ⊢ others c fun _ => reached ER (cell c (.reg barS)) 1 :=
    others_of fun s => BIBase.Entails.refl
  have h2 : iprop((others c (barPay c 0)) ∗ (others c fun s => iprop(dutyTok ER (cell s (.dma (rsS c))) 0 c ∗ dutyTok ER (cell c (.dma (rsendS s))) 0 s))
      ∗ (others c fun s => reached ER (cell c (.dma (rsendS s))) 0) ∗ (others c fun _ => reached ER (cell c (.reg barS)) 1))
      ⊢ (others c fun s => iprop(anyAt (slot rsM c) s ∗ reached ER (cell s (.dma (rsS c))) 0 ∗ dutyTok ER (cell s (.dma (rsS c))) 0 c
    ∗ dutyTok ER (cell c (.dma (rsendS s))) 0 s ∗ reached ER (cell c (.dma (rsendS s))) 0
    ∗ reached ER (cell c (.reg barS)) (0 + 1)) : sProp 𝕄) := by
    rw [← others_sep, ← others_sep, ← others_sep]
    refine others_mono fun s _ => ?_
    unfold barPay
    rw [if_pos rfl]
    iintro ⟨⟨H1, H2, -⟩, ⟨H3, H4⟩, H5, H6⟩
    isplitl [H1]; · iexact H1
    isplitl [H2]; · iexact H2
    isplitl [H3]; · iexact H3
    isplitl [H4]; · iexact H4
    isplitl [H5]; · iexact H5
    iexact H6
  iintro ⟨⟨Hp, #Hr, Hb⟩, Ht, Ho, Hs, HR⟩
  isplitl [Hp]; · iexact Hp
  isplitl [Ho Hb Ht Hs]
  · isplitl [Ho]; · iexact Ho
    iapply h2
    isplitl [Hb]; · iexact Hb
    isplitl [Ht]; · iexact Ht
    isplitl [Hs]; · iexact Hs
    iapply h1; iexact Hr
  iexact HR

/-- After a later barrier both the gather of the layer before and the scatter can begin. -/
theorem meet_next (r : ℕ) : BarM (r + 1) c ∗ RsTok (r + 1) c ∗ Own rsM c ∗ Rch (r + 1) c rsendS ∗ RAll m r c ∗ AgTok r c ∗ Own agM c
    ∗ Rch r c asendS ∗ R ⊢ BarPos (r + 2) c ∗ RsF m (r + 1) c 0 ∗ AgF m r c 0 ∗ R := by
  unfold BarM RsTok Own Rch BarPos RsF AgF RAll AgTok
  rw [Fam_zero, Fam_zero]
  unfold rsP agP
  rw [split_all, split_all, univ_own c]
  have h1 : (reached ER (cell c (.reg barS)) (r + 2) : sProp 𝕄) ⊢ others c fun _ => reached ER (cell c (.reg barS)) (r + 2) :=
    others_of fun s => BIBase.Entails.refl
  have h0 : (others c (barPay c (r + 1)) : sProp 𝕄)
      ⊢ iprop((others c fun s => iprop(anyAt (slot rsM c) s ∗ reached ER (cell s (.dma (rsS c))) (r + 1)))
        ∗ (others c fun s => iprop(anyAt (slot agM c) s ∗ reached ER (cell s (.dma (agS c))) r))) := by
    rw [← others_sep]
    refine others_mono fun s _ => ?_
    unfold barPay
    rw [if_neg (Nat.succ_ne_zero r), Nat.add_sub_cancel]
    iintro ⟨H1, H2, H3⟩
    isplitl [H1 H2]
    · isplitl [H1]; · iexact H1
      iexact H2
    iexact H3
  have h2 : iprop((others c fun s => iprop(anyAt (slot rsM c) s ∗ reached ER (cell s (.dma (rsS c))) (r + 1)))
      ∗ (others c fun s => iprop(dutyTok ER (cell s (.dma (rsS c))) (r + 1) c ∗ dutyTok ER (cell c (.dma (rsendS s))) (r + 1) s))
      ∗ (others c fun s => reached ER (cell c (.dma (rsendS s))) (r + 1)) ∗ (others c fun _ => reached ER (cell c (.reg barS)) (r + 2)))
      ⊢ (others c fun s => iprop(anyAt (slot rsM c) s ∗ reached ER (cell s (.dma (rsS c))) (r + 1) ∗ dutyTok ER (cell s (.dma (rsS c))) (r + 1) c
    ∗ dutyTok ER (cell c (.dma (rsendS s))) (r + 1) s ∗ reached ER (cell c (.dma (rsendS s))) (r + 1)
    ∗ reached ER (cell c (.reg barS)) (r + 1 + 1)) : sProp 𝕄) := by
    rw [← others_sep, ← others_sep, ← others_sep]
    refine others_mono fun s _ => ?_
    iintro ⟨⟨H1, H2⟩, ⟨H3, H4⟩, H5, H6⟩
    isplitl [H1]; · iexact H1
    isplitl [H2]; · iexact H2
    isplitl [H3]; · iexact H3
    isplitl [H4]; · iexact H4
    isplitl [H5]; · iexact H5
    iexact H6
  have h3 : iprop((others c fun s => iprop(anyAt (slot agM c) s ∗ reached ER (cell s (.dma (agS c))) r))
      ∗ (others c fun s => iprop(dutyTok ER (cell s (.dma (agS c))) r c ∗ dutyTok ER (cell c (.dma (asendS s))) r s))
      ∗ (others c fun s => reached ER (cell c (.dma (asendS s))) r) ∗ (others c fun s => rShare m c r s))
      ⊢ (others c fun s => iprop((anyAt (slot agM c) s ∗ reached ER (cell s (.dma (agS c))) r) ∗ dutyTok ER (cell s (.dma (agS c))) r c
      ∗ dutyTok ER (cell c (.dma (asendS s))) r s ∗ reached ER (cell c (.dma (asendS s))) r ∗ rShare m c r s) : sProp 𝕄) := by
    rw [← others_sep, ← others_sep, ← others_sep]
    refine others_mono fun s _ => ?_
    iintro ⟨H1, ⟨H3, H4⟩, H5, H6⟩
    isplitl [H1]; · iexact H1
    isplitl [H3]; · iexact H3
    isplitl [H4]; · iexact H4
    isplitl [H5]; · iexact H5
    iexact H6
  iintro ⟨⟨Hp, #Hr, Hb⟩, Ht, Ho, Hs, ⟨Hso, Hsh⟩, Hta, Hoa, Hsa, HR⟩
  ihave Hb := h0 $$ Hb
  icases Hb with ⟨Hb1, Hb2⟩
  isplitl [Hp]; · iexact Hp
  isplitl [Ho Hb1 Ht Hs]
  · isplitl [Ho]; · iexact Ho
    iapply h2
    isplitl [Hb1]; · iexact Hb1
    isplitl [Ht]; · iexact Ht
    isplitl [Hs]; · iexact Hs
    iapply h1; iexact Hr
  isplitl [Hso Hoa Hb2 Hta Hsa Hsh]
  · isplitl [Hso Hoa]
    · isplitl [Hso]; · iexact Hso
      iexact Hoa
    iapply h3
    isplitl [Hb2]; · iexact Hb2
    isplitl [Hta]; · iexact Hta
    isplitl [Hsa]; · iexact Hsa
    iexact Hsh
  iexact HR

/-- After a scatter's sends: its arrivals and its departures. -/
theorem scattered (r : ℕ) : RsF m r c 16 ∗ RsCred r c ∗ Pos r c rsS ∗ Pos r c rsendS ∗ R ⊢ RvF m r c 0 ∗ RwF m r c 0 ∗ R := by
  unfold RsF RsCred Pos RvF RwF WF
  rw [Fam_end, Fam_zero, Fam_zero]
  unfold rsQ
  rw [split_all, split_all, split_all, others_sep, others_sep]
  iintro ⟨⟨⟨H1, H2⟩, H3⟩, H4, H5, H6, HR⟩
  isplitl [H2 H4 H5]
  · isplitl [H2]; · iexact H2
    isplitl [H4]; · iexact H4
    iexact H5
  isplitl [H1 H3 H6]
  · isplitl [H1]; · iexact H1
    isplitl [H3]; · iexact H3
    iexact H6
  iexact HR

/-- After a gather's. -/
theorem gathered (r : ℕ) : AgF m r c 16 ∗ AgCred r c ∗ Pos r c agS ∗ Pos r c asendS ∗ R ⊢ AgV m r c 0 ∗ AgW m r c 0 ∗ R := by
  unfold AgF AgCred Pos AgV AgW WF
  rw [Fam_end, Fam_zero, Fam_zero]
  unfold agQ
  rw [split_all, split_all, split_all, others_sep, others_sep]
  iintro ⟨⟨⟨H1, H2⟩, H3⟩, H4, H5, H6, HR⟩
  isplitl [H2 H4 H5]
  · isplitl [H2]; · iexact H2
    isplitl [H4]; · iexact H4
    iexact H5
  isplitl [H1 H3 H6]
  · isplitl [H1]; · iexact H1
    isplitl [H3]; · iexact H3
    iexact H6
  iexact HR

/-- The end of a loop of waits. -/
theorem WF_end (sm : Fin 16 → DmaSem sig) (r : ℕ) (own : sProp 𝕄) (T X : Fin 16 → sProp 𝕄) (ord : Fin 16 → Fin 16) :
    WF sm r c own T X ord 16 ⊢ iprop((bigSep Finset.univ T) ∗ Pos (r + 1) c sm ∗ Rch (r + 1) c sm ∗ others c X) := by
  unfold WF Pos Rch
  rw [Fam_end, bigSep_sep', split_emp_all, others_sep, others_sep]

theorem rs_end (r : ℕ) : RvF m r c 16 ∗ R ⊢ Slots rsM c ∗ Pos (r + 1) c rsS ∗ Rch (r + 1) c rsS ∗ BarRch (r + 1) c ∗ R := by
  unfold RvF BarRch
  have h : (bigSep Finset.univ fun s => holds (slot rsM s) c (blk m r s c) : sProp 𝕄) ⊢ Slots rsM c :=
    bigSep_mono fun s _ => holds_any _ _ _
  iintro ⟨H, HR⟩
  ihave H := (WF_end _ _ _ _ _ _) $$ H
  icases H with ⟨H1, H2, H3, H4⟩
  isplitl [H1]; · iapply h; iexact H1
  isplitl [H2]; · iexact H2
  isplitl [H3]; · iexact H3
  isplitl [H4]; · iexact H4
  iexact HR

theorem ag_end (r : ℕ) : AgV m r c 16 ∗ R ⊢ Slots agM c ∗ Pos (r + 1) c agS ∗ Rch (r + 1) c agS ∗ R := by
  unfold AgV
  have h : (bigSep Finset.univ fun s => holds (slot agM s) c (rvec m r s) : sProp 𝕄) ⊢ Slots agM c :=
    bigSep_mono fun s _ => holds_any _ _ _
  iintro ⟨H, HR⟩
  ihave H := (WF_end _ _ _ _ _ _) $$ H
  icases H with ⟨H1, H2, H3, -⟩
  isplitl [H1]; · iapply h; iexact H1
  isplitl [H2]; · iexact H2
  isplitl [H3]; · iexact H3
  iexact HR

/-- The blocks that have been sent make the partial result's buffer again. -/
theorem rw_end (r : ℕ) : RwF m r c 16 ∗ R ⊢ anyAt pM c ∗ Pos (r + 1) c rsendS ∗ Rch (r + 1) c rsendS ∗ R := by
  unfold RwF
  have h : (bigSep Finset.univ fun s => anyAt (blkM (sentB r s)) c : sProp 𝕄) ⊢ anyAt pM c :=
    BIBase.Entails.trans (Entails.of_eq (bigSep_univ_equiv (Equiv.ofBijective (sentB r)
      (Finite.injective_iff_bijective.mp (sentB_injective r))) (fun b => anyAt (blkM b) c)).symm) (blks_any c)
  iintro ⟨H, HR⟩
  ihave H := (WF_end _ _ _ _ _ _) $$ H
  icases H with ⟨H1, H2, H3, -⟩
  isplitl [H1]; · iapply h; iexact H1
  isplitl [H2]; · iexact H2
  isplitl [H3]; · iexact H3
  iexact HR

/-- And the shares the summed rows' buffer. -/
theorem aw_end (r : ℕ) : AgW m r c 16 ∗ R ⊢ anyAt rM c ∗ Pos (r + 1) c asendS ∗ Rch (r + 1) c asendS ∗ R := by
  unfold AgW
  have h : (bigSep Finset.univ fun s => rShare m c r s : sProp 𝕄) ⊢ anyAt rM c := by
    refine BIBase.Entails.trans (Entails.of_eq (RAll_eq (m := m) r c)) ?_
    unfold anyAt
    iintro H
    iexists _
    iexact H
  iintro ⟨H, HR⟩
  ihave H := (WF_end _ _ _ _ _ _) $$ H
  icases H with ⟨H1, H2, H3, -⟩
  isplitl [H1]; · iapply h; iexact H1
  isplitl [H2]; · iexact H2
  isplitl [H3]; · iexact H3
  iexact HR

/-- The partial result's buffer, group by group. -/
theorem groups : anyAt pM c ∗ R ⊢ Grp c 0 ∗ Grp c 1 ∗ Grp c 2 ∗ Grp c 3 ∗ R := by
  have h : (anyAt pM c : sProp 𝕄) ⊢ iprop(Grp c 0 ∗ Grp c 1 ∗ Grp c 2 ∗ Grp c 3) := by
    refine BIBase.Entails.trans (any_grps c) ?_
    rw [bigSep_univ_eq_bigSepL [0, 1, 2, 3] (by decide +kernel) (by decide +kernel)]
    exact BIBase.Entails.refl
  iintro ⟨H, HR⟩
  ihave H := h $$ H
  icases H with ⟨H0, H1, H2, H3⟩
  isplitl [H0]; · iexact H0
  isplitl [H1]; · iexact H1
  isplitl [H2]; · iexact H2
  isplitl [H3]; · iexact H3
  iexact HR

theorem slots_cut (M : Memref sig .tc .vmem S16x16x256 .bf16) : anyAt M c ∗ R ⊢ Slots M c ∗ R :=
  BIClass.sep_mono (any_slots M c) (BIBase.Entails.refl)

end Cert.MlpIdeal
-- ==== Proof.Ideal.Values.lean ====
/-
# What the kernel computes, piece by piece

The kernel adds the blocks that it received a few at a time, and forms each group's partial result in one or two pieces.
Here are the values that pass between the pieces, and the equalities of the finished ones with `rvec`, `grpV` and `outv`.
-/
module

public import proofs.«01_k».proof.Proof.Ideal.Glue

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (c : Dev nD)

/-- The number that a device computes for itself. -/
abbrev V (c : Dev nD) : BitVec 32 := Scalar.remsi (Scalar.divsi (Dev.word c) 1#32) 16#32

/-- First layer: the block from device 0. -/
def sA1 : FVec F S16x256 .bf16 := k0_pay18 (up (blk m 0 0 c))

/-- The sum of the blocks from devices 0–4. -/
def sA2 : FVec F S16x256 .f32 := k0_pay19 (sA1 m c) (up (blk m 0 1 c)) (up (blk m 0 2 c)) (up (blk m 0 3 c)) (up (blk m 0 4 c))

/-- The sum of the blocks from devices 0–9. -/
def sA3 : FVec F S16x256 .f32 := k0_pay20 (sA2 m c) (up (blk m 0 5 c)) (up (blk m 0 6 c)) (up (blk m 0 7 c)) (up (blk m 0 8 c)) (up (blk m 0 9 c))

/-- The sum of the blocks from devices 0–13. -/
def sA4 : FVec F S16x256 .f32 := k0_pay21 (sA3 m c) (up (blk m 0 10 c)) (up (blk m 0 11 c)) (up (blk m 0 12 c)) (up (blk m 0 13 c))

/-- The sum of all sixteen. -/
def sA5 : FVec F S16x256 .f32 := k0_pay22 (sA4 m c) (up (blk m 0 14 c)) (up (blk m 0 15 c))

/-- Second layer: the sum of the blocks from devices 0 and 1. -/
def sB1 : FVec F S16x256 .f32 := k0_pay66 (up (blk m 1 0 c)) (up (blk m 1 1 c))

/-- The sum of the blocks from devices 0–5. -/
def sB2 : FVec F S16x256 .f32 := k0_pay67 (sB1 m c) (up (blk m 1 2 c)) (up (blk m 1 3 c)) (up (blk m 1 4 c)) (up (blk m 1 5 c))

/-- The sum of the blocks from devices 0–10. -/
def sB3 : FVec F S16x256 .f32 := k0_pay69 (sB2 m c) (k0_pay68 (up (blk m 1 6 c))) (up (blk m 1 7 c)) (up (blk m 1 8 c)) (up (blk m 1 9 c)) (up (blk m 1 10 c))

/-- The sum of all sixteen. -/
def sB4 : FVec F S16x256 .f32 := k0_pay70 (sB3 m c) (up (blk m 1 11 c)) (up (blk m 1 12 c)) (up (blk m 1 13 c)) (up (blk m 1 14 c)) (up (blk m 1 15 c))

/-- Third layer: the sum of the blocks from devices 0–4. -/
def sC1 : FVec F S16x256 .f32 := k0_pay113 (up (blk m 2 0 c)) (up (blk m 2 1 c)) (up (blk m 2 2 c)) (up (blk m 2 3 c)) (up (blk m 2 4 c))

/-- The sum of the blocks from devices 0–9. -/
def sC2 : FVec F S16x256 .f32 := k0_pay114 (sC1 m c) (up (blk m 2 5 c)) (up (blk m 2 6 c)) (up (blk m 2 7 c)) (up (blk m 2 8 c)) (up (blk m 2 9 c))

/-- The sum of the blocks from devices 0–13. -/
def sC3 : FVec F S16x256 .f32 := k0_pay115 (sC2 m c) (up (blk m 2 10 c)) (up (blk m 2 11 c)) (up (blk m 2 12 c)) (up (blk m 2 13 c))

/-- The sum of all sixteen. -/
def sC4 : FVec F S16x256 .f32 := k0_pay116 (sC3 m c) (up (blk m 2 14 c)) (up (blk m 2 15 c))

/-- The second layer's weights, rounded. -/
def wI1 : FVec F S256x512 .bf16 := k0_pay40 (upi (win1 m c))

/-- The second layer's other weights, rounded. -/
def wO1 : FVec F S512x256 .bf16 := k0_pay41 (upo (wout1 m c))

/-- The third layer's weights, rounded. -/
def wI2 : FVec F S256x512 .bf16 := k0_pay88 (upi (win2 m c))

/-- The third layer's other weights, rounded. -/
def wO2 : FVec F S512x256 .bf16 := k0_pay89 (upo (wout2 m c))

/-- The hidden rows of the second group, second layer. -/
def mid1 : FVec F S64x512 .bf16 := k0_pay50 (wI1 m c) (up (rvec m 0 4)) (up (rvec m 0 5)) (up (rvec m 0 6)) (up (rvec m 0 7))

/-- The rows of the third group, third layer. -/
def cat2 : FVec F S64x256 .bf16 := k0_pay101 (up (rvec m 1 6)) (up (rvec m 1 7)) (up (rvec m 1 4)) (up (rvec m 1 5))

/-- The last group's result, third layer. -/
def last2 : FVec F S64x256 .bf16 := k0_pay107 (wI2 m c) (wO2 m c) (up (rvec m 1 2)) (up (rvec m 1 3)) (up (rvec m 1 0)) (up (rvec m 1 1))

/-! ## The finished values -/

theorem rvec_0 : k0_pay23 (sA5 m c) = rvec m 0 c := rfl
theorem rvec_1 : k0_pay71 (sB4 m c) = rvec m 1 c := rfl
theorem outv_eq : k0_pay117 (sC4 m c) = outv m c := rfl
theorem grpV_1_0 : k0_pay45 (wI1 m c) (wO1 m c) (k0_pay42 (up (rvec m 0 0))) (k0_pay43 (up (rvec m 0 1))) (k0_pay44 (up (rvec m 0 2))) (up (rvec m 0 3)) = grpV m 1 c 0 := rfl
theorem grpV_1_1 : k0_pay51 (wO1 m c) (mid1 m c) (constant S64x256 .f32 0x00000000#32) = grpV m 1 c 1 := rfl
theorem grpV_1_2 : k0_pay56 (wI1 m c) (wO1 m c) (up (rvec m 0 8)) (up (rvec m 0 9)) (up (rvec m 0 10)) (up (rvec m 0 11)) = grpV m 1 c 2 := rfl
theorem grpV_1_3 : k0_pay61 (wI1 m c) (wO1 m c) (up (rvec m 0 12)) (up (rvec m 0 13)) (up (rvec m 0 14)) (up (rvec m 0 15)) = grpV m 1 c 3 := rfl
theorem grpV_2_0 : k0_pay90 (wI2 m c) (wO2 m c) (up (rvec m 1 14)) (up (rvec m 1 15)) (up (rvec m 1 12)) (up (rvec m 1 13)) = grpV m 2 c 0 := rfl
theorem grpV_2_1 : k0_pay96 (wI2 m c) (wO2 m c) (k0_pay95 (up (rvec m 1 10))) (up (rvec m 1 11)) (up (rvec m 1 8)) (up (rvec m 1 9)) = grpV m 2 c 1 := rfl
theorem grpV_2_2 : k0_pay102 (wI2 m c) (wO2 m c) (cat2 m) = grpV m 2 c 2 := rfl
theorem grpV_2_3 : k0_pay108 (last2 m c) = grpV m 2 c 3 := rfl

/-! ## The last copy -/

/-- The result's buffer. -/
abbrev vM : Memref sig .tc .hbm S16x256 .f32 := Memref.whole main_v1

/-- The finished rows, the result's buffer and the copy's place make the last copy possible. -/
theorem out_copy {m : (ℓ : Loc nD τ sig) → Buf (Elt F) ℓ} {c : Dev nD} {R : sProp (MT nD τ sig ℕ (Elt F) ℕ UU ℕ)} :
    holds oM c (outv m c) ∗ anyAt vM c ∗ ldTok c 7 ∗ R ⊢ CpI m c 7 ∗ R := by
  have h : CpI m c 7 = iprop((holds oM c (outv m c) ∗ anyAt vM c) ∗ ldTok c 7) := rfl
  rw [h]
  iintro ⟨H1, H2, H3, HR⟩
  isplitr [HR]
  · isplitr [H3]
    · isplitl [H1]
      · iexact H1
      · iexact H2
    · iexact H3
  · iexact HR

/-! ## The device's number -/

/-- Device `c` reads that it is device `c`. -/
theorem step_device {α : Type} {kf : Dev nD → Prog (TpuEff nD τ sig (Elt F) Λ₀ .tc) α}
    {Q : α → sProp (MT nD τ sig ℕ (Elt F) ℕ UU ℕ)} {P : sProp (MT nD τ sig ℕ (Elt F) ℕ UU ℕ)}
    (hk : P ⊢ wp frame (wpE (defs₀ (F := F)) Variants.none (c : Thread nD τ) none) Set.univ (kf c) Q) :
    P ⊢ wp frame (wpE (defs₀ (F := F)) Variants.none (c : Thread nD τ) none) Set.univ
      ((Prog.lift (TpuEff.deviceId : TpuEff nD τ sig (Elt F) Λ₀ .tc _)) >>= kf) Q := by
  simp only [Prog.lift, Prog.bind_op, Prog.bind_ret, wp_deviceId]
  exact hk

end Cert.MlpIdeal
-- ==== Proof.Ideal.Parts1.lean ====
/-
# The body's parts 1–4

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 1. -/
theorem part1_run :
    Ctx m K ∗ OwP c (phB 0) 0 ∗
      CpI m c 0 ∗ CpI m c 1 ∗ CpI m c 2 ∗ CpI m c 3 ∗ CpI m c 4 ∗ CpI m c 5 ∗ R
      ⊢ wp frame (wpE (defs₀ (F := F)) Variants.none (c : Thread nD τ) none) Set.univ (onArgs (k0_part1 (F := F))) (fun v => iprop(⌜v = ⟨c, V c⟩⌝ ∗
        Ctx m K ∗ OwP c (phB 0) 0 ∗
        CpW c 5 ∗ CpW c 4 ∗ CpW c 3 ∗ CpW c 2 ∗ CpW c 1 ∗ CpW c 0 ∗ R)) := by
  rw [k0_part1_eq_skeleton]
  unfold k0_part1_skel
  beta_reduce
  refine step_device c ?_
  refine step_copy 0 (pre_arg rfl rfl rfl) ?_
  refine bring (pS pO) ?_
  refine step_copy 1 (pre_arg rfl rfl rfl) ?_
  refine bring (pS (pS pO)) ?_
  refine step_copy 2 (pre_arg rfl rfl rfl) ?_
  refine bring (pS (pS (pS pO))) ?_
  refine step_copy 3 (pre_arg rfl rfl rfl) ?_
  refine bring (pS (pS (pS (pS pO)))) ?_
  refine step_copy 4 (pre_arg rfl rfl rfl) ?_
  refine bring (pS (pS (pS (pS (pS pO))))) ?_
  refine step_copy 5 (pre_arg rfl rfl rfl) ?_
  exact fin _

/-- Part 2. -/
theorem part2_run :
    Ctx m K ∗ OwP c (phB 0) 0 ∗
      CpI m c 6 ∗ SigF 0 c 0 ∗ R
      ⊢ wp frame (wpE (defs₀ (F := F)) Variants.none (c : Thread nD τ) none) Set.univ (onArgs (k0_part2 (F := F)) c (V c)) (fun v => iprop(⌜v = ⟨(SemArray.scalar (sig.barrier 0 rfl) : Sems sig S_), 9#32⟩⌝ ∗
        Ctx m K ∗ OwP c (phB 0) 9 ∗
        SigF 0 c 9 ∗ CpW c 6 ∗ R)) := by
  rw [k0_part2_eq_skeleton]
  unfold k0_part2_skel
  beta_reduce
  refine step_copy 6 (pre_arg rfl rfl rfl) ?_
  refine bring (pS pO) ?_
  iterate 9 refine step_signal ?_
  exact fin _

/-- Part 3. -/
theorem part3_run :
    Ctx m K ∗ OwP c (phB 0) 9 ∗
      SigF 0 c 9 ∗ BarW 0 c ∗ CpW c 0 ∗ CpW c 1 ∗ R
      ⊢ wp frame (wpE (defs₀ (F := F)) Variants.none (c : Thread nD τ) none) Set.univ (onArgs (k0_part3 (F := F)) c (V c) (SemArray.scalar (sig.barrier 0 rfl) : Sems sig S_) 9#32) (fun v => iprop(⌜v = ⟨⟩⌝ ∗
        Ctx m K ∗ OwP c (phB 0) 16 ∗
        CpD m c 1 ∗ CpD m c 0 ∗ BarM 0 c ∗ SigF 0 c 16 ∗ R)) := by
  rw [k0_part3_eq_skeleton]
  unfold k0_part3_skel
  beta_reduce
  iterate 7 refine step_signal ?_
  refine bring (pS pO) ?_
  refine step_bar ?_
  refine bring (pS (pS pO)) ?_
  refine step_copied 0 ?_
  refine bring (pS (pS (pS pO))) ?_
  refine step_copied 1 ?_
  exact fin _

/-- Part 4. -/
theorem part4_run :
    Ctx m K ∗ OwP c (phB 0) 16 ∗
      CpW c 2 ∗ CpD m c 0 ∗ CpD m c 1 ∗ anyAt pM c ∗ RsF m 0 c 0 ∗ R
      ⊢ wp frame (wpE (defs₀ (F := F)) Variants.none (c : Thread nD τ) none) Set.univ (onArgs (k0_part4 (F := F)) c (V c)) (fun v => iprop(⌜v = (Scalar.cmpi .ne (Scalar.extui (Scalar.cmpi .eq (V c) 1#32 : BitVec 1) : BitVec 32) 0#32 : BitVec 1)⌝ ∗
        Ctx m K ∗ OwP c (phS 0) 2 ∗
        RsMid m 0 c 1 ∗ Blk m 0 c 2 ∗ Blk m 0 c 3 ∗ Blk m 0 c 4 ∗ Blk m 0 c 5 ∗ Blk m 0 c 6 ∗ Blk m 0 c 7 ∗
        Blk m 0 c 8 ∗ Blk m 0 c 9 ∗ Blk m 0 c 10 ∗ Blk m 0 c 11 ∗ Blk m 0 c 12 ∗ Blk m 0 c 13 ∗ Blk m 0 c 14 ∗
        Blk m 0 c 15 ∗ CpD m c 2 ∗ CpD m c 1 ∗ CpD m c 0 ∗ R)) := by
  rw [k0_part4_eq_skeleton]
  unfold k0_part4_skel
  beta_reduce
  refine step_copied 2 ?_
  refine bring (pS pO) ?_
  refine step_load_x ?_
  refine bring (pS (pS pO)) ?_
  refine step_load_wi 1 0 rfl ?_
  refine bring (pS (pS pO)) ?_
  refine step_load_wo 2 0 rfl ?_
  refine bring (pS (pS (pS pO))) ?_
  refine step_load_all (fun v102 => ?_)
  refine step_store_part ?_
  refine bring (pS (pS (pS (pS (pS (pS (pS (pS (pS (pS (pS (pS (pS (pS (pS (pS (pS (pS (pS pO))))))))))))))))))) ?_
  refine phase (phS 0) ?_
  refine step_rs_send ?_
  refine step_rs_own ?_
  refine step_rs_send ?_
  exact fin _

end Cert.MlpIdeal
-- ==== Proof.Ideal.Parts2.lean ====
/-
# The body's parts 5–8

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 5. -/
theorem part5_run :
    Ctx m K ∗ OwP c (phS 0) 2 ∗
      RsMid m 0 c 1 ∗ Blk m 0 c 2 ∗ Blk m 0 c 3 ∗ Blk m 0 c 4 ∗ Blk m 0 c 5 ∗ Blk m 0 c 6 ∗ R
      ⊢ wp frame (wpE (defs₀ (F := F)) Variants.none (c : Thread nD τ) none) Set.univ (onArgs (k0_part5 (F := F)) c (V c) (Scalar.cmpi .ne (Scalar.extui (Scalar.cmpi .eq (V c) 1#32 : BitVec 1) : BitVec 32) 0#32 : BitVec 1)) (fun v => iprop(⌜v = (Scalar.cmpi .ne (Scalar.extui (Scalar.cmpi .eq (V c) 6#32 : BitVec 1) : BitVec 32) 0#32 : BitVec 1)⌝ ∗
        Ctx m K ∗ OwP c (phS 0) 7 ∗
        RsMid m 0 c 6 ∗ R)) := by
  rw [k0_part5_eq_skeleton]
  unfold k0_part5_skel
  beta_reduce
  refine step_rs_own ?_
  refine step_rs_send ?_
  refine step_rs_own ?_
  refine step_rs_send ?_
  refine step_rs_own ?_
  refine step_rs_send ?_
  refine step_rs_own ?_
  refine step_rs_send ?_
  refine step_rs_own ?_
  refine step_rs_send ?_
  exact fin _

/-- Part 6. -/
theorem part6_run :
    Ctx m K ∗ OwP c (phS 0) 7 ∗
      RsMid m 0 c 6 ∗ Blk m 0 c 7 ∗ Blk m 0 c 8 ∗ Blk m 0 c 9 ∗ Blk m 0 c 10 ∗ Blk m 0 c 11 ∗ R
      ⊢ wp frame (wpE (defs₀ (F := F)) Variants.none (c : Thread nD τ) none) Set.univ (onArgs (k0_part6 (F := F)) c (V c) (Scalar.cmpi .ne (Scalar.extui (Scalar.cmpi .eq (V c) 6#32 : BitVec 1) : BitVec 32) 0#32 : BitVec 1)) (fun v => iprop(⌜v = (Scalar.cmpi .ne (Scalar.extui (Scalar.cmpi .eq (V c) 11#32 : BitVec 1) : BitVec 32) 0#32 : BitVec 1)⌝ ∗
        Ctx m K ∗ OwP c (phS 0) 12 ∗
        RsMid m 0 c 11 ∗ R)) := by
  rw [k0_part6_eq_skeleton]
  unfold k0_part6_skel
  beta_reduce
  refine step_rs_own ?_
  refine step_rs_send ?_
  refine step_rs_own ?_
  refine step_rs_send ?_
  refine step_rs_own ?_
  refine step_rs_send ?_
  refine step_rs_own ?_
  refine step_rs_send ?_
  refine step_rs_own ?_
  refine step_rs_send ?_
  exact fin _

/-- Part 7. -/
theorem part7_run :
    Ctx m K ∗ OwP c (phS 0) 12 ∗
      RsMid m 0 c 11 ∗ Blk m 0 c 12 ∗ Blk m 0 c 13 ∗ Blk m 0 c 14 ∗ Blk m 0 c 15 ∗ RsCred 0 c ∗ Pos 0 c rsS ∗
      Pos 0 c rsendS ∗ R
      ⊢ wp frame (wpE (defs₀ (F := F)) Variants.none (c : Thread nD τ) none) Set.univ (onArgs (k0_part7 (F := F)) c (V c) (Scalar.cmpi .ne (Scalar.extui (Scalar.cmpi .eq (V c) 11#32 : BitVec 1) : BitVec 32) 0#32 : BitVec 1)) (fun v => iprop(⌜v = (sA1 m c)⌝ ∗
        Ctx m K ∗ OwP c (phS 0) 16 ∗
        RvF m 0 c 1 ∗ RwF m 0 c 0 ∗ R)) := by
  rw [k0_part7_eq_skeleton]
  unfold k0_part7_skel
  beta_reduce
  refine step_rs_own ?_
  refine step_rs_send ?_
  refine step_rs_own ?_
  refine step_rs_send ?_
  refine step_rs_own ?_
  refine step_rs_send ?_
  refine step_rs_own ?_
  refine step_rs_send ?_
  refine step_rs_own ?_
  refine turn (scattered 0) ?_
  refine step_rs_recv ?_
  refine step_rs_load ?_
  exact fin _

/-- Part 8. -/
theorem part8_run :
    Ctx m K ∗ OwP c (phS 0) 16 ∗
      RvF m 0 c 1 ∗ R
      ⊢ wp frame (wpE (defs₀ (F := F)) Variants.none (c : Thread nD τ) none) Set.univ (onArgs (k0_part8 (F := F)) (V c) (sA1 m c)) (fun v => iprop(⌜v = (sA2 m c)⌝ ∗
        Ctx m K ∗ OwP c (phS 0) 16 ∗
        RvF m 0 c 6 ∗ R)) := by
  rw [k0_part8_eq_skeleton]
  unfold k0_part8_skel
  beta_reduce
  refine step_rs_recv ?_
  refine step_rs_load ?_
  refine step_rs_recv ?_
  refine step_rs_load ?_
  refine step_rs_recv ?_
  refine step_rs_load ?_
  refine step_rs_recv ?_
  refine step_rs_load ?_
  refine step_rs_recv ?_
  exact fin _

end Cert.MlpIdeal
-- ==== Proof.Ideal.Parts3.lean ====
/-
# The body's parts 9–12

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 9. -/
theorem part9_run :
    Ctx m K ∗ OwP c (phS 0) 16 ∗
      RvF m 0 c 6 ∗ R
      ⊢ wp frame (wpE (defs₀ (F := F)) Variants.none (c : Thread nD τ) none) Set.univ (onArgs (k0_part9 (F := F)) (V c) (sA2 m c)) (fun v => iprop(⌜v = ⟨(sA3 m c), (Scalar.cmpi .ne (V c) 10#32 : BitVec 1)⟩⌝ ∗
        Ctx m K ∗ OwP c (phS 0) 16 ∗
        RvF m 0 c 10 ∗ R)) := by
  rw [k0_part9_eq_skeleton]
  unfold k0_part9_skel
  beta_reduce
  refine step_rs_load ?_
  refine step_rs_recv ?_
  refine step_rs_load ?_
  refine step_rs_recv ?_
  refine step_rs_load ?_
  refine step_rs_recv ?_
  refine step_rs_load ?_
  refine step_rs_recv ?_
  refine step_rs_load ?_
  exact fin _

/-- Part 10. -/
theorem part10_run :
    Ctx m K ∗ OwP c (phS 0) 16 ∗
      RvF m 0 c 10 ∗ R
      ⊢ wp frame (wpE (defs₀ (F := F)) Variants.none (c : Thread nD τ) none) Set.univ (onArgs (k0_part10 (F := F)) (V c) (sA3 m c) (Scalar.cmpi .ne (V c) 10#32 : BitVec 1)) (fun v => iprop(⌜v = ⟨(sA4 m c), (up (blk m 0 14 c))⟩⌝ ∗
        Ctx m K ∗ OwP c (phS 0) 16 ∗
        RvF m 0 c 15 ∗ R)) := by
  rw [k0_part10_eq_skeleton]
  unfold k0_part10_skel
  beta_reduce
  refine step_rs_recv ?_
  refine step_rs_load ?_
  refine step_rs_recv ?_
  refine step_rs_load ?_
  refine step_rs_recv ?_
  refine step_rs_load ?_
  refine step_rs_recv ?_
  refine step_rs_load ?_
  refine step_rs_recv ?_
  refine step_rs_load ?_
  exact fin _

/-- Part 11. -/
theorem part11_run :
    Ctx m K ∗ OwP c (phS 0) 16 ∗
      RvF m 0 c 15 ∗ RwF m 0 c 0 ∗ R
      ⊢ wp frame (wpE (defs₀ (F := F)) Variants.none (c : Thread nD τ) none) Set.univ (onArgs (k0_part11 (F := F)) c (V c) (sA4 m c) (up (blk m 0 14 c))) (fun v => iprop(⌜v = ⟨(sA5 m c), (Scalar.cmpi .ne (V c) 7#32 : BitVec 1)⟩⌝ ∗
        Ctx m K ∗ OwP c (phS 0) 16 ∗
        RwF m 0 c 7 ∗ RvF m 0 c 16 ∗ R)) := by
  rw [k0_part11_eq_skeleton]
  unfold k0_part11_skel
  beta_reduce
  refine step_rs_recv ?_
  refine step_rs_load ?_
  refine bring (pS pO) ?_
  iterate 7 refine step_rs_sent ?_
  exact fin _

/-- Part 12. -/
theorem part12_run :
    Ctx m K ∗ OwP c (phS 0) 16 ∗
      RwF m 0 c 7 ∗ SigF 1 c 0 ∗ R
      ⊢ wp frame (wpE (defs₀ (F := F)) Variants.none (c : Thread nD τ) none) Set.univ (onArgs (k0_part12 (F := F)) c (V c) (SemArray.scalar (sig.barrier 0 rfl) : Sems sig S_) (Scalar.cmpi .ne (V c) 7#32 : BitVec 1)) (fun v => iprop(⌜v = (Scalar.cmpi .ne (V c) 1#32 : BitVec 1)⌝ ∗
        Ctx m K ∗ OwP c (phB 1) 1 ∗
        SigF 1 c 1 ∗ RwF m 0 c 16 ∗ R)) := by
  rw [k0_part12_eq_skeleton]
  unfold k0_part12_skel
  beta_reduce
  iterate 9 refine step_rs_sent ?_
  refine bring (pS pO) ?_
  refine phase (phB 1) ?_
  refine step_signal ?_
  exact fin _

end Cert.MlpIdeal
-- ==== Proof.Ideal.Parts4.lean ====
/-
# The body's parts 13–16

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 13. -/
theorem part13_run :
    Ctx m K ∗ OwP c (phB 1) 1 ∗
      SigF 1 c 1 ∗ R
      ⊢ wp frame (wpE (defs₀ (F := F)) Variants.none (c : Thread nD τ) none) Set.univ (onArgs (k0_part13 (F := F)) c (V c) (SemArray.scalar (sig.barrier 0 rfl) : Sems sig S_) (Scalar.cmpi .ne (V c) 1#32 : BitVec 1)) (fun v => iprop(⌜v = (Scalar.cmpi .ne (V c) 11#32 : BitVec 1)⌝ ∗
        Ctx m K ∗ OwP c (phB 1) 11 ∗
        SigF 1 c 11 ∗ R)) := by
  rw [k0_part13_eq_skeleton]
  unfold k0_part13_skel
  beta_reduce
  iterate 10 refine step_signal ?_
  exact fin _

/-- Part 14. -/
theorem part14_run :
    Ctx m K ∗ OwP c (phB 1) 11 ∗
      SigF 1 c 11 ∗ BarW 1 c ∗ anyAt rM c ∗ RsTok 1 c ∗ Own rsM c ∗ Rch 1 c rsendS ∗ AgTok 0 c ∗ Own agM c ∗
      Rch 0 c asendS ∗ R
      ⊢ wp frame (wpE (defs₀ (F := F)) Variants.none (c : Thread nD τ) none) Set.univ (onArgs (k0_part14 (F := F)) c (V c) (SemArray.scalar (sig.barrier 0 rfl) : Sems sig S_) (sA5 m c) (Scalar.cmpi .ne (V c) 11#32 : BitVec 1)) (fun v => iprop(⌜v = ⟨(Scalar.extui (Scalar.cmpi .eq (V c) 1#32 : BitVec 1) : BitVec 32), 0#32⟩⌝ ∗
        Ctx m K ∗ OwP c (phA 0) 2 ∗
        AgMid m 0 c 1 ∗ BarPos 2 c ∗ RsF m 1 c 0 ∗ SigF 1 c 16 ∗ R)) := by
  rw [k0_part14_eq_skeleton]
  unfold k0_part14_skel
  beta_reduce
  iterate 5 refine step_signal ?_
  refine bring (pS pO) ?_
  refine step_bar ?_
  refine bring (pS (pS pO)) ?_
  refine step_load_all (fun v409 => ?_)
  refine step_store_r (rvec_0 m c) ?_
  iterate 3 refine bring (pS (pS (pS (pS (pS (pS (pS (pS pO)))))))) ?_
  refine bring (pS (pS (pS pO))) ?_
  iterate 3 refine bring (pS (pS (pS (pS (pS (pS (pS (pS pO)))))))) ?_
  refine bring (pS (pS (pS (pS (pS (pS (pS pO))))))) ?_
  refine turn (meet_next 0) ?_
  refine bring (pS (pS pO)) ?_
  refine phase (phA 0) ?_
  refine step_ag_send ?_
  refine step_ag_own ?_
  refine step_ag_send ?_
  exact fin _

/-- Part 15. -/
theorem part15_run :
    Ctx m K ∗ OwP c (phA 0) 2 ∗
      AgMid m 0 c 1 ∗ R
      ⊢ wp frame (wpE (defs₀ (F := F)) Variants.none (c : Thread nD τ) none) Set.univ (onArgs (k0_part15 (F := F)) c (V c) (Scalar.extui (Scalar.cmpi .eq (V c) 1#32 : BitVec 1) : BitVec 32) 0#32) (fun v => iprop(⌜v = ⟨(Scalar.extui (Scalar.cmpi .eq (V c) 6#32 : BitVec 1) : BitVec 32), 0#32⟩⌝ ∗
        Ctx m K ∗ OwP c (phA 0) 7 ∗
        AgMid m 0 c 6 ∗ R)) := by
  rw [k0_part15_eq_skeleton]
  unfold k0_part15_skel
  beta_reduce
  refine step_ag_own ?_
  refine step_ag_send ?_
  refine step_ag_own ?_
  refine step_ag_send ?_
  refine step_ag_own ?_
  refine step_ag_send ?_
  refine step_ag_own ?_
  refine step_ag_send ?_
  refine step_ag_own ?_
  refine step_ag_send ?_
  exact fin _

/-- Part 16. -/
theorem part16_run :
    Ctx m K ∗ OwP c (phA 0) 7 ∗
      AgMid m 0 c 6 ∗ R
      ⊢ wp frame (wpE (defs₀ (F := F)) Variants.none (c : Thread nD τ) none) Set.univ (onArgs (k0_part16 (F := F)) c (V c) (Scalar.extui (Scalar.cmpi .eq (V c) 6#32 : BitVec 1) : BitVec 32) 0#32) (fun v => iprop(⌜v = ⟨(Scalar.extui (Scalar.cmpi .eq (V c) 11#32 : BitVec 1) : BitVec 32), 0#32⟩⌝ ∗
        Ctx m K ∗ OwP c (phA 0) 12 ∗
        AgMid m 0 c 11 ∗ R)) := by
  rw [k0_part16_eq_skeleton]
  unfold k0_part16_skel
  beta_reduce
  refine step_ag_own ?_
  refine step_ag_send ?_
  refine step_ag_own ?_
  refine step_ag_send ?_
  refine step_ag_own ?_
  refine step_ag_send ?_
  refine step_ag_own ?_
  refine step_ag_send ?_
  refine step_ag_own ?_
  refine step_ag_send ?_
  exact fin _

end Cert.MlpIdeal
-- ==== Proof.Ideal.Parts5.lean ====
/-
# The body's parts 17–20

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 17. -/
theorem part17_run :
    Ctx m K ∗ OwP c (phA 0) 12 ∗
      AgMid m 0 c 11 ∗ CpW c 3 ∗ R
      ⊢ wp frame (wpE (defs₀ (F := F)) Variants.none (c : Thread nD τ) none) Set.univ (onArgs (k0_part17 (F := F)) c (V c) (Scalar.extui (Scalar.cmpi .eq (V c) 11#32 : BitVec 1) : BitVec 32) 0#32) (fun v => iprop(⌜v = ⟨⟩⌝ ∗
        Ctx m K ∗ OwP c (phA 0) 16 ∗
        CpD m c 3 ∗ AgF m 0 c 16 ∗ R)) := by
  rw [k0_part17_eq_skeleton]
  unfold k0_part17_skel
  beta_reduce
  refine step_ag_own ?_
  refine step_ag_send ?_
  refine step_ag_own ?_
  refine step_ag_send ?_
  refine step_ag_own ?_
  refine step_ag_send ?_
  refine step_ag_own ?_
  refine step_ag_send ?_
  refine step_ag_own ?_
  refine bring (pS pO) ?_
  refine step_copied 3 ?_
  exact fin _

/-- Part 18. -/
theorem part18_run :
    Ctx m K ∗ OwP c (phA 0) 16 ∗
      CpW c 4 ∗ CpD m c 3 ∗ AgV m 0 c 0 ∗ R
      ⊢ wp frame (wpE (defs₀ (F := F)) Variants.none (c : Thread nD τ) none) Set.univ (onArgs (k0_part18 (F := F)) (V c)) (fun v => iprop(⌜v = ⟨(wI1 m c), (wO1 m c), (k0_pay42 (up (rvec m 0 0))), (k0_pay43 (up (rvec m 0 1))), (k0_pay44 (up (rvec m 0 2)))⟩⌝ ∗
        Ctx m K ∗ OwP c (phA 0) 16 ∗
        AgV m 0 c 4 ∗ CpD m c 4 ∗ CpD m c 3 ∗ R)) := by
  rw [k0_part18_eq_skeleton]
  unfold k0_part18_skel
  beta_reduce
  refine step_copied 4 ?_
  refine bring (pS pO) ?_
  refine step_load_wi 3 1 rfl ?_
  refine bring (pS pO) ?_
  refine step_load_wo 4 1 rfl ?_
  refine bring (pS (pS pO)) ?_
  iterate 4 refine step_ag_recv ?_
  iterate 3 refine step_ag_load ?_
  exact fin _

/-- Part 19. -/
theorem part19_run :
    Ctx m K ∗ OwP c (phA 0) 16 ∗
      AgV m 0 c 4 ∗ Grp c 0 ∗ RsF m 1 c 0 ∗ R
      ⊢ wp frame (wpE (defs₀ (F := F)) Variants.none (c : Thread nD τ) none) Set.univ (onArgs (k0_part19 (F := F)) c (V c) (wI1 m c) (wO1 m c) (k0_pay42 (up (rvec m 0 0))) (k0_pay43 (up (rvec m 0 1))) (k0_pay44 (up (rvec m 0 2)))) (fun v => iprop(⌜v = ⟨(Scalar.extui (Scalar.cmpi .ne (V c) 13#32 : BitVec 1) : BitVec 32), 0#32⟩⌝ ∗
        Ctx m K ∗ OwP c (phS 1) 3 ∗
        RsF m 1 c 3 ∗ Blk m 1 c 3 ∗ AgV m 0 c 4 ∗ R)) := by
  rw [k0_part19_eq_skeleton]
  unfold k0_part19_skel
  beta_reduce
  refine step_ag_load ?_
  refine bring (pS pO) ?_
  refine step_load_grp 0 (fun v549 => ?_)
  refine step_store_grp (r := 1) (i := 0) 0 ?_ (grpV_1_0 m c)
  refine bring (pS (pS (pS (pS (pS pO))))) ?_
  refine phase (phS 1) ?_
  refine step_rs_send ?_
  refine step_rs_own ?_
  refine step_rs_send ?_
  refine step_rs_own ?_
  refine step_rs_send ?_
  refine step_rs_own ?_
  exact fin _

/-- Part 20. -/
theorem part20_run :
    Ctx m K ∗ OwP c (phS 1) 3 ∗
      RsF m 1 c 3 ∗ Blk m 1 c 3 ∗ AgV m 0 c 4 ∗ R
      ⊢ wp frame (wpE (defs₀ (F := F)) Variants.none (c : Thread nD τ) none) Set.univ (onArgs (k0_part20 (F := F)) c (V c) (wI1 m c) (Scalar.extui (Scalar.cmpi .ne (V c) 13#32 : BitVec 1) : BitVec 32) 0#32) (fun v => iprop(⌜v = ⟨(mid1 m c), (constant S64x256 .f32 0x00000000#32)⟩⌝ ∗
        Ctx m K ∗ OwP c (phS 1) 4 ∗
        AgV m 0 c 8 ∗ RsF m 1 c 4 ∗ R)) := by
  rw [k0_part20_eq_skeleton]
  unfold k0_part20_skel
  beta_reduce
  refine step_rs_send ?_
  refine step_rs_own ?_
  refine bring (pS pO) ?_
  iterate 4 refine step_ag_recv ?_
  iterate 4 refine step_ag_load ?_
  exact fin _

end Cert.MlpIdeal
-- ==== Proof.Ideal.Parts6.lean ====
/-
# The body's parts 21–24

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 21. -/
theorem part21_run :
    Ctx m K ∗ OwP c (phS 1) 4 ∗
      Grp c 1 ∗ RsF m 1 c 4 ∗ R
      ⊢ wp frame (wpE (defs₀ (F := F)) Variants.none (c : Thread nD τ) none) Set.univ (onArgs (k0_part21 (F := F)) c (V c) (wO1 m c) (mid1 m c) (constant S64x256 .f32 0x00000000#32)) (fun v => iprop(⌜v = ⟨(Scalar.extui (Scalar.cmpi .ne (V c) 8#32 : BitVec 1) : BitVec 32), 0#32⟩⌝ ∗
        Ctx m K ∗ OwP c (phS 1) 8 ∗
        RsF m 1 c 8 ∗ R)) := by
  rw [k0_part21_eq_skeleton]
  unfold k0_part21_skel
  beta_reduce
  refine step_load_grp 1 (fun v603 => ?_)
  refine step_store_grp (r := 1) (i := 4) 1 ?_ (grpV_1_1 m c)
  refine bring (pS (pS (pS (pS pO)))) ?_
  refine step_rs_send ?_
  refine step_rs_own ?_
  refine step_rs_send ?_
  refine step_rs_own ?_
  refine step_rs_send ?_
  refine step_rs_own ?_
  refine step_rs_send ?_
  refine step_rs_own ?_
  exact fin _

/-- Part 22. -/
theorem part22_run :
    Ctx m K ∗ OwP c (phS 1) 8 ∗
      AgV m 0 c 8 ∗ Grp c 2 ∗ R
      ⊢ wp frame (wpE (defs₀ (F := F)) Variants.none (c : Thread nD τ) none) Set.univ (onArgs (k0_part22 (F := F)) (V c) (wI1 m c) (wO1 m c) (Scalar.extui (Scalar.cmpi .ne (V c) 8#32 : BitVec 1) : BitVec 32) 0#32) (fun v => iprop(⌜v = ⟨(Scalar.extui (Scalar.cmpi .ne (V c) 6#32 : BitVec 1) : BitVec 32), 0#32⟩⌝ ∗
        Ctx m K ∗ OwP c (phS 1) 8 ∗
        Blk m 1 c 8 ∗ Blk m 1 c 9 ∗ Blk m 1 c 10 ∗ Blk m 1 c 11 ∗ AgV m 0 c 12 ∗ R)) := by
  rw [k0_part22_eq_skeleton]
  unfold k0_part22_skel
  beta_reduce
  iterate 4 refine step_ag_recv ?_
  iterate 4 refine step_ag_load ?_
  refine bring (pS pO) ?_
  refine step_load_grp 2 (fun v657 => ?_)
  refine step_store_grp (r := 1) (i := 8) 2 ?_ (grpV_1_2 m c)
  exact fin _

/-- Part 23. -/
theorem part23_run :
    Ctx m K ∗ OwP c (phS 1) 8 ∗
      RsF m 1 c 8 ∗ Blk m 1 c 8 ∗ Blk m 1 c 9 ∗ Blk m 1 c 10 ∗ Blk m 1 c 11 ∗ AgV m 0 c 12 ∗ R
      ⊢ wp frame (wpE (defs₀ (F := F)) Variants.none (c : Thread nD τ) none) Set.univ (onArgs (k0_part23 (F := F)) c (V c) (Scalar.extui (Scalar.cmpi .ne (V c) 6#32 : BitVec 1) : BitVec 32) 0#32) (fun v => iprop(⌜v = ⟨(Scalar.extui (Scalar.cmpi .ne (V c) 14#32 : BitVec 1) : BitVec 32), 0#32⟩⌝ ∗
        Ctx m K ∗ OwP c (phS 1) 12 ∗
        AgV m 0 c 14 ∗ RsF m 1 c 12 ∗ R)) := by
  rw [k0_part23_eq_skeleton]
  unfold k0_part23_skel
  beta_reduce
  refine step_rs_send ?_
  refine step_rs_own ?_
  refine step_rs_send ?_
  refine step_rs_own ?_
  refine step_rs_send ?_
  refine step_rs_own ?_
  refine step_rs_send ?_
  refine step_rs_own ?_
  refine bring (pS pO) ?_
  refine step_ag_recv ?_
  refine step_ag_recv ?_
  exact fin _

/-- Part 24. -/
theorem part24_run :
    Ctx m K ∗ OwP c (phS 1) 12 ∗
      AgV m 0 c 14 ∗ Grp c 3 ∗ RsF m 1 c 12 ∗ R
      ⊢ wp frame (wpE (defs₀ (F := F)) Variants.none (c : Thread nD τ) none) Set.univ (onArgs (k0_part24 (F := F)) c (V c) (wI1 m c) (wO1 m c) (Scalar.extui (Scalar.cmpi .ne (V c) 14#32 : BitVec 1) : BitVec 32) 0#32) (fun v => iprop(⌜v = ⟨(Scalar.extui (Scalar.cmpi .ne (V c) 3#32 : BitVec 1) : BitVec 32), 0#32⟩⌝ ∗
        Ctx m K ∗ OwP c (phS 1) 13 ∗
        RsF m 1 c 13 ∗ Blk m 1 c 13 ∗ Blk m 1 c 14 ∗ Blk m 1 c 15 ∗ AgV m 0 c 16 ∗ R)) := by
  rw [k0_part24_eq_skeleton]
  unfold k0_part24_skel
  beta_reduce
  refine step_ag_recv ?_
  refine step_ag_recv ?_
  iterate 4 refine step_ag_load ?_
  refine bring (pS pO) ?_
  refine step_load_grp 3 (fun v711 => ?_)
  refine step_store_grp (r := 1) (i := 12) 3 ?_ (grpV_1_3 m c)
  refine bring (pS (pS (pS (pS (pS pO))))) ?_
  refine step_rs_send ?_
  refine step_rs_own ?_
  exact fin _

end Cert.MlpIdeal
-- ==== Proof.Ideal.Parts7.lean ====
/-
# The body's parts 25–28

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 25. -/
theorem part25_run :
    Ctx m K ∗ OwP c (phS 1) 13 ∗
      RsF m 1 c 13 ∗ Blk m 1 c 13 ∗ Blk m 1 c 14 ∗ Blk m 1 c 15 ∗ RsCred 1 c ∗ Pos 1 c rsS ∗ Pos 1 c rsendS ∗ R
      ⊢ wp frame (wpE (defs₀ (F := F)) Variants.none (c : Thread nD τ) none) Set.univ (onArgs (k0_part25 (F := F)) c (V c) (Scalar.extui (Scalar.cmpi .ne (V c) 3#32 : BitVec 1) : BitVec 32) 0#32) (fun v => iprop(⌜v = ⟨(sB1 m c), (Scalar.extui (Scalar.cmpi .ne (V c) 2#32 : BitVec 1) : BitVec 32)⟩⌝ ∗
        Ctx m K ∗ OwP c (phS 1) 16 ∗
        RvF m 1 c 2 ∗ RwF m 1 c 0 ∗ R)) := by
  rw [k0_part25_eq_skeleton]
  unfold k0_part25_skel
  beta_reduce
  refine step_rs_send ?_
  refine step_rs_own ?_
  refine step_rs_send ?_
  refine step_rs_own ?_
  refine step_rs_send ?_
  refine step_rs_own ?_
  refine turn (scattered 1) ?_
  refine step_rs_recv ?_
  refine step_rs_load ?_
  refine step_rs_recv ?_
  refine step_rs_load ?_
  exact fin _

/-- Part 26. -/
theorem part26_run :
    Ctx m K ∗ OwP c (phS 1) 16 ∗
      RvF m 1 c 2 ∗ R
      ⊢ wp frame (wpE (defs₀ (F := F)) Variants.none (c : Thread nD τ) none) Set.univ (onArgs (k0_part26 (F := F)) (V c) (sB1 m c) (Scalar.extui (Scalar.cmpi .ne (V c) 2#32 : BitVec 1) : BitVec 32)) (fun v => iprop(⌜v = ⟨(sB2 m c), (k0_pay68 (up (blk m 1 6 c)))⟩⌝ ∗
        Ctx m K ∗ OwP c (phS 1) 16 ∗
        RvF m 1 c 7 ∗ R)) := by
  rw [k0_part26_eq_skeleton]
  unfold k0_part26_skel
  beta_reduce
  refine step_rs_recv ?_
  refine step_rs_load ?_
  refine step_rs_recv ?_
  refine step_rs_load ?_
  refine step_rs_recv ?_
  refine step_rs_load ?_
  refine step_rs_recv ?_
  refine step_rs_load ?_
  refine step_rs_recv ?_
  refine step_rs_load ?_
  exact fin _

/-- Part 27. -/
theorem part27_run :
    Ctx m K ∗ OwP c (phS 1) 16 ∗
      RvF m 1 c 7 ∗ R
      ⊢ wp frame (wpE (defs₀ (F := F)) Variants.none (c : Thread nD τ) none) Set.univ (onArgs (k0_part27 (F := F)) (V c) (sB2 m c) (k0_pay68 (up (blk m 1 6 c)))) (fun v => iprop(⌜v = (sB3 m c)⌝ ∗
        Ctx m K ∗ OwP c (phS 1) 16 ∗
        RvF m 1 c 12 ∗ R)) := by
  rw [k0_part27_eq_skeleton]
  unfold k0_part27_skel
  beta_reduce
  refine step_rs_recv ?_
  refine step_rs_load ?_
  refine step_rs_recv ?_
  refine step_rs_load ?_
  refine step_rs_recv ?_
  refine step_rs_load ?_
  refine step_rs_recv ?_
  refine step_rs_load ?_
  refine step_rs_recv ?_
  exact fin _

/-- Part 28. -/
theorem part28_run :
    Ctx m K ∗ OwP c (phS 1) 16 ∗
      RvF m 1 c 12 ∗ R
      ⊢ wp frame (wpE (defs₀ (F := F)) Variants.none (c : Thread nD τ) none) Set.univ (onArgs (k0_part28 (F := F)) (V c) (sB3 m c)) (fun v => iprop(⌜v = ⟨(sB4 m c), 0#32⟩⌝ ∗
        Ctx m K ∗ OwP c (phS 1) 16 ∗
        RvF m 1 c 16 ∗ R)) := by
  rw [k0_part28_eq_skeleton]
  unfold k0_part28_skel
  beta_reduce
  refine step_rs_load ?_
  refine step_rs_recv ?_
  refine step_rs_load ?_
  refine step_rs_recv ?_
  refine step_rs_load ?_
  refine step_rs_recv ?_
  refine step_rs_load ?_
  refine step_rs_recv ?_
  refine step_rs_load ?_
  exact fin _

end Cert.MlpIdeal
-- ==== Proof.Ideal.Parts8.lean ====
/-
# The body's parts 29–32

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 29. -/
theorem part29_run :
    Ctx m K ∗ OwP c (phS 1) 16 ∗
      RwF m 1 c 0 ∗ R
      ⊢ wp frame (wpE (defs₀ (F := F)) Variants.none (c : Thread nD τ) none) Set.univ (onArgs (k0_part29 (F := F)) c (V c) 0#32) (fun v => iprop(⌜v = 10#32⌝ ∗
        Ctx m K ∗ OwP c (phS 1) 16 ∗
        RwF m 1 c 10 ∗ R)) := by
  rw [k0_part29_eq_skeleton]
  unfold k0_part29_skel
  beta_reduce
  iterate 10 refine step_rs_sent ?_
  exact fin _

/-- Part 30. -/
theorem part30_run :
    Ctx m K ∗ OwP c (phS 1) 16 ∗
      RwF m 1 c 10 ∗ SigF 2 c 0 ∗ R
      ⊢ wp frame (wpE (defs₀ (F := F)) Variants.none (c : Thread nD τ) none) Set.univ (onArgs (k0_part30 (F := F)) c (V c) (SemArray.scalar (sig.barrier 0 rfl) : Sems sig S_) 10#32) (fun v => iprop(⌜v = 4#32⌝ ∗
        Ctx m K ∗ OwP c (phB 2) 4 ∗
        SigF 2 c 4 ∗ RwF m 1 c 16 ∗ R)) := by
  rw [k0_part30_eq_skeleton]
  unfold k0_part30_skel
  beta_reduce
  iterate 6 refine step_rs_sent ?_
  refine bring (pS pO) ?_
  refine phase (phB 2) ?_
  iterate 4 refine step_signal ?_
  exact fin _

/-- Part 31. -/
theorem part31_run :
    Ctx m K ∗ OwP c (phB 2) 4 ∗
      SigF 2 c 4 ∗ R
      ⊢ wp frame (wpE (defs₀ (F := F)) Variants.none (c : Thread nD τ) none) Set.univ (onArgs (k0_part31 (F := F)) c (V c) (SemArray.scalar (sig.barrier 0 rfl) : Sems sig S_) 4#32) (fun v => iprop(⌜v = 14#32⌝ ∗
        Ctx m K ∗ OwP c (phB 2) 14 ∗
        SigF 2 c 14 ∗ R)) := by
  rw [k0_part31_eq_skeleton]
  unfold k0_part31_skel
  beta_reduce
  iterate 10 refine step_signal ?_
  exact fin _

/-- Part 32. -/
theorem part32_run :
    Ctx m K ∗ OwP c (phB 2) 14 ∗
      SigF 2 c 14 ∗ BarW 2 c ∗ AgW m 0 c 0 ∗ R
      ⊢ wp frame (wpE (defs₀ (F := F)) Variants.none (c : Thread nD τ) none) Set.univ (onArgs (k0_part32 (F := F)) c (V c) (SemArray.scalar (sig.barrier 0 rfl) : Sems sig S_) 14#32) (fun v => iprop(⌜v = ⟨(Scalar.extui (Scalar.cmpi .ne (V c) 7#32 : BitVec 1) : BitVec 32), 0#32⟩⌝ ∗
        Ctx m K ∗ OwP c (phB 2) 16 ∗
        AgW m 0 c 7 ∗ BarM 2 c ∗ SigF 2 c 16 ∗ R)) := by
  rw [k0_part32_eq_skeleton]
  unfold k0_part32_skel
  beta_reduce
  refine step_signal ?_
  refine step_signal ?_
  refine bring (pS pO) ?_
  refine step_bar ?_
  refine bring (pS (pS pO)) ?_
  iterate 7 refine step_ag_sent ?_
  exact fin _

end Cert.MlpIdeal
-- ==== Proof.Ideal.Parts9.lean ====
/-
# The body's parts 33–36

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 33. -/
theorem part33_run :
    Ctx m K ∗ OwP c (phB 2) 16 ∗
      AgW m 0 c 7 ∗ R
      ⊢ wp frame (wpE (defs₀ (F := F)) Variants.none (c : Thread nD τ) none) Set.univ (onArgs (k0_part33 (F := F)) c (V c) (sB4 m c) (Scalar.extui (Scalar.cmpi .ne (V c) 7#32 : BitVec 1) : BitVec 32) 0#32) (fun v => iprop(⌜v = (Scalar.extui (Scalar.cmpi .ne (V c) 0#32 : BitVec 1) : BitVec 32)⌝ ∗
        Ctx m K ∗ OwP c (phB 2) 16 ∗
        RAll m 1 c ∗ Pos 1 c asendS ∗ Rch 1 c asendS ∗ R)) := by
  rw [k0_part33_eq_skeleton]
  unfold k0_part33_skel
  beta_reduce
  iterate 9 refine step_ag_sent ?_
  refine turn (aw_end 0) ?_
  refine step_load_all (fun v994 => ?_)
  refine step_store_r (rvec_1 m c) ?_
  exact fin _

/-- Part 34. -/
theorem part34_run :
    Ctx m K ∗ OwP c (phB 2) 16 ∗
      AgF m 1 c 0 ∗ R
      ⊢ wp frame (wpE (defs₀ (F := F)) Variants.none (c : Thread nD τ) none) Set.univ (onArgs (k0_part34 (F := F)) c (V c) (Scalar.extui (Scalar.cmpi .ne (V c) 0#32 : BitVec 1) : BitVec 32)) (fun v => iprop(⌜v = (Scalar.extui (Scalar.cmpi .ne (V c) 5#32 : BitVec 1) : BitVec 32)⌝ ∗
        Ctx m K ∗ OwP c (phA 1) 5 ∗
        AgF m 1 c 5 ∗ R)) := by
  rw [k0_part34_eq_skeleton]
  unfold k0_part34_skel
  beta_reduce
  refine phase (phA 1) ?_
  refine step_ag_send ?_
  refine step_ag_own ?_
  refine step_ag_send ?_
  refine step_ag_own ?_
  refine step_ag_send ?_
  refine step_ag_own ?_
  refine step_ag_send ?_
  refine step_ag_own ?_
  refine step_ag_send ?_
  refine step_ag_own ?_
  exact fin _

/-- Part 35. -/
theorem part35_run :
    Ctx m K ∗ OwP c (phA 1) 5 ∗
      AgF m 1 c 5 ∗ R
      ⊢ wp frame (wpE (defs₀ (F := F)) Variants.none (c : Thread nD τ) none) Set.univ (onArgs (k0_part35 (F := F)) c (V c) (Scalar.extui (Scalar.cmpi .ne (V c) 5#32 : BitVec 1) : BitVec 32)) (fun v => iprop(⌜v = (Scalar.extui (Scalar.cmpi .ne (V c) 10#32 : BitVec 1) : BitVec 32)⌝ ∗
        Ctx m K ∗ OwP c (phA 1) 10 ∗
        AgF m 1 c 10 ∗ R)) := by
  rw [k0_part35_eq_skeleton]
  unfold k0_part35_skel
  beta_reduce
  refine step_ag_send ?_
  refine step_ag_own ?_
  refine step_ag_send ?_
  refine step_ag_own ?_
  refine step_ag_send ?_
  refine step_ag_own ?_
  refine step_ag_send ?_
  refine step_ag_own ?_
  refine step_ag_send ?_
  refine step_ag_own ?_
  exact fin _

/-- Part 36. -/
theorem part36_run :
    Ctx m K ∗ OwP c (phA 1) 10 ∗
      AgF m 1 c 10 ∗ R
      ⊢ wp frame (wpE (defs₀ (F := F)) Variants.none (c : Thread nD τ) none) Set.univ (onArgs (k0_part36 (F := F)) c (V c) (Scalar.extui (Scalar.cmpi .ne (V c) 10#32 : BitVec 1) : BitVec 32)) (fun v => iprop(⌜v = (Scalar.extui (Scalar.cmpi .ne (V c) 15#32 : BitVec 1) : BitVec 32)⌝ ∗
        Ctx m K ∗ OwP c (phA 1) 15 ∗
        AgF m 1 c 15 ∗ R)) := by
  rw [k0_part36_eq_skeleton]
  unfold k0_part36_skel
  beta_reduce
  refine step_ag_send ?_
  refine step_ag_own ?_
  refine step_ag_send ?_
  refine step_ag_own ?_
  refine step_ag_send ?_
  refine step_ag_own ?_
  refine step_ag_send ?_
  refine step_ag_own ?_
  refine step_ag_send ?_
  refine step_ag_own ?_
  exact fin _

end Cert.MlpIdeal
-- ==== Proof.Ideal.Parts10.lean ====
/-
# The body's parts 37–40

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 37. -/
theorem part37_run :
    Ctx m K ∗ OwP c (phA 1) 15 ∗
      AgF m 1 c 15 ∗ CpW c 5 ∗ CpW c 6 ∗ AgCred 1 c ∗ Pos 1 c agS ∗ Pos 1 c asendS ∗ R
      ⊢ wp frame (wpE (defs₀ (F := F)) Variants.none (c : Thread nD τ) none) Set.univ (onArgs (k0_part37 (F := F)) c (V c) (Scalar.extui (Scalar.cmpi .ne (V c) 15#32 : BitVec 1) : BitVec 32)) (fun v => iprop(⌜v = ⟨(wI2 m c), (wO2 m c), (Scalar.extui (Scalar.cmpi .ne (V c) 13#32 : BitVec 1) : BitVec 32)⟩⌝ ∗
        Ctx m K ∗ OwP c (phA 1) 16 ∗
        AgV m 1 c 3 ∗ AgW m 1 c 0 ∗ CpD m c 6 ∗ CpD m c 5 ∗ R)) := by
  rw [k0_part37_eq_skeleton]
  unfold k0_part37_skel
  beta_reduce
  refine step_ag_send ?_
  refine step_ag_own ?_
  refine bring (pS pO) ?_
  refine step_copied 5 ?_
  refine bring (pS (pS pO)) ?_
  refine step_copied 6 ?_
  refine bring (pS pO) ?_
  refine step_load_wi 5 2 rfl ?_
  refine bring (pS pO) ?_
  refine step_load_wo 6 2 rfl ?_
  iterate 4 refine bring (pS (pS (pS (pS (pS pO))))) ?_
  refine turn (gathered 1) ?_
  iterate 3 refine step_ag_recv ?_
  exact fin _

/-- Part 38. -/
theorem part38_run :
    Ctx m K ∗ OwP c (phA 1) 16 ∗
      AgV m 1 c 3 ∗ Grp c 0 ∗ RsF m 2 c 0 ∗ R
      ⊢ wp frame (wpE (defs₀ (F := F)) Variants.none (c : Thread nD τ) none) Set.univ (onArgs (k0_part38 (F := F)) c (V c) (wI2 m c) (wO2 m c) (Scalar.extui (Scalar.cmpi .ne (V c) 13#32 : BitVec 1) : BitVec 32)) (fun v => iprop(⌜v = (Scalar.extui (Scalar.cmpi .eq (V c) 1#32 : BitVec 1) : BitVec 32)⌝ ∗
        Ctx m K ∗ OwP c (phS 2) 2 ∗
        RsMid m 2 c 1 ∗ Blk m 2 c 2 ∗ Blk m 2 c 3 ∗ AgV m 1 c 4 ∗ R)) := by
  rw [k0_part38_eq_skeleton]
  unfold k0_part38_skel
  beta_reduce
  refine step_ag_recv ?_
  iterate 4 refine step_ag_load ?_
  refine bring (pS pO) ?_
  refine step_load_grp 0 (fun v1134 => ?_)
  refine step_store_grp (r := 2) (i := 0) 0 ?_ (grpV_2_0 m c)
  refine bring (pS (pS (pS (pS (pS pO))))) ?_
  refine phase (phS 2) ?_
  refine step_rs_send ?_
  refine step_rs_own ?_
  refine step_rs_send ?_
  exact fin _

/-- Part 39. -/
theorem part39_run :
    Ctx m K ∗ OwP c (phS 2) 2 ∗
      RsMid m 2 c 1 ∗ Blk m 2 c 2 ∗ Blk m 2 c 3 ∗ AgV m 1 c 4 ∗ R
      ⊢ wp frame (wpE (defs₀ (F := F)) Variants.none (c : Thread nD τ) none) Set.univ (onArgs (k0_part39 (F := F)) c (V c) (Scalar.extui (Scalar.cmpi .eq (V c) 1#32 : BitVec 1) : BitVec 32)) (fun v => iprop(⌜v = ⟨(k0_pay95 (up (rvec m 1 10))), (up (rvec m 1 11))⟩⌝ ∗
        Ctx m K ∗ OwP c (phS 2) 4 ∗
        AgV m 1 c 8 ∗ RsF m 2 c 4 ∗ R)) := by
  rw [k0_part39_eq_skeleton]
  unfold k0_part39_skel
  beta_reduce
  refine step_rs_own ?_
  refine step_rs_send ?_
  refine step_rs_own ?_
  refine step_rs_send ?_
  refine step_rs_own ?_
  refine bring (pS pO) ?_
  iterate 4 refine step_ag_recv ?_
  refine step_ag_load ?_
  refine step_ag_load ?_
  exact fin _

/-- Part 40. -/
theorem part40_run :
    Ctx m K ∗ OwP c (phS 2) 4 ∗
      AgV m 1 c 8 ∗ Grp c 1 ∗ RsF m 2 c 4 ∗ R
      ⊢ wp frame (wpE (defs₀ (F := F)) Variants.none (c : Thread nD τ) none) Set.univ (onArgs (k0_part40 (F := F)) c (V c) (wI2 m c) (wO2 m c) (k0_pay95 (up (rvec m 1 10))) (up (rvec m 1 11))) (fun v => iprop(⌜v = (Scalar.extui (Scalar.cmpi .eq (V c) 6#32 : BitVec 1) : BitVec 32)⌝ ∗
        Ctx m K ∗ OwP c (phS 2) 7 ∗
        RsMid m 2 c 6 ∗ Blk m 2 c 7 ∗ AgV m 1 c 8 ∗ R)) := by
  rw [k0_part40_eq_skeleton]
  unfold k0_part40_skel
  beta_reduce
  refine step_ag_load ?_
  refine step_ag_load ?_
  refine bring (pS pO) ?_
  refine step_load_grp 1 (fun v1188 => ?_)
  refine step_store_grp (r := 2) (i := 4) 1 ?_ (grpV_2_1 m c)
  refine bring (pS (pS (pS (pS (pS pO))))) ?_
  refine step_rs_send ?_
  refine step_rs_own ?_
  refine step_rs_send ?_
  refine step_rs_own ?_
  refine step_rs_send ?_
  exact fin _

end Cert.MlpIdeal
-- ==== Proof.Ideal.Parts11.lean ====
/-
# The body's parts 41–44

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 41. -/
theorem part41_run :
    Ctx m K ∗ OwP c (phS 2) 7 ∗
      RsMid m 2 c 6 ∗ Blk m 2 c 7 ∗ AgV m 1 c 8 ∗ R
      ⊢ wp frame (wpE (defs₀ (F := F)) Variants.none (c : Thread nD τ) none) Set.univ (onArgs (k0_part41 (F := F)) c (V c) (Scalar.extui (Scalar.cmpi .eq (V c) 6#32 : BitVec 1) : BitVec 32)) (fun v => iprop(⌜v = (cat2 m)⌝ ∗
        Ctx m K ∗ OwP c (phS 2) 8 ∗
        AgV m 1 c 12 ∗ RsF m 2 c 8 ∗ R)) := by
  rw [k0_part41_eq_skeleton]
  unfold k0_part41_skel
  beta_reduce
  refine step_rs_own ?_
  refine step_rs_send ?_
  refine step_rs_own ?_
  refine bring (pS pO) ?_
  iterate 4 refine step_ag_recv ?_
  iterate 4 refine step_ag_load ?_
  exact fin _

/-- Part 42. -/
theorem part42_run :
    Ctx m K ∗ OwP c (phS 2) 8 ∗
      Grp c 2 ∗ RsF m 2 c 8 ∗ R
      ⊢ wp frame (wpE (defs₀ (F := F)) Variants.none (c : Thread nD τ) none) Set.univ (onArgs (k0_part42 (F := F)) c (V c) (wI2 m c) (wO2 m c) (cat2 m)) (fun v => iprop(⌜v = (Scalar.extui (Scalar.cmpi .eq (V c) 11#32 : BitVec 1) : BitVec 32)⌝ ∗
        Ctx m K ∗ OwP c (phS 2) 12 ∗
        RsMid m 2 c 11 ∗ R)) := by
  rw [k0_part42_eq_skeleton]
  unfold k0_part42_skel
  beta_reduce
  refine step_load_grp 2 (fun v1242 => ?_)
  refine step_store_grp (r := 2) (i := 8) 2 ?_ (grpV_2_2 m c)
  refine bring (pS (pS (pS (pS pO)))) ?_
  refine step_rs_send ?_
  refine step_rs_own ?_
  refine step_rs_send ?_
  refine step_rs_own ?_
  refine step_rs_send ?_
  refine step_rs_own ?_
  refine step_rs_send ?_
  exact fin _

/-- Part 43. -/
theorem part43_run :
    Ctx m K ∗ OwP c (phS 2) 12 ∗
      RsMid m 2 c 11 ∗ AgV m 1 c 12 ∗ Grp c 3 ∗ R
      ⊢ wp frame (wpE (defs₀ (F := F)) Variants.none (c : Thread nD τ) none) Set.univ (onArgs (k0_part43 (F := F)) (V c) (wI2 m c) (wO2 m c) (Scalar.extui (Scalar.cmpi .eq (V c) 11#32 : BitVec 1) : BitVec 32)) (fun v => iprop(∃ w : Vec F S64x256 .bf16, ⌜v = ⟨(last2 m c), w⟩⌝ ∗
        Ctx m K ∗ OwP c (phS 2) 12 ∗
        Grp c 3 ∗ AgV m 1 c 16 ∗ RsF m 2 c 12 ∗ R)) := by
  rw [k0_part43_eq_skeleton]
  unfold k0_part43_skel
  beta_reduce
  refine step_rs_own ?_
  refine bring (pS pO) ?_
  iterate 4 refine step_ag_recv ?_
  iterate 4 refine step_ag_load ?_
  refine bring (pS (pS pO)) ?_
  refine step_load_grp 3 (fun v1296 => ?_)
  exact fin_some _ _

/-- Part 44. -/
theorem part44_run (w : Vec F S64x256 .bf16) :
    Ctx m K ∗ OwP c (phS 2) 12 ∗
      Grp c 3 ∗ RsF m 2 c 12 ∗ RsCred 2 c ∗ Pos 2 c rsS ∗ Pos 2 c rsendS ∗ R
      ⊢ wp frame (wpE (defs₀ (F := F)) Variants.none (c : Thread nD τ) none) Set.univ (onArgs (k0_part44 (F := F)) c (V c) (last2 m c) w) (fun v => iprop(⌜v = ⟨⟩⌝ ∗
        Ctx m K ∗ OwP c (phS 2) 16 ∗
        RvF m 2 c 1 ∗ RwF m 2 c 0 ∗ R)) := by
  rw [k0_part44_eq_skeleton]
  unfold k0_part44_skel
  beta_reduce
  refine step_store_grp (r := 2) (i := 12) 3 ?_ (grpV_2_3 m c)
  refine bring (pS (pS (pS (pS pO)))) ?_
  refine step_rs_send ?_
  refine step_rs_own ?_
  refine step_rs_send ?_
  refine step_rs_own ?_
  refine step_rs_send ?_
  refine step_rs_own ?_
  refine step_rs_send ?_
  refine step_rs_own ?_
  refine turn (scattered 2) ?_
  refine step_rs_recv ?_
  exact fin _

end Cert.MlpIdeal
-- ==== Proof.Ideal.Parts12.lean ====
/-
# The body's parts 45–50

Each part of the body, run on device `c`: from the resources that it uses to those that it leaves, and the value that it
returns. The order is the program's own.
-/
module

public import proofs.«01_k».proof.Proof.Ideal.Values

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- Part 45. -/
theorem part45_run :
    Ctx m K ∗ OwP c (phS 2) 16 ∗
      RvF m 2 c 1 ∗ R
      ⊢ wp frame (wpE (defs₀ (F := F)) Variants.none (c : Thread nD τ) none) Set.univ (onArgs (k0_part45 (F := F)) (V c)) (fun v => iprop(⌜v = ⟨(sC1 m c), (Scalar.cmpi .ne (Scalar.extui (Scalar.cmpi .ne (V c) 5#32 : BitVec 1) : BitVec 32) 0#32 : BitVec 1)⟩⌝ ∗
        Ctx m K ∗ OwP c (phS 2) 16 ∗
        RvF m 2 c 5 ∗ R)) := by
  rw [k0_part45_eq_skeleton]
  unfold k0_part45_skel
  beta_reduce
  refine step_rs_load ?_
  refine step_rs_recv ?_
  refine step_rs_load ?_
  refine step_rs_recv ?_
  refine step_rs_load ?_
  refine step_rs_recv ?_
  refine step_rs_load ?_
  refine step_rs_recv ?_
  refine step_rs_load ?_
  exact fin _

/-- Part 46. -/
theorem part46_run :
    Ctx m K ∗ OwP c (phS 2) 16 ∗
      RvF m 2 c 5 ∗ R
      ⊢ wp frame (wpE (defs₀ (F := F)) Variants.none (c : Thread nD τ) none) Set.univ (onArgs (k0_part46 (F := F)) (V c) (sC1 m c) (Scalar.cmpi .ne (Scalar.extui (Scalar.cmpi .ne (V c) 5#32 : BitVec 1) : BitVec 32) 0#32 : BitVec 1)) (fun v => iprop(⌜v = (sC2 m c)⌝ ∗
        Ctx m K ∗ OwP c (phS 2) 16 ∗
        RvF m 2 c 10 ∗ R)) := by
  rw [k0_part46_eq_skeleton]
  unfold k0_part46_skel
  beta_reduce
  refine step_rs_recv ?_
  refine step_rs_load ?_
  refine step_rs_recv ?_
  refine step_rs_load ?_
  refine step_rs_recv ?_
  refine step_rs_load ?_
  refine step_rs_recv ?_
  refine step_rs_load ?_
  refine step_rs_recv ?_
  refine step_rs_load ?_
  exact fin _

/-- Part 47. -/
theorem part47_run :
    Ctx m K ∗ OwP c (phS 2) 16 ∗
      RvF m 2 c 10 ∗ R
      ⊢ wp frame (wpE (defs₀ (F := F)) Variants.none (c : Thread nD τ) none) Set.univ (onArgs (k0_part47 (F := F)) (V c) (sC2 m c)) (fun v => iprop(⌜v = (sC3 m c)⌝ ∗
        Ctx m K ∗ OwP c (phS 2) 16 ∗
        RvF m 2 c 15 ∗ R)) := by
  rw [k0_part47_eq_skeleton]
  unfold k0_part47_skel
  beta_reduce
  refine step_rs_recv ?_
  refine step_rs_load ?_
  refine step_rs_recv ?_
  refine step_rs_load ?_
  refine step_rs_recv ?_
  refine step_rs_load ?_
  refine step_rs_recv ?_
  refine step_rs_load ?_
  refine step_rs_recv ?_
  exact fin _

/-- Part 48. -/
theorem part48_run :
    Ctx m K ∗ OwP c (phS 2) 16 ∗
      RvF m 2 c 15 ∗ RwF m 2 c 0 ∗ R
      ⊢ wp frame (wpE (defs₀ (F := F)) Variants.none (c : Thread nD τ) none) Set.univ (onArgs (k0_part48 (F := F)) c (V c) (sC3 m c)) (fun v => iprop(⌜v = (sC4 m c)⌝ ∗
        Ctx m K ∗ OwP c (phS 2) 16 ∗
        RwF m 2 c 7 ∗ RvF m 2 c 16 ∗ R)) := by
  rw [k0_part48_eq_skeleton]
  unfold k0_part48_skel
  beta_reduce
  refine step_rs_load ?_
  refine step_rs_recv ?_
  refine step_rs_load ?_
  refine bring (pS pO) ?_
  iterate 7 refine step_rs_sent ?_
  exact fin _

/-- Part 49. -/
theorem part49_run :
    Ctx m K ∗ OwP c (phS 2) 16 ∗
      RwF m 2 c 7 ∗ anyAt oM c ∗ R
      ⊢ wp frame (wpE (defs₀ (F := F)) Variants.none (c : Thread nD τ) none) Set.univ (onArgs (k0_part49 (F := F)) c (V c) (sC4 m c)) (fun v => iprop(⌜v = ⟨⟩⌝ ∗
        Ctx m K ∗ OwP c (phS 2) 16 ∗
        holds oM c (outv m c) ∗ RwF m 2 c 16 ∗ R)) := by
  rw [k0_part49_eq_skeleton]
  unfold k0_part49_skel
  beta_reduce
  iterate 9 refine step_rs_sent ?_
  refine bring (pS pO) ?_
  refine step_load_all (fun v1482 => ?_)
  refine step_store_o (outv_eq m c) ?_
  exact fin _

/-- Part 50. -/
theorem part50_run :
    Ctx m K ∗ OwP c (phS 2) 16 ∗
      CpI m c 7 ∗ AgW m 1 c 0 ∗ R
      ⊢ wp frame (wpE (defs₀ (F := F)) Variants.none (c : Thread nD τ) none) Set.univ (onArgs (k0_part50 (F := F)) c (V c)) (fun v => iprop(⌜v = ⟨(Scalar.extui (Scalar.cmpi .ne (V c) 8#32 : BitVec 1) : BitVec 32), 0#32⟩⌝ ∗
        Ctx m K ∗ OwP c (phS 2) 16 ∗
        AgW m 1 c 8 ∗ CpD m c 7 ∗ R)) := by
  rw [k0_part50_eq_skeleton]
  unfold k0_part50_skel
  beta_reduce
  refine step_copy 7 pre_out ?_
  refine step_copied 7 ?_
  refine bring (pS pO) ?_
  iterate 8 refine step_ag_sent ?_
  exact fin _

end Cert.MlpIdeal
-- ==== Proof.Ideal.Whole.lean ====
/-
# The whole body

The parts of the body one after another on device `c`, with the meetings and the hand-overs between them: from what a
device has at the start of the kernel (`Begin`) to what it has at the end (`Finish`).
-/
module

public import proofs.«01_k».proof.Proof.Ideal.Parts1
public import proofs.«01_k».proof.Proof.Ideal.Parts2
public import proofs.«01_k».proof.Proof.Ideal.Parts3
public import proofs.«01_k».proof.Proof.Ideal.Parts4
public import proofs.«01_k».proof.Proof.Ideal.Parts5
public import proofs.«01_k».proof.Proof.Ideal.Parts6
public import proofs.«01_k».proof.Proof.Ideal.Parts7
public import proofs.«01_k».proof.Proof.Ideal.Parts8
public import proofs.«01_k».proof.Proof.Ideal.Parts9
public import proofs.«01_k».proof.Proof.Ideal.Parts10
public import proofs.«01_k».proof.Proof.Ideal.Parts11
public import proofs.«01_k».proof.Proof.Ideal.Parts12

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD}
  {R : sProp (MT nD τ sig ℕ (Elt F) ℕ UU ℕ)}

attribute [local irreducible] dite ite

/-- All but the end of the body. -/
theorem part51_run :
    Ctx m K ∗ OwP c (phB 0) 0 ∗
    CpI m c 0 ∗ CpI m c 1 ∗ CpI m c 2 ∗ CpI m c 3 ∗ CpI m c 4 ∗ CpI m c 5 ∗ CpI m c 6 ∗ anyAt vM c ∗ ldTok c 7 ∗
    Slots rsM c ∗ Slots agM c ∗ anyAt pM c ∗ anyAt rM c ∗ anyAt oM c ∗ Reach0 ∗ BarTok 0 c ∗ BarTok 1 c ∗
    BarTok 2 c ∗ RsTok 0 c ∗ RsTok 1 c ∗ RsTok 2 c ∗ AgTok 0 c ∗ AgTok 1 c ∗ BarCred 0 c ∗ BarCred 1 c ∗
    BarCred 2 c ∗ RsCred 0 c ∗ RsCred 1 c ∗ RsCred 2 c ∗ AgCred 0 c ∗ AgCred 1 c ∗ BarPos 0 c ∗ Pos 0 c rsS ∗
    Pos 0 c agS ∗ Pos 0 c rsendS ∗ Pos 0 c asendS ∗ R
      ⊢ wp frame (wpE (defs₀ (F := F)) Variants.none (c : Thread nD τ) none) Set.univ (onArgs (k0_part51 (F := F))) (fun v => iprop(⌜v = ⟨c, V c, Scalar.cmpi .ne (V c) 10#32⟩⌝ ∗
        Ctx m K ∗ OwP c (phS 2) 16 ∗
        AgW m 1 c 10 ∗ CpD m c 7 ∗ RwF m 2 c 16 ∗ RvF m 2 c 16 ∗ AgV m 1 c 16 ∗ CpD m c 6 ∗ CpD m c 5 ∗ BarPos 3 c ∗
        SigF 2 c 16 ∗ CpD m c 4 ∗ CpD m c 3 ∗ SigF 1 c 16 ∗ Reach0 ∗ CpD m c 2 ∗ CpD m c 1 ∗ CpD m c 0 ∗
        SigF 0 c 16 ∗ R)) := by
  rw [k0_part51_eq_skeleton]
  unfold k0_part51_skel
  beta_reduce
  refine seq part1_run ?_
  refine bring (pS (pS (pS (pS (pS (pS (pS (pS (pS (pS (pS (pS (pS (pS pO)))))))))))))) ?_
  refine bring (pS (pS (pS (pS (pS (pS (pS (pS (pS (pS pO)))))))))) ?_
  refine bring (pS (pS (pS (pS (pS (pS (pS (pS (pS (pS (pS (pS (pS (pS (pS pO))))))))))))))) ?_
  refine turn sig_first ?_
  refine bring (pS (pS (pS (pS (pS (pS (pS (pS (pS pO))))))))) ?_
  refine seq part2_run ?_
  refine bring (pS (pS (pS (pS (pS (pS (pS (pS (pS (pS (pS (pS (pS (pS (pS (pS (pS (pS (pS (pS (pS (pS (pS (pS (pS (pS (pS (pS (pS (pS (pS pO))))))))))))))))))))))))))))))) ?_
  refine bring (pS (pS (pS (pS (pS (pS (pS (pS (pS (pS (pS (pS (pS (pS (pS (pS (pS (pS (pS (pS (pS (pS (pS (pS pO)))))))))))))))))))))))) ?_
  refine turn bar_wait ?_
  refine bring (pS (pS (pS (pS (pS (pS (pS (pS (pS pO))))))))) ?_
  refine bring (pS (pS (pS (pS (pS (pS (pS (pS (pS (pS pO)))))))))) ?_
  refine bring (pS (pS pO)) ?_
  refine bring (pS (pS (pS pO))) ?_
  refine seq part3_run ?_
  refine bring (pS (pS (pS (pS (pS (pS pO)))))) ?_
  refine turn (rch_zero (c := c) rsendS) ?_
  refine bring (pS (pS (pS (pS (pS (pS (pS pO))))))) ?_
  refine bring (pS (pS (pS (pS (pS (pS (pS (pS (pS (pS (pS (pS (pS (pS (pS (pS (pS (pS (pS (pS pO)))))))))))))))))))) ?_
  refine bring (pS (pS (pS (pS (pS (pS pO)))))) ?_
  refine turn (meet_first (m := m)) ?_
  refine bring (pS pO) ?_
  refine bring (pS (pS (pS (pS (pS (pS (pS (pS (pS (pS (pS (pS (pS (pS pO)))))))))))))) ?_
  refine bring (pS (pS (pS (pS pO)))) ?_
  refine bring (pS (pS (pS (pS (pS pO))))) ?_
  refine bring (pS (pS (pS (pS (pS (pS (pS (pS (pS (pS (pS pO))))))))))) ?_
  refine seq part4_run ?_
  refine seq part5_run ?_
  refine seq part6_run ?_
  refine bring (pS (pS (pS (pS (pS (pS (pS (pS (pS (pS (pS (pS (pS (pS (pS (pS (pS (pS (pS (pS (pS (pS (pS (pS (pS (pS (pS (pS (pS (pS (pS (pS (pS (pS (pS pO))))))))))))))))))))))))))))))))))) ?_
  refine bring (pS (pS (pS (pS (pS (pS (pS (pS (pS (pS (pS (pS (pS (pS (pS (pS (pS (pS (pS (pS (pS (pS (pS (pS (pS (pS (pS (pS (pS (pS (pS (pS (pS (pS pO)))))))))))))))))))))))))))))))))) ?_
  refine bring (pS (pS (pS (pS (pS (pS (pS (pS (pS (pS (pS (pS (pS (pS (pS (pS (pS (pS (pS (pS (pS (pS (pS (pS (pS (pS (pS (pS (pS (pS pO)))))))))))))))))))))))))))))) ?_
  iterate 5 refine bring (pS (pS (pS (pS (pS (pS (pS pO))))))) ?_
  refine seq part7_run ?_
  refine seq part8_run ?_
  refine seq part9_run ?_
  refine seq part10_run ?_
  refine seq part11_run ?_
  refine bring (pS pO) ?_
  refine turn (rs_end 0) ?_
  refine bring (pS (pS (pS (pS (pS (pS (pS (pS (pS pO))))))))) ?_
  refine turn (rch_zero (c := c) agS) ?_
  refine bring (pS (pS (pS (pS (pS (pS (pS (pS (pS (pS (pS (pS (pS (pS (pS (pS (pS (pS pO)))))))))))))))))) ?_
  refine bring (pS (pS (pS (pS (pS (pS pO)))))) ?_
  refine bring (pS (pS (pS (pS (pS (pS pO)))))) ?_
  refine bring (pS (pS (pS (pS (pS pO))))) ?_
  refine bring (pS (pS (pS (pS (pS (pS (pS (pS (pS (pS (pS (pS (pS (pS (pS (pS (pS (pS (pS (pS (pS pO))))))))))))))))))))) ?_
  refine turn (sig_next 0) ?_
  refine bring (pS (pS (pS (pS (pS pO))))) ?_
  refine seq part12_run ?_
  refine seq part13_run ?_
  refine bring (pS (pS (pS (pS (pS (pS (pS (pS (pS pO))))))))) ?_
  refine bring (pS (pS (pS (pS (pS (pS (pS (pS (pS (pS (pS (pS (pS (pS (pS (pS (pS (pS (pS (pS (pS (pS (pS (pS pO)))))))))))))))))))))))) ?_
  refine turn bar_wait ?_
  refine bring (pS (pS pO)) ?_
  refine turn (rw_end 0) ?_
  refine bring (pS (pS (pS (pS (pS (pS (pS pO))))))) ?_
  refine turn (rch_zero (c := c) asendS) ?_
  refine bring (pS (pS (pS (pS (pS (pS (pS (pS pO)))))))) ?_
  refine bring (pS (pS (pS (pS (pS (pS (pS (pS (pS (pS (pS (pS (pS (pS (pS (pS (pS (pS (pS (pS (pS (pS (pS (pS (pS pO))))))))))))))))))))))))) ?_
  refine bring (pS (pS (pS (pS (pS (pS pO)))))) ?_
  refine bring (pS (pS (pS (pS (pS (pS (pS (pS (pS pO))))))))) ?_
  refine bring (pS (pS (pS (pS (pS (pS (pS (pS (pS (pS (pS (pS (pS (pS (pS (pS (pS (pS (pS (pS (pS (pS (pS (pS pO)))))))))))))))))))))))) ?_
  refine bring (pS (pS (pS (pS (pS (pS (pS (pS (pS (pS (pS (pS (pS (pS (pS (pS (pS (pS (pS (pS (pS (pS pO)))))))))))))))))))))) ?_
  refine bring (pS (pS (pS (pS (pS (pS (pS (pS (pS (pS pO)))))))))) ?_
  refine bring (pS (pS (pS (pS (pS (pS (pS (pS (pS (pS (pS pO))))))))))) ?_
  refine seq part14_run ?_
  refine seq part15_run ?_
  refine seq part16_run ?_
  refine bring (pS (pS (pS (pS (pS (pS (pS (pS (pS (pS (pS (pS (pS (pS (pS pO))))))))))))))) ?_
  refine bring (pS pO) ?_
  refine seq part17_run ?_
  refine bring (pS (pS (pS (pS (pS (pS (pS (pS (pS (pS (pS (pS (pS (pS (pS (pS (pS (pS (pS (pS (pS (pS (pS (pS (pS (pS (pS (pS pO)))))))))))))))))))))))))))) ?_
  refine bring (pS (pS (pS (pS (pS (pS (pS (pS (pS (pS (pS (pS (pS (pS (pS (pS (pS (pS (pS (pS (pS (pS (pS (pS (pS (pS (pS (pS pO)))))))))))))))))))))))))))) ?_
  refine bring (pS (pS (pS (pS (pS (pS (pS (pS (pS (pS (pS (pS (pS (pS (pS (pS (pS (pS (pS (pS (pS (pS (pS (pS (pS (pS (pS pO))))))))))))))))))))))))))) ?_
  refine bring (pS (pS (pS (pS pO)))) ?_
  refine turn (gathered 0) ?_
  refine bring (pS (pS pO)) ?_
  refine bring (pS (pS (pS (pS (pS (pS (pS (pS (pS (pS (pS (pS (pS (pS (pS (pS pO)))))))))))))))) ?_
  refine seq part18_run ?_
  refine bring (pS (pS (pS (pS (pS (pS (pS (pS pO)))))))) ?_
  refine turn groups ?_
  refine bring (pS (pS (pS (pS (pS (pS (pS (pS (pS pO))))))))) ?_
  refine bring (pS pO) ?_
  refine bring (pS (pS (pS (pS (pS pO))))) ?_
  refine seq part19_run ?_
  refine seq part20_run ?_
  refine bring (pS pO) ?_
  refine bring (pS (pS pO)) ?_
  refine seq part21_run ?_
  refine bring (pS (pS pO)) ?_
  refine bring (pS (pS pO)) ?_
  refine seq part22_run ?_
  iterate 5 refine bring (pS (pS (pS (pS pO)))) ?_
  refine bring (pS (pS (pS (pS (pS pO))))) ?_
  refine seq part23_run ?_
  refine bring (pS pO) ?_
  refine bring (pS (pS pO)) ?_
  refine bring (pS (pS pO)) ?_
  refine seq part24_run ?_
  refine bring (pS (pS (pS (pS (pS (pS (pS (pS (pS (pS (pS pO))))))))))) ?_
  refine bring (pS (pS (pS (pS (pS (pS (pS (pS (pS (pS (pS (pS pO)))))))))))) ?_
  refine bring (pS (pS (pS (pS (pS (pS (pS (pS (pS (pS (pS (pS (pS (pS (pS (pS (pS (pS (pS (pS (pS (pS (pS (pS (pS (pS pO)))))))))))))))))))))))))) ?_
  iterate 4 refine bring (pS (pS (pS (pS (pS (pS pO)))))) ?_
  refine seq part25_run ?_
  refine seq part26_run ?_
  refine seq part27_run ?_
  refine seq part28_run ?_
  refine bring (pS pO) ?_
  refine seq part29_run ?_
  refine bring (pS pO) ?_
  refine turn (rs_end 1) ?_
  refine bring (pS (pS (pS (pS (pS pO))))) ?_
  refine turn (ag_end 0) ?_
  refine bring (pS (pS pO)) ?_
  refine bring (pS pO) ?_
  refine bring (pS (pS (pS (pS (pS (pS pO)))))) ?_
  refine bring (pS (pS (pS (pS (pS (pS pO)))))) ?_
  refine bring (pS (pS (pS (pS (pS pO))))) ?_
  refine bring (pS (pS (pS (pS (pS (pS (pS (pS (pS (pS (pS (pS (pS (pS (pS (pS (pS (pS (pS (pS (pS (pS (pS pO))))))))))))))))))))))) ?_
  refine turn (sig_next 1) ?_
  refine bring (pS (pS (pS (pS (pS pO))))) ?_
  refine seq part30_run ?_
  refine seq part31_run ?_
  refine bring (pS (pS (pS (pS (pS (pS (pS (pS (pS pO))))))))) ?_
  refine bring (pS (pS (pS (pS (pS (pS (pS (pS (pS (pS (pS (pS (pS (pS (pS (pS (pS (pS (pS (pS (pS (pS (pS pO))))))))))))))))))))))) ?_
  refine turn bar_wait ?_
  refine bring (pS (pS (pS (pS (pS (pS (pS (pS (pS pO))))))))) ?_
  refine bring (pS pO) ?_
  refine bring (pS (pS pO)) ?_
  refine seq part32_run ?_
  refine seq part33_run ?_
  refine bring (pS (pS (pS (pS (pS pO))))) ?_
  refine turn (rw_end 1) ?_
  refine bring (pS (pS (pS (pS (pS pO))))) ?_
  refine bring (pS (pS (pS (pS (pS (pS (pS (pS (pS pO))))))))) ?_
  refine bring (pS (pS (pS (pS (pS (pS (pS (pS (pS (pS (pS (pS (pS (pS (pS (pS (pS (pS (pS (pS (pS (pS (pS (pS (pS (pS pO)))))))))))))))))))))))))) ?_
  refine bring (pS (pS (pS (pS (pS (pS pO)))))) ?_
  refine bring (pS (pS (pS (pS (pS (pS pO)))))) ?_
  refine bring (pS (pS (pS (pS (pS (pS (pS (pS (pS (pS pO)))))))))) ?_
  refine bring (pS (pS (pS (pS (pS (pS (pS (pS (pS (pS (pS (pS (pS (pS (pS (pS (pS (pS (pS (pS (pS (pS (pS (pS (pS (pS pO)))))))))))))))))))))))))) ?_
  refine bring (pS (pS (pS (pS (pS (pS (pS (pS (pS (pS pO)))))))))) ?_
  refine turn (meet_next 1) ?_
  refine bring (pS (pS pO)) ?_
  refine seq part34_run ?_
  refine seq part35_run ?_
  refine seq part36_run ?_
  refine bring (pS (pS (pS (pS (pS pO))))) ?_
  refine bring (pS (pS (pS (pS (pS (pS (pS pO))))))) ?_
  refine bring (pS (pS (pS (pS (pS (pS (pS (pS (pS (pS (pS (pS (pS (pS (pS (pS (pS (pS (pS (pS (pS (pS (pS pO))))))))))))))))))))))) ?_
  refine bring (pS (pS (pS (pS (pS (pS (pS (pS (pS (pS (pS (pS (pS (pS (pS (pS (pS (pS pO)))))))))))))))))) ?_
  refine bring (pS (pS (pS (pS (pS (pS (pS (pS (pS (pS (pS (pS (pS (pS (pS (pS (pS (pS (pS pO))))))))))))))))))) ?_
  refine bring (pS (pS (pS (pS (pS pO))))) ?_
  refine seq part37_run ?_
  refine bring (pS (pS (pS (pS (pS (pS pO)))))) ?_
  refine turn groups ?_
  refine bring (pS (pS (pS (pS (pS (pS (pS (pS (pS pO))))))))) ?_
  refine bring (pS pO) ?_
  refine bring (pS (pS (pS (pS (pS pO))))) ?_
  refine seq part38_run ?_
  refine seq part39_run ?_
  refine bring (pS pO) ?_
  refine bring (pS (pS pO)) ?_
  refine bring (pS (pS pO)) ?_
  refine seq part40_run ?_
  refine seq part41_run ?_
  refine bring (pS pO) ?_
  refine bring (pS (pS pO)) ?_
  refine seq part42_run ?_
  refine seq_some part43_run (fun w => ?_)
  refine bring (pS (pS (pS (pS (pS (pS (pS pO))))))) ?_
  refine bring (pS (pS (pS (pS (pS (pS (pS (pS (pS pO))))))))) ?_
  refine bring (pS (pS (pS (pS (pS (pS (pS (pS (pS (pS (pS (pS (pS (pS (pS (pS (pS (pS (pS (pS (pS pO))))))))))))))))))))) ?_
  refine bring (pS (pS (pS (pS (pS pO))))) ?_
  refine bring (pS (pS (pS (pS pO)))) ?_
  refine seq (part44_run w) ?_
  refine seq part45_run ?_
  refine seq part46_run ?_
  refine seq part47_run ?_
  refine seq part48_run ?_
  refine bring (pS (pS (pS (pS (pS (pS (pS (pS (pS (pS (pS (pS (pS (pS (pS (pS (pS (pS pO)))))))))))))))))) ?_
  refine bring (pS pO) ?_
  refine seq part49_run ?_
  refine bring (pS (pS (pS (pS (pS (pS (pS (pS (pS (pS (pS (pS (pS (pS (pS (pS (pS (pS pO)))))))))))))))))) ?_
  refine bring (pS (pS (pS (pS (pS (pS (pS (pS (pS (pS (pS (pS (pS (pS (pS (pS (pS (pS pO)))))))))))))))))) ?_
  refine bring (pS (pS pO)) ?_
  refine turn out_copy ?_
  refine bring (pS (pS (pS (pS pO)))) ?_
  refine bring (pS pO) ?_
  refine seq part50_run ?_
  refine step_ag_sent ?_
  refine step_ag_sent ?_
  exact fin _

/-- The body. -/
theorem body_run :
    Ctx m K ∗ OwP c (phB 0) 0 ∗
    CpI m c 0 ∗ CpI m c 1 ∗ CpI m c 2 ∗ CpI m c 3 ∗ CpI m c 4 ∗ CpI m c 5 ∗ CpI m c 6 ∗ anyAt vM c ∗ ldTok c 7 ∗
    Slots rsM c ∗ Slots agM c ∗ anyAt pM c ∗ anyAt rM c ∗ anyAt oM c ∗ Reach0 ∗ BarTok 0 c ∗ BarTok 1 c ∗
    BarTok 2 c ∗ RsTok 0 c ∗ RsTok 1 c ∗ RsTok 2 c ∗ AgTok 0 c ∗ AgTok 1 c ∗ BarCred 0 c ∗ BarCred 1 c ∗
    BarCred 2 c ∗ RsCred 0 c ∗ RsCred 1 c ∗ RsCred 2 c ∗ AgCred 0 c ∗ AgCred 1 c ∗ BarPos 0 c ∗ Pos 0 c rsS ∗
    Pos 0 c agS ∗ Pos 0 c rsendS ∗ Pos 0 c asendS ∗ R
      ⊢ wp frame (wpE (defs₀ (F := F)) Variants.none (c : Thread nD τ) none) Set.univ (onArgs (cc0_body (F := F))) (fun v => iprop(⌜v = ⟨⟩⌝ ∗
        Ctx m K ∗ OwP c (phS 2) 16 ∗
        AgW m 1 c 16 ∗ CpD m c 7 ∗ RwF m 2 c 16 ∗ RvF m 2 c 16 ∗ AgV m 1 c 16 ∗ CpD m c 6 ∗ CpD m c 5 ∗ BarPos 3 c ∗
        SigF 2 c 16 ∗ CpD m c 4 ∗ CpD m c 3 ∗ SigF 1 c 16 ∗ Reach0 ∗ CpD m c 2 ∗ CpD m c 1 ∗ CpD m c 0 ∗
        SigF 0 c 16 ∗ R)) := by
  unfold cc0_body
  beta_reduce
  refine seq part51_run ?_
  iterate 6 refine step_ag_sent ?_
  exact fin _

end Cert.MlpIdeal
-- ==== Proof.Ideal.Close.lean ====
/-
# A device's semaphores, all together
-/
module

public import proofs.«01_k».proof.Proof.Ideal.Whole
public import Idealize.ShloMosaic.Lib.Rounds.Family

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-- The semaphores of a device, sort by sort. -/
def semAt : Fin 16 ⊕ Fin 16 ⊕ Fin 16 ⊕ Fin 16 ⊕ Fin 8 ⊕ Unit → SemLoc sig
  | .inl s => .dma (rsS s)
  | .inr (.inl s) => .dma (agS s)
  | .inr (.inr (.inl s)) => .dma (rsendS s)
  | .inr (.inr (.inr (.inl s))) => .dma (asendS s)
  | .inr (.inr (.inr (.inr (.inl j)))) => .dma (ldS j)
  | .inr (.inr (.inr (.inr (.inr _)))) => .reg barS

theorem semAt_bijective : Function.Bijective semAt := by
  constructor
  · decide +kernel
  · decide +kernel

/-- An assertion about every semaphore of a device is one about those of each sort. -/
theorem sems_eq (Φ : SemLoc sig → sProp 𝕄) : bigSep Finset.univ Φ
    = iprop((bigSep Finset.univ fun s => Φ (.dma (rsS s))) ∗ (bigSep Finset.univ fun s => Φ (.dma (agS s)))
      ∗ (bigSep Finset.univ fun s => Φ (.dma (rsendS s))) ∗ (bigSep Finset.univ fun s => Φ (.dma (asendS s)))
      ∗ (bigSep Finset.univ fun j => Φ (.dma (ldS j))) ∗ Φ (.reg barS)) := by
  rw [bigSep_univ_equiv (Equiv.ofBijective semAt semAt_bijective) Φ, bigSep_univ_sum, bigSep_univ_sum, bigSep_univ_sum,
    bigSep_univ_sum, bigSep_univ_sum, bigSep_univ_of_subsingleton ()]
  rfl

/-- The round at which a semaphore of device `c` has nothing left to count. -/
def endS (k : Sort') (c : Dev nD) : ℕ :=
  match k with
  | .bar => 3
  | .rs s => if s = c then 0 else 3
  | .ag s => if s = c then 0 else 2
  | .rsend s => if s = c then 0 else 3
  | .asend s => if s = c then 0 else 2
  | .ld _ => 1

theorem duties_end (m : (ℓ : Loc nD τ sig) → Buf (Elt F) ℓ) (c : Dev nD) (sm : SemLoc sig) (r : ℕ) (h : endS (sortOf sm) c ≤ r) :
    (Rd m).duties (cell c sm) r = ∅ := by
  rw [duties_cell]
  revert h
  generalize sortOf sm = k
  intro h
  cases k with
  | bar => have h : 3 ≤ r := h; exact if_neg (by omega)
  | ld j => have h : 1 ≤ r := h; exact if_neg (by omega)
  | rs s =>
    by_cases hs : s = c
    · exact if_neg fun h' => h'.2 hs
    · unfold endS at h; dsimp only at h; rw [if_neg hs] at h; exact if_neg fun h' => by omega
  | ag s =>
    by_cases hs : s = c
    · exact if_neg fun h' => h'.2 hs
    · unfold endS at h; dsimp only at h; rw [if_neg hs] at h; exact if_neg fun h' => by omega
  | rsend s =>
    by_cases hs : s = c
    · exact if_neg fun h' => h'.2 hs
    · unfold endS at h; dsimp only at h; rw [if_neg hs] at h; exact if_neg fun h' => by omega
  | asend s =>
    by_cases hs : s = c
    · exact if_neg fun h' => h'.2 hs
    · unfold endS at h; dsimp only at h; rw [if_neg hs] at h; exact if_neg fun h' => by omega

/-- A device's place at its own semaphore of each array, which nothing ever counts on. -/
def OwnPos (c : Dev nD) : sProp 𝕄 :=
  iprop(atPos ER (cell c (.dma (rsS c))) 0 ∅ 0 ∗ atPos ER (cell c (.dma (agS c))) 0 ∅ 0
    ∗ atPos ER (cell c (.dma (rsendS c))) 0 ∅ 0 ∗ atPos ER (cell c (.dma (asendS c))) 0 ∅ 0)
/-- Its places at the semaphores of the copies within it. -/
def LdPos (r : ℕ) (c : Dev nD) : sProp 𝕄 := bigSep Finset.univ fun j => atPos ER (cell c (.dma (ldS j))) r ∅ 0
/-- Its places everywhere, at the start. -/
def Places (c : Dev nD) : sProp 𝕄 := bigSep Finset.univ fun sm : SemLoc sig => atPos ER (cell c sm) 0 ∅ 0

theorem places_start (c : Dev nD) : (Places c : sProp 𝕄)
    ⊢ iprop(BarPos 0 c ∗ Pos 0 c rsS ∗ Pos 0 c agS ∗ Pos 0 c rsendS ∗ Pos 0 c asendS ∗ OwnPos c ∗ LdPos 0 c) := by
  unfold Places BarPos Pos OwnPos LdPos
  rw [sems_eq, univ_own c, univ_own c, univ_own c, univ_own c]
  iintro ⟨⟨o1, h1⟩, ⟨o2, h2⟩, ⟨o3, h3⟩, ⟨o4, h4⟩, hl, hb⟩
  isplitl [hb]; · iexact hb
  isplitl [h1]; · iexact h1
  isplitl [h2]; · iexact h2
  isplitl [h3]; · iexact h3
  isplitl [h4]; · iexact h4
  isplitl [o1 o2 o3 o4]
  · isplitl [o1]; · iexact o1
    isplitl [o2]; · iexact o2
    isplitl [o3]; · iexact o3
    iexact o4
  iexact hl

/-- An array's places at the end, the own one among them. -/
theorem pos_end (sm : Fin 16 → DmaSem sig) (n : ℕ) (c : Dev nD) (h : ∀ s, endS (sortOf (.dma (sm s))) c = if s = c then 0 else n) :
    (bigSep Finset.univ fun s => atPos ER (cell c (.dma (sm s))) (endS (sortOf (.dma (sm s))) c) ∅ 0 : sProp 𝕄)
      = iprop(atPos ER (cell c (.dma (sm c))) 0 ∅ 0 ∗ Pos n c sm) := by
  unfold Pos
  rw [univ_own c, h c, if_pos rfl]
  congr 1
  refine bigSep_congr fun s hs => ?_
  rw [h s, if_neg (Finset.mem_erase.mp hs).1]

/-- Its places everywhere, at the end. -/
theorem places_end (c : Dev nD) : iprop(BarPos 3 c ∗ Pos 3 c rsS ∗ Pos 2 c agS ∗ Pos 3 c rsendS ∗ Pos 2 c asendS ∗ OwnPos c ∗ LdPos 1 c)
    ⊢ (bigSep Finset.univ fun sm : SemLoc sig => atPos ER (cell c sm) (endS (sortOf sm) c) ∅ 0 : sProp 𝕄) := by
  rw [sems_eq, pos_end rsS 3 c fun s => by rw [sortOf_rs]; rfl, pos_end agS 2 c fun s => by rw [sortOf_ag]; rfl,
    pos_end rsendS 3 c fun s => by rw [sortOf_rsend]; rfl, pos_end asendS 2 c fun s => by rw [sortOf_asend]; rfl,
    show (bigSep Finset.univ fun j => atPos ER (cell c (.dma (ldS j))) (endS (sortOf (.dma (ldS j))) c) ∅ 0 : sProp 𝕄) = LdPos 1 c from
      bigSep_congr fun j _ => by rw [sortOf_ld]; rfl,
    show (atPos ER (cell c (.reg barS)) (endS (sortOf (.reg barS)) c) ∅ 0 : sProp 𝕄) = BarPos 3 c from rfl]
  unfold OwnPos
  iintro ⟨hb, h1, h2, h3, h4, ⟨o1, o2, o3, o4⟩, hl⟩
  isplitl [o1 h1]
  · isplitl [o1]; · iexact o1
    iexact h1
  isplitl [o2 h2]
  · isplitl [o2]; · iexact o2
    iexact h2
  isplitl [o3 h3]
  · isplitl [o3]; · iexact o3
    iexact h3
  isplitl [o4 h4]
  · isplitl [o4]; · iexact o4
    iexact h4
  isplitl [hl]; · iexact hl
  iexact hb

/-- Every semaphore is closed at zero. -/
theorem close_all (m : (ℓ : Loc nD τ sig) → Buf (Elt F) ℓ) (K : Dev nD × SemLoc sig → ℕ) (c : Dev nD) :
    iprop(Ctx m K ∗ bigSep Finset.univ fun sm : SemLoc sig => atPos ER (cell c sm) (endS (sortOf sm) c) ∅ 0)
      ⊢ |={Set.univ}=> (bigSep Finset.univ fun sm : SemLoc sig => semVal (cell c sm) 0 : sProp 𝕄) := by
  have h1 : Ctx m K ⊢ (bigSep Finset.univ fun sm : SemLoc sig => cellInv ER (Rd m) (K (c, sm)) (cell c sm) : sProp 𝕄) :=
    BIBase.Entails.trans (BI.bigSep_of_persistent (Finset.univ : Finset (SemLoc sig)) (Ctx m K)) (bigSep_mono fun sm _ => Ctx_cell m K c sm)
  refine BIBase.Entails.trans (BIClass.sep_mono h1 BIBase.Entails.refl) ?_
  rw [← bigSep_sep']
  exact cells_close ER (Rd m) Finset.univ (fun sm => cell c sm) (fun sm => K (c, sm)) (fun _ _ => Set.mem_univ _)
    (fun _ _ h => h) (fun sm => endS (sortOf sm) c) (fun sm _ r hr => duties_end m c sm r hr)

/-! ## The launch's two kinds of semaphores -/

/-- The semaphores that the kernel owns. -/
abbrev osem : Fin 72 → SemLoc sig := fun q => .dma q

theorem launch_sems (c : Dev nD) :
    iprop(Pipeline.ownSems0 (Ix := ℕ) (Name := ℕ) (U := UU) (Lvl := ℕ) (Val := Elt F) (τ := τ) osem c ∗ unscopedSems0 c)
      = (bigSep Finset.univ fun sm : SemLoc sig => semVal (cell c sm) 0 : sProp 𝕄) := by
  have h : ∀ Φ : SemLoc sig → sProp 𝕄, bigSep Finset.univ Φ = iprop((bigSep Finset.univ fun q : Fin 72 => Φ (.dma q)) ∗ Φ (.reg barS)) := fun Φ => by
    have hb : Function.Bijective (Sum.elim (fun q : Fin 72 => SemLoc.dma q) (fun _ : Unit => SemLoc.reg barS) : Fin 72 ⊕ Unit → SemLoc sig) :=
      ⟨by decide +kernel, by decide +kernel⟩
    rw [bigSep_univ_equiv (Equiv.ofBijective _ hb) Φ, bigSep_univ_sum, bigSep_univ_of_subsingleton ()]
    rfl
  rw [h]
  unfold Pipeline.ownSems0 unscopedSems0
  rw [bigSep_eq_bigSepL_of_eq [SemLoc.reg barS] (by decide +kernel) (by decide +kernel)]
  rfl

end Cert.MlpIdeal
-- ==== Proof.Ideal.Device.lean ====
/-
# A device's whole run, from what the launch gives it to what it gives back
-/
module

public import proofs.«01_k».proof.Proof.Ideal.Close

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-- The launch's tokens for a device: those of everything that it will pay. -/
def Toks (c : Dev nD) : sProp 𝕄 :=
  iprop(BarTok 0 c ∗ BarTok 1 c ∗ BarTok 2 c ∗ RsTok 0 c ∗ RsTok 1 c ∗ RsTok 2 c ∗ AgTok 0 c ∗ AgTok 1 c
    ∗ bigSep Finset.univ fun j => dutyTok ER (cell c (.dma (ldS j))) 0 0)
/-- And its credit: all that it will be paid. -/
def Creds (c : Dev nD) : sProp 𝕄 :=
  iprop(BarCred 0 c ∗ BarCred 1 c ∗ BarCred 2 c ∗ RsCred 0 c ∗ RsCred 1 c ∗ RsCred 2 c ∗ AgCred 0 c ∗ AgCred 1 c)
/-- The arguments, as launched. -/
def Args (m : (ℓ : Loc nD τ sig) → Buf (Elt F) ℓ) (c : Dev nD) : sProp 𝕄 :=
  iprop(argAt m main_arg0 c ∗ argAt m main_arg1 c ∗ argAt m main_arg2 c ∗ argAt m main_arg3 c ∗ argAt m main_arg4 c
    ∗ argAt m main_arg5 c ∗ argAt m main_arg6 c)
/-- The kernel's own buffers. -/
def Scratch (c : Dev nD) : sProp 𝕄 :=
  iprop(anyAt xM c ∗ anyAt wiM c ∗ anyAt woM c ∗ anyAt oM c ∗ anyAt pM c ∗ anyAt rM c ∗ anyAt rsM c ∗ anyAt agM c)

/-- Eight things. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide +kernel) (by decide +kernel) Φ
/-- Three things. -/
theorem three (Φ : Fin 3 → sProp 𝕄) : bigSep Finset.univ Φ = iprop(Φ 0 ∗ Φ 1 ∗ Φ 2) :=
  bigSep_univ_eq_bigSepL [0, 1, 2] (by decide +kernel) (by decide +kernel) Φ

theorem ld_toks (c : Dev nD) : iprop((bigSep Finset.univ fun j => dutyTok ER (cell c (.dma (ldS j))) 0 0) ∗ LdPos 0 c ∗ Reach0)
    ⊢ (bigSep Finset.univ (ldTok c) : sProp 𝕄) := by
  have h : (Reach0 : sProp 𝕄) ⊢ bigSep Finset.univ fun j => reached ER (cell c (.dma (ldS j))) 0 :=
    BIBase.Entails.trans (BI.bigSep_of_persistent (Finset.univ : Finset (Fin 8)) Reach0)
      (bigSep_mono fun j _ => Reach0_at (c, .dma (ldS j)))
  have h2 : iprop((bigSep Finset.univ fun j => dutyTok ER (cell c (.dma (ldS j))) 0 0)
      ∗ (bigSep Finset.univ fun j => reached ER (cell c (.dma (ldS j))) 0) ∗ LdPos 0 c) ⊢ (bigSep Finset.univ (ldTok c) : sProp 𝕄) := by
    unfold LdPos
    rw [← bigSep_sep', ← bigSep_sep']
    exact BIBase.Entails.refl
  iintro ⟨H1, H2, H3⟩
  iapply h2
  isplitl [H1]; · iexact H1
  isplitl [H3]; · iapply h; iexact H3
  iexact H2

/-- What a device has at the end. -/
def Done (m : (ℓ : Loc nD τ sig) → Buf (Elt F) ℓ) (c : Dev nD) : sProp 𝕄 :=
  iprop((bigSep Finset.univ fun sm : SemLoc sig => semVal (cell c sm) 0) ∗ Args m c ∗ holds vM c (outv m c) ∗ Scratch c)

/-- The end of the body. -/
theorem body_end :
    iprop(Ctx m K ∗ OwP c (phS 2) 16 ∗
        AgW m 1 c 16 ∗ CpD m c 7 ∗ RwF m 2 c 16 ∗ RvF m 2 c 16 ∗ AgV m 1 c 16 ∗ CpD m c 6 ∗ CpD m c 5 ∗ BarPos 3 c ∗
        SigF 2 c 16 ∗ CpD m c 4 ∗ CpD m c 3 ∗ SigF 1 c 16 ∗ Reach0 ∗ CpD m c 2 ∗ CpD m c 1 ∗ CpD m c 0 ∗
        SigF 0 c 16 ∗ OwnPos c)
      ⊢ |={Set.univ}=> iprop(Ow c 128 ∗ Done m c) := by
  have hw : iprop(anyAt (wiL 0) c ∗ anyAt (wiL 1) c ∗ anyAt (wiL 2) c) ⊢ (anyAt wiM c : sProp 𝕄) := by
    rw [← three fun l => anyAt (wiL l) c]; exact wi_any c
  have hv : iprop(anyAt (woL 0) c ∗ anyAt (woL 1) c ∗ anyAt (woL 2) c) ⊢ (anyAt woM c : sProp 𝕄) := by
    rw [← three fun l => anyAt (woL l) c]; exact wo_any c
  have e0 : CpD m c 0 = iprop((holds xM c (xin m c) ∗ argAt m main_arg0 c) ∗ atPos ER (cell c (.dma (ldS 0))) 1 ∅ 0) := rfl
  have e1 : CpD m c 1 = iprop((holds (wiL 0) c (win0 m c) ∗ argAt m main_arg1 c) ∗ atPos ER (cell c (.dma (ldS 1))) 1 ∅ 0) := rfl
  have e2 : CpD m c 2 = iprop((holds (woL 0) c (wout0 m c) ∗ argAt m main_arg4 c) ∗ atPos ER (cell c (.dma (ldS 2))) 1 ∅ 0) := rfl
  have e3 : CpD m c 3 = iprop((holds (wiL 1) c (win1 m c) ∗ argAt m main_arg2 c) ∗ atPos ER (cell c (.dma (ldS 3))) 1 ∅ 0) := rfl
  have e4 : CpD m c 4 = iprop((holds (woL 1) c (wout1 m c) ∗ argAt m main_arg5 c) ∗ atPos ER (cell c (.dma (ldS 4))) 1 ∅ 0) := rfl
  have e5 : CpD m c 5 = iprop((holds (wiL 2) c (win2 m c) ∗ argAt m main_arg3 c) ∗ atPos ER (cell c (.dma (ldS 5))) 1 ∅ 0) := rfl
  have e6 : CpD m c 6 = iprop((holds (woL 2) c (wout2 m c) ∗ argAt m main_arg6 c) ∗ atPos ER (cell c (.dma (ldS 6))) 1 ∅ 0) := rfl
  have e7 : CpD m c 7 = iprop((holds vM c (outv m c) ∗ anyAt oM c) ∗ atPos ER (cell c (.dma (ldS 7))) 1 ∅ 0) := rfl
  have hl : LdPos 1 c = _ := eight fun j => (atPos ER (cell c (.dma (ldS j))) 1 ∅ 0 : sProp 𝕄)
  have ho : OwP (F := F) c (phS 2) 16 = Ow c 128 := rfl
  rw [e0, e1, e2, e3, e4, e5, e6, e7, ho]
  iintro ⟨#HC, HO, Haw, ⟨⟨Hv, Ho⟩, p7⟩, Hrw, Hrv, Hag, ⟨⟨w6, a6⟩, p6⟩, ⟨⟨w5, a3⟩, p5⟩, Hbar, -, ⟨⟨w4, a5⟩, p4⟩, ⟨⟨w3, a2⟩, p3⟩,
    -, -, ⟨⟨w2, a4⟩, p2⟩, ⟨⟨w1, a1⟩, p1⟩, ⟨⟨w0, a0⟩, p0⟩, -, Hown⟩
  ihave H := (rs_end (m := m) (c := c) (R := iprop(emp)) 2) $$ [Hrv]
  · isplitl [Hrv]; · iexact Hrv
    iempintro
  icases H with ⟨Srs, Prs, -, -, -⟩
  ihave H := (ag_end (m := m) (c := c) (R := iprop(emp)) 1) $$ [Hag]
  · isplitl [Hag]; · iexact Hag
    iempintro
  icases H with ⟨Sag, Pag, -, -⟩
  ihave H := (rw_end (m := m) (c := c) (R := iprop(emp)) 2) $$ [Hrw]
  · isplitl [Hrw]; · iexact Hrw
    iempintro
  icases H with ⟨Bp, Prw, -, -⟩
  ihave H := (aw_end (m := m) (c := c) (R := iprop(emp)) 1) $$ [Haw]
  · isplitl [Haw]; · iexact Haw
    iempintro
  icases H with ⟨Br, Paw, -, -⟩
  ihave Hp := (places_end c) $$ [Hbar Prs Pag Prw Paw Hown p0 p1 p2 p3 p4 p5 p6 p7]
  · isplitl [Hbar]; · iexact Hbar
    isplitl [Prs]; · iexact Prs
    isplitl [Pag]; · iexact Pag
    isplitl [Prw]; · iexact Prw
    isplitl [Paw]; · iexact Paw
    isplitl [Hown]; · iexact Hown
    rw [hl]
    isplitl [p0]; · iexact p0
    isplitl [p1]; · iexact p1
    isplitl [p2]; · iexact p2
    isplitl [p3]; · iexact p3
    isplitl [p4]; · iexact p4
    isplitl [p5]; · iexact p5
    isplitl [p6]; · iexact p6
    iexact p7
  imod (close_all m K c) $$ [Hp] with Hz
  · isplitr; · iexact HC
    iexact Hp
  imodintro
  isplitl [HO]; · iexact HO
  unfold Done Args Scratch
  isplitl [Hz]; · iexact Hz
  isplitl [a0 a1 a2 a3 a4 a5 a6]
  · isplitl [a0]; · iexact a0
    isplitl [a1]; · iexact a1
    isplitl [a2]; · iexact a2
    isplitl [a3]; · iexact a3
    isplitl [a4]; · iexact a4
    isplitl [a5]; · iexact a5
    iexact a6
  isplitl [Hv]; · iexact Hv
  isplitl [w0]; · iapply (holds_any xM c (xin m c)); iexact w0
  isplitl [w1 w3 w5]
  · iapply hw
    isplitl [w1]; · iapply (holds_any (wiL 0) c (win0 m c)); iexact w1
    isplitl [w3]; · iapply (holds_any (wiL 1) c (win1 m c)); iexact w3
    iapply (holds_any (wiL 2) c (win2 m c)); iexact w5
  isplitl [w2 w4 w6]
  · iapply hv
    isplitl [w2]; · iapply (holds_any (woL 0) c (wout0 m c)); iexact w2
    isplitl [w4]; · iapply (holds_any (woL 1) c (wout1 m c)); iexact w4
    iapply (holds_any (woL 2) c (wout2 m c)); iexact w6
  isplitl [Ho]; · iexact Ho
  isplitl [Bp]; · iexact Bp
  isplitl [Br]; · iexact Br
  isplitl [Srs]
  · iapply (slots_any rsM c); unfold Slots; iexact Srs
  iapply (slots_any agM c); unfold Slots; iexact Sag

/-- The body's run on device `c`. -/
theorem device_run :
    iprop(Ctx m K ∗ Ow c 0 ∗ Reach0 ∗ Places c ∗ Toks c ∗ Creds c ∗ Args m c ∗ anyAt vM c ∗ Scratch c)
      ⊢ wp frame (wpE (defs₀ (F := F)) Variants.none (c : Thread nD τ) none) Set.univ (onArgs (cc0_body (F := F))) (fun _ => iprop(Ow c 128 ∗ Done m c)) := by
  have hw : (anyAt wiM c : sProp 𝕄) ⊢ iprop(anyAt (wiL 0) c ∗ anyAt (wiL 1) c ∗ anyAt (wiL 2) c) := by
    rw [← three fun l => anyAt (wiL l) c]; exact any_wi c
  have hv : (anyAt woM c : sProp 𝕄) ⊢ iprop(anyAt (woL 0) c ∗ anyAt (woL 1) c ∗ anyAt (woL 2) c) := by
    rw [← three fun l => anyAt (woL l) c]; exact any_wo c
  have hs : (anyAt rsM c : sProp 𝕄) ⊢ Slots rsM c := any_slots rsM c
  have hg : (anyAt agM c : sProp 𝕄) ⊢ Slots agM c := any_slots agM c
  have h8 : bigSep Finset.univ (ldTok c) ⊢ (_ : sProp 𝕄) := Entails.of_eq (eight (ldTok c))
  have e0 : CpI m c 0 = iprop((argAt m main_arg0 c ∗ anyAt xM c) ∗ ldTok c 0) := rfl
  have e1 : CpI m c 1 = iprop((argAt m main_arg1 c ∗ anyAt (wiL 0) c) ∗ ldTok c 1) := rfl
  have e2 : CpI m c 2 = iprop((argAt m main_arg4 c ∗ anyAt (woL 0) c) ∗ ldTok c 2) := rfl
  have e3 : CpI m c 3 = iprop((argAt m main_arg2 c ∗ anyAt (wiL 1) c) ∗ ldTok c 3) := rfl
  have e4 : CpI m c 4 = iprop((argAt m main_arg5 c ∗ anyAt (woL 1) c) ∗ ldTok c 4) := rfl
  have e5 : CpI m c 5 = iprop((argAt m main_arg3 c ∗ anyAt (wiL 2) c) ∗ ldTok c 5) := rfl
  have e6 : CpI m c 6 = iprop((argAt m main_arg6 c ∗ anyAt (woL 2) c) ∗ ldTok c 6) := rfl
  have ho : OwP (F := F) c (phB 0) 0 = Ow c 0 := rfl
  have hk : wp frame (wpE (defs₀ (F := F)) Variants.none (c : Thread nD τ) none) Set.univ (onArgs (cc0_body (F := F))) (fun v => iprop(⌜v = ⟨⟩⌝ ∗
        Ctx m K ∗ OwP c (phS 2) 16 ∗
        AgW m 1 c 16 ∗ CpD m c 7 ∗ RwF m 2 c 16 ∗ RvF m 2 c 16 ∗ AgV m 1 c 16 ∗ CpD m c 6 ∗ CpD m c 5 ∗ BarPos 3 c ∗
        SigF 2 c 16 ∗ CpD m c 4 ∗ CpD m c 3 ∗ SigF 1 c 16 ∗ Reach0 ∗ CpD m c 2 ∗ CpD m c 1 ∗ CpD m c 0 ∗
        SigF 0 c 16 ∗ OwnPos c))
      ⊢ wp frame (wpE (defs₀ (F := F)) Variants.none (c : Thread nD τ) none) Set.univ (onArgs (cc0_body (F := F))) (fun _ => iprop(Ow c 128 ∗ Done m c)) := by
    refine BIBase.Entails.trans (wp_mono _ _ _ (fun v => ?_)) (wp_fupd _ _ _ _ _)
    refine BIBase.Entails.trans ?_ (body_end (m := m) (K := K))
    iintro ⟨-, H⟩
    iexact H
  refine BIBase.Entails.trans ?_ hk
  refine BIBase.Entails.trans ?_ body_run
  rw [e0, e1, e2, e3, e4, e5, e6, ho]
  unfold Toks Creds Args Scratch
  iintro ⟨#HC, HO, #H0, HP, ⟨tb0, tb1, tb2, ts0, ts1, ts2, tg0, tg1, tl⟩, ⟨cb0, cb1, cb2, cs0, cs1, cs2, cg0, cg1⟩,
    ⟨a0, a1, a2, a3, a4, a5, a6⟩, Hv, Hx, Hwi, Hwo, Ho, Hp, Hr, Hrs, Hag⟩
  ihave HP := (places_start c) $$ HP
  icases HP with ⟨pb, prs, pag, prw, paw, Hown, pl⟩
  ihave Hl := (ld_toks c) $$ [tl pl]
  · isplitl [tl]; · iexact tl
    isplitl [pl]; · iexact pl
    iexact H0
  ihave Hl := h8 $$ Hl
  icases Hl with ⟨l0, l1, l2, l3, l4, l5, l6, l7⟩
  ihave Hwi := hw $$ Hwi
  icases Hwi with ⟨i0, i1, i2⟩
  ihave Hwo := hv $$ Hwo
  icases Hwo with ⟨o0, o1, o2⟩
  ihave Hrs := hs $$ Hrs
  ihave Hag := hg $$ Hag
  isplitr; · iexact HC
  isplitl [HO]; · iexact HO
  isplitl [a0 Hx l0]
  · isplitl [a0 Hx]
    · isplitl [a0]; · iexact a0
      iexact Hx
    iexact l0
  isplitl [a1 i0 l1]
  · isplitl [a1 i0]
    · isplitl [a1]; · iexact a1
      iexact i0
    iexact l1
  isplitl [a4 o0 l2]
  · isplitl [a4 o0]
    · isplitl [a4]; · iexact a4
      iexact o0
    iexact l2
  isplitl [a2 i1 l3]
  · isplitl [a2 i1]
    · isplitl [a2]; · iexact a2
      iexact i1
    iexact l3
  isplitl [a5 o1 l4]
  · isplitl [a5 o1]
    · isplitl [a5]; · iexact a5
      iexact o1
    iexact l4
  isplitl [a3 i2 l5]
  · isplitl [a3 i2]
    · isplitl [a3]; · iexact a3
      iexact i2
    iexact l5
  isplitl [a6 o2 l6]
  · isplitl [a6 o2]
    · isplitl [a6]; · iexact a6
      iexact o2
    iexact l6
  isplitl [Hv]; · iexact Hv
  isplitl [l7]; · iexact l7
  isplitl [Hrs]; · iexact Hrs
  isplitl [Hag]; · iexact Hag
  isplitl [Hp]; · iexact Hp
  isplitl [Hr]; · iexact Hr
  isplitl [Ho]; · iexact Ho
  isplitr; · iexact H0
  isplitl [tb0]; · iexact tb0
  isplitl [tb1]; · iexact tb1
  isplitl [tb2]; · iexact tb2
  isplitl [ts0]; · iexact ts0
  isplitl [ts1]; · iexact ts1
  isplitl [ts2]; · iexact ts2
  isplitl [tg0]; · iexact tg0
  isplitl [tg1]; · iexact tg1
  isplitl [cb0]; · iexact cb0
  isplitl [cb1]; · iexact cb1
  isplitl [cb2]; · iexact cb2
  isplitl [cs0]; · iexact cs0
  isplitl [cs1]; · iexact cs1
  isplitl [cs2]; · iexact cs2
  isplitl [cg0]; · iexact cg0
  isplitl [cg1]; · iexact cg1
  isplitl [pb]; · iexact pb
  isplitl [prs]; · iexact prs
  isplitl [pag]; · iexact pag
  isplitl [prw]; · iexact prw
  isplitl [paw]; · iexact paw
  iexact Hown

end Cert.MlpIdeal
-- ==== Proof.Ideal.Credit.lean ====
/-
# The launch's credit
-/
module

public import proofs.«01_k».proof.Proof.Ideal.Device

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-- The payment of meeting `ph` by device `d` to device `c`. -/
def due (ph : ℕ) (d c : Fin 16) : CellTallies nD τ sig ℕ := tallyAt (cell c (phSem ph d)) (phR ph) (phN ph)
/-- All that device `c` is paid. -/
def owed (c : Fin 16) : CellTallies nD τ sig ℕ := ∑ ph : Fin 8, ∑ d ∈ Finset.univ.erase c, due ph d c

theorem phD_phD (ph : ℕ) (p : Fin 16) : phD ph (phD ph p) = p := by
  unfold phD
  by_cases h : ph = 4
  · rw [if_pos h, if_pos h, ap_ap]
  · rw [if_neg h, if_neg h]

/-- A device's payments, meeting by meeting. -/
theorem O_all (d : Fin 16) : O d 0 = ∑ ph : Fin 8, ∑ c : Fin 16, if c = d then 0 else due ph d c := by
  unfold O
  rw [← Finset.range_eq_Ico, Finset.sum_range, ← Equiv.sum_comp (finProdFinEquiv (m := 8) (n := 16)), Fintype.sum_prod_type]
  refine Finset.sum_congr rfl fun ph _ => ?_
  refine Eq.trans ?_ (Equiv.sum_comp (⟨phD ph, phD ph, phD_phD ph, phD_phD ph⟩ : Fin 16 ≃ Fin 16) fun c => if c = d then 0 else due ph d c)
  refine Finset.sum_congr rfl fun p _ => ?_
  have h1 : ((finProdFinEquiv (ph, p) : Fin (8 * 16)) : ℕ) / 16 = ph := by
    have : ((finProdFinEquiv (ph, p) : Fin (8 * 16)) : ℕ) = p.val + 16 * ph.val := rfl
    omega
  have h2 : plc ((finProdFinEquiv (ph, p) : Fin (8 * 16)) : ℕ) = p := by
    have : ((finProdFinEquiv (ph, p) : Fin (8 * 16)) : ℕ) = p.val + 16 * ph.val := rfl
    refine Fin.ext ?_
    show ((finProdFinEquiv (ph, p) : Fin (8 * 16)) : ℕ) % 16 = p.val
    omega
  have key : ∀ j : ℕ, j / 16 = ph → plc j = p → pay d j = if phD ph p = d then 0 else due ph d (phD ph p) := by
    intro j e1 e2
    unfold pay due
    rw [e1, e2]
  exact key _ h1 h2

theorem O_owed : (∑ d : Fin 16, O d 0) = ∑ c : Fin 16, owed c := by
  simp only [O_all]
  unfold owed
  rw [Finset.sum_comm]
  conv_rhs => rw [Finset.sum_comm]
  refine Finset.sum_congr rfl fun ph _ => ?_
  rw [Finset.sum_comm]
  refine Finset.sum_congr rfl fun c _ => ?_
  rw [← Finset.add_sum_erase Finset.univ _ (Finset.mem_univ c), if_pos rfl, zero_add]
  exact Finset.sum_congr rfl fun d hd => if_neg (Finset.ne_of_mem_erase hd).symm

theorem owed_on (c : Fin 16) (g : GSem nD τ sig) (h : owed c g ≠ 0) : g.1 = (c : Thread nD τ) := by
  by_contra hn
  refine h ?_
  unfold owed
  rw [Finset.sum_apply]
  refine Finset.sum_eq_zero fun ph _ => ?_
  rw [Finset.sum_apply]
  refine Finset.sum_eq_zero fun d _ => ?_
  unfold due
  exact tallyAt_ne_cell (fun e => hn (congrArg Prod.fst e)) _ _

/-- Fifteen units on one cell are fifteen. -/
theorem bar_due (c : Fin 16) (r : ℕ) (sm : SemLoc sig) :
    (∑ _d ∈ Finset.univ.erase c, (tallyAt (cell c sm) r 1 : CellTallies nD τ sig ℕ)) = tallyAt (cell c sm) r 15 := by
  have h : ∀ S : Finset (Fin 16), (∑ _d ∈ S, (tallyAt (cell c sm) r 1 : CellTallies nD τ sig ℕ)) = tallyAt (cell c sm) r S.card := by
    intro S
    induction S using Finset.induction_on with
    | empty => rw [Finset.sum_empty, Finset.card_empty, tallyAt_zero]
    | insert a S ha ih => rw [Finset.sum_insert ha, Finset.card_insert_of_notMem ha, ih, tallyAt_add, add_comm]
  rw [h, Finset.card_erase_of_mem (Finset.mem_univ c), Finset.card_univ, Fintype.card_fin]

theorem bar_creds (c : Fin 16) (r : ℕ) (ph : Fin 8) (h : ∀ d, due ph d c = tallyAt (cell c (.reg barS)) r 1) :
    (cred (∑ d ∈ Finset.univ.erase c, due ph d c) : sProp 𝕄) = BarCred r c := by
  unfold BarCred
  rw [Finset.sum_congr rfl fun d _ => h d, bar_due]
theorem msg_creds (c : Fin 16) (r : ℕ) (ph : Fin 8) (sm : Fin 16 → DmaSem sig)
    (h : ∀ d, due ph d c = tallyAt (cell c (.dma (sm d))) r N) :
    (cred (∑ d ∈ Finset.univ.erase c, due ph d c) : sProp 𝕄) = others c fun s => cred (tallyAt (cell c (.dma (sm s))) r N) := by
  rw [Finset.sum_congr rfl fun d _ => h d, Pipeline.cred_finsetSum]
  rfl

/-- The launch's credit is what each meeting will pay. -/
theorem creds (c : Dev nD) : (Pipeline.launchCred (fun d => O d 0) c : sProp 𝕄) ⊢ Creds c := by
  rw [Pipeline.launchCred_of_sum (fun d => O d 0) owed O_owed owed_on c]
  unfold owed
  rw [Pipeline.cred_finsetSum, eight, bar_creds c 0 0 fun _ => rfl, bar_creds c 1 2 fun _ => rfl, bar_creds c 2 5 fun _ => rfl,
    msg_creds c 0 1 rsS fun _ => rfl, msg_creds c 0 3 agS fun _ => rfl, msg_creds c 1 4 rsS fun _ => rfl,
    msg_creds c 1 6 agS fun _ => rfl, msg_creds c 2 7 rsS fun _ => rfl]
  unfold Creds RsCred AgCred
  iintro ⟨h0, h1, h2, h3, h4, h5, h6, h7⟩
  isplitl [h0]; · iexact h0
  isplitl [h2]; · iexact h2
  isplitl [h5]; · iexact h5
  isplitl [h1]; · iexact h1
  isplitl [h4]; · iexact h4
  isplitl [h7]; · iexact h7
  isplitl [h3]; · iexact h3
  iexact h6

end Cert.MlpIdeal
-- ==== Proof.Ideal.Fund.lean ====
/-
# What the launch deals

Every device gets its own cells at round zero, and the tokens of all that it will pay.
-/
module

public import proofs.«01_k».proof.Proof.Ideal.Device

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

theorem cell_injective : Function.Injective fun p : Dev nD × SemLoc sig => cell p.1 p.2 := by
  rintro ⟨c, k⟩ ⟨c', k'⟩ h
  have h1 : c = c' := congrArg (fun g : GSem nD τ sig => g.1.1) h
  have h2 : k = k' := congrArg Prod.snd h
  rw [h1, h2]
/-- All cells. -/
def allCells : Finset (GSem nD τ sig) := Finset.univ.map ⟨_, cell_injective⟩

/-- A device's payments: of signals, scattered and gathered messages and their sends, and of copies within it. -/
abbrev Payment : Type :=
  (Fin 3 × Fin 16) ⊕ (Fin 3 × Fin 16) ⊕ (Fin 3 × Fin 16) ⊕ (Fin 2 × Fin 16) ⊕ (Fin 2 × Fin 16) ⊕ Fin 8

/-- The token of a device's payment. -/
def tokOf : Dev nD × Payment → GSem nD τ sig × ℕ × Fin 16
  | (c, .inl (r, s)) => (cell s (.reg barS), r, c)
  | (c, .inr (.inl (r, s))) => (cell s (.dma (rsS c)), r, c)
  | (c, .inr (.inr (.inl (r, s)))) => (cell c (.dma (rsendS s)), r, s)
  | (c, .inr (.inr (.inr (.inl (r, s))))) => (cell s (.dma (agS c)), r, c)
  | (c, .inr (.inr (.inr (.inr (.inl (r, s)))))) => (cell c (.dma (asendS s)), r, s)
  | (c, .inr (.inr (.inr (.inr (.inr j))))) => (cell c (.dma (ldS j)), 0, 0)

/-- The payment that a token is for. -/
def payOf (x : GSem nD τ sig × ℕ × Fin 16) : Dev nD × Payment :=
  match sortOf x.1.2 with
  | .bar => (x.2.2, .inl (⟨x.2.1 % 3, Nat.mod_lt _ (by decide)⟩, x.1.1.1))
  | .rs s => (s, .inr (.inl (⟨x.2.1 % 3, Nat.mod_lt _ (by decide)⟩, x.1.1.1)))
  | .rsend s => (x.1.1.1, .inr (.inr (.inl (⟨x.2.1 % 3, Nat.mod_lt _ (by decide)⟩, s))))
  | .ag s => (s, .inr (.inr (.inr (.inl (⟨x.2.1 % 2, Nat.mod_lt _ (by decide)⟩, x.1.1.1)))))
  | .asend s => (x.1.1.1, .inr (.inr (.inr (.inr (.inl (⟨x.2.1 % 2, Nat.mod_lt _ (by decide)⟩, s))))))
  | .ld j => (x.1.1.1, .inr (.inr (.inr (.inr (.inr j)))))

theorem payOf_tokOf : Function.LeftInverse payOf tokOf := by
  have h3 : ∀ r : Fin 3, (⟨r.val % 3, Nat.mod_lt _ (by decide)⟩ : Fin 3) = r := by decide
  have h2 : ∀ r : Fin 2, (⟨r.val % 2, Nat.mod_lt _ (by decide)⟩ : Fin 2) = r := by decide
  rintro ⟨c, ⟨r, s⟩ | ⟨r, s⟩ | ⟨r, s⟩ | ⟨r, s⟩ | ⟨r, s⟩ | j⟩
  · simp only [payOf, tokOf, sortOf_bar, h3]
  · simp only [payOf, tokOf, sortOf_rs, h3]
  · simp only [payOf, tokOf, sortOf_rsend, h3]
  · simp only [payOf, tokOf, sortOf_ag, h2]
  · simp only [payOf, tokOf, sortOf_asend, h2]
  · simp only [payOf, tokOf, sortOf_ld]
/-- All tokens. -/
def allToks : Finset (GSem nD τ sig × ℕ × Fin 16) := Finset.univ.map ⟨tokOf, payOf_tokOf.injective⟩

/-- The launch element. -/
def u₀ : UU :=
  (initOf (Pipeline.cells cfgs cellOf_inj) (Pipeline.launchToks cfgs cellOf_inj), initOf allCells allToks)

/-- What a device is dealt. -/
def G (m : (ℓ : Loc nD τ sig) → Buf (Elt F) ℓ) (c : Dev nD) : sProp 𝕄 :=
  iprop((bigSep Finset.univ fun sm : SemLoc sig => roundState ER (Rd m) (cell c sm) 0)
    ∗ (bigSep Finset.univ fun sm : SemLoc sig => reached ER (cell c sm) 0) ∗ Places c ∗ Toks c)
/-- All cells' invariants. -/
def Invs (m : (ℓ : Loc nD τ sig) → Buf (Elt F) ℓ) (K : Dev nD × SemLoc sig → ℕ) : sProp 𝕄 :=
  bigSep Finset.univ fun p : Dev nD × SemLoc sig => cellInv ER (Rd m) (K p) (cell p.1 p.2)
instance Invs_persistent : BI.Persistent (Invs m K) := by unfold Invs; infer_instance
/-- What it has once all invariants stand. -/
def G' (m : (ℓ : Loc nD τ sig) → Buf (Elt F) ℓ) (c : Dev nD) : sProp 𝕄 :=
  iprop(∃ K, Invs m K ∗ Reach0 ∗ Places c ∗ Toks c)

theorem two (Φ : Fin 2 → sProp 𝕄) : bigSep Finset.univ Φ = iprop(Φ 0 ∗ Φ 1) :=
  bigSep_univ_eq_bigSepL [0, 1] (by decide +kernel) (by decide +kernel) Φ
theorem drop_own (X : Fin 16 → sProp 𝕄) : bigSep Finset.univ X ⊢ others c X := by
  rw [univ_own c X]
  iintro ⟨-, H⟩
  iexact H
theorem pair_up (X Y : Fin 16 → sProp 𝕄) :
    iprop((bigSep Finset.univ X) ∗ bigSep Finset.univ Y) ⊢ others c fun s => iprop(X s ∗ Y s) := by
  rw [others_sep]
  exact BIClass.sep_mono (drop_own X) (drop_own Y)

/-- A device's tokens, sort by sort; those to itself are of no use. -/
theorem toks_deal (c : Dev nD) : (bigSep Finset.univ fun t : Payment => dutyTok ER (tokOf (c, t)).1 (tokOf (c, t)).2.1 (tokOf (c, t)).2.2)
    ⊢ (Toks c : sProp 𝕄) := by
  have e : (bigSep Finset.univ fun t : Payment => dutyTok ER (tokOf (c, t)).1 (tokOf (c, t)).2.1 (tokOf (c, t)).2.2 : sProp 𝕄)
      = iprop((bigSep Finset.univ fun r : Fin 3 => bigSep Finset.univ fun s => dutyTok ER (cell s (.reg barS)) r c)
        ∗ (bigSep Finset.univ fun r : Fin 3 => bigSep Finset.univ fun s => dutyTok ER (cell s (.dma (rsS c))) r c)
        ∗ (bigSep Finset.univ fun r : Fin 3 => bigSep Finset.univ fun s => dutyTok ER (cell c (.dma (rsendS s))) r s)
        ∗ (bigSep Finset.univ fun r : Fin 2 => bigSep Finset.univ fun s => dutyTok ER (cell s (.dma (agS c))) r c)
        ∗ (bigSep Finset.univ fun r : Fin 2 => bigSep Finset.univ fun s => dutyTok ER (cell c (.dma (asendS s))) r s)
        ∗ bigSep Finset.univ fun j => dutyTok ER (cell c (.dma (ldS j))) 0 0) := by
    rw [bigSep_univ_sum, bigSep_univ_sum, bigSep_univ_sum, bigSep_univ_sum, bigSep_univ_sum,
      bigSep_univ_prod, bigSep_univ_prod, bigSep_univ_prod, bigSep_univ_prod, bigSep_univ_prod]
    rfl
  rw [e, three, three, three, two, two]
  unfold Toks BarTok RsTok AgTok
  iintro ⟨⟨a0, a1, a2⟩, ⟨b0, b1, b2⟩, ⟨d0, d1, d2⟩, ⟨e0, e1⟩, ⟨f0, f1⟩, hl⟩
  isplitl [a0]; · iapply (drop_own (c := c)); iexact a0
  isplitl [a1]; · iapply (drop_own (c := c)); iexact a1
  isplitl [a2]; · iapply (drop_own (c := c)); iexact a2
  isplitl [b0 d0]
  · iapply (pair_up (c := c))
    isplitl [b0]; · iexact b0
    iexact d0
  isplitl [b1 d1]
  · iapply (pair_up (c := c))
    isplitl [b1]; · iexact b1
    iexact d1
  isplitl [b2 d2]
  · iapply (pair_up (c := c))
    isplitl [b2]; · iexact b2
    iexact d2
  isplitl [e0 f0]
  · iapply (pair_up (c := c))
    isplitl [e0]; · iexact e0
    iexact f0
  isplitl [e1 f1]
  · iapply (pair_up (c := c))
    isplitl [e1]; · iexact e1
    iexact f1
  iexact hl

/-- The launch element pays for it all. -/
theorem fund (m : (ℓ : Loc nD τ sig) → Buf (Elt F) ℓ) : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun sm : SemLoc sig => Φ (cell c sm) := by
    unfold allCells; rw [bigSep_map, bigSep_univ_prod]; rfl
  have hT : bigSep allToks (fun x => (dutyTok ER x.1 x.2.1 x.2.2 : sProp 𝕄)) ⊢ bigSep Finset.univ fun c : Dev nD => Toks c := by
    unfold allToks; rw [bigSep_map, bigSep_univ_prod]
    exact bigSep_mono fun c _ => toks_deal c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G Places; simp only [bigSep_sep']
  isplitl [Hst']; · iexact Hst'
  isplitl [Hr']; · iexact Hr'
  isplitl [Hat']; · iexact Hat'
  iexact Htok'

/-- A device's invariants. -/
theorem invs_alloc (m : (ℓ : Loc nD τ sig) → Buf (Elt F) ℓ) (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (Rd m) κ (cell c sm)))
          ∗ (bigSep Finset.univ fun sm : SemLoc sig => reached ER (cell c sm) 0) ∗ Places c ∗ Toks c) := by
  have h : iprop((bigSep Finset.univ fun sm : SemLoc sig => semVal (cell c sm) 0) ∗ bigSep Finset.univ fun sm : SemLoc sig => roundState ER (Rd m) (cell c sm) 0)
      ⊢ (|={Set.univ}=> bigSep Finset.univ fun sm : SemLoc sig => iprop(∃ κ : ℕ, cellInv ER (Rd m) κ (cell c sm)) : sProp 𝕄) := by
    rw [← bigSep_sep']
    exact BIBase.Entails.trans (bigSep_mono fun sm _ => BIBase.Entails.trans (Rounds.body_intro ER (Rd m) (cell c sm)) inv_alloc) (bigSep_fupd _ _)
  have hv := Entails.of_eq (launch_sems (F := F) c)
  unfold G
  iintro ⟨Hos, Hus, Hst, Hr, Hat, Htok⟩
  ihave Hv := hv $$ [Hos Hus]
  · isplitl [Hos]; · iexact Hos
    iexact Hus
  imod h $$ [Hv Hst] with Hinv
  · isplitl [Hv]; · iexact Hv
    iexact Hst
  imodintro
  isplitl [Hinv]; · iexact Hinv
  isplitl [Hr]; · iexact Hr
  isplitl [Hat]; · iexact Hat
  iexact Htok

/-- Every device knows everyone's invariants. -/
theorem invs_all (m : (ℓ : Loc nD τ sig) → Buf (Elt F) ℓ) :
    (bigSep Finset.univ fun c : Dev nD => iprop((bigSep Finset.univ fun sm : SemLoc sig => iprop(∃ κ : ℕ, cellInv ER (Rd m) κ (cell c sm)))
          ∗ (bigSep Finset.univ fun sm : SemLoc sig => reached ER (cell c sm) 0) ∗ Places c ∗ Toks c) : sProp 𝕄)
      ⊢ bigSep Finset.univ (G' m) := by
  have hd (K : Dev nD × SemLoc sig → ℕ) : iprop((Invs m K ∗ Reach0) ∗ bigSep Finset.univ fun c : Dev nD => iprop(Places c ∗ Toks c))
      ⊢ (bigSep Finset.univ (G' m) : sProp 𝕄) := by
    have hc (c : Dev nD) : iprop((Invs m K ∗ Reach0) ∗ Places c ∗ Toks c) ⊢ (G' m c : sProp 𝕄) := by
      unfold G'
      iintro ⟨⟨H1, H2⟩, H3, H4⟩
      iexists K
      isplitl [H1]; · iexact H1
      isplitl [H2]; · iexact H2
      isplitl [H3]; · iexact H3
      iexact H4
    refine BIBase.Entails.trans (BIClass.sep_mono (BI.bigSep_of_persistent (Finset.univ : Finset (Dev nD)) iprop(Invs m K ∗ Reach0)) BIBase.Entails.refl) ?_
    rw [← bigSep_sep']
    exact bigSep_mono fun c _ => hc c
  rw [bigSep_sep', bigSep_sep', ← bigSep_univ_prod (fun p : Dev nD × SemLoc sig => iprop(∃ κ : ℕ, cellInv ER (Rd m) κ (cell p.1 p.2))),
    ← bigSep_univ_prod (fun p : Dev nD × SemLoc sig => (reached ER (cell p.1 p.2) 0 : sProp 𝕄))]
  iintro ⟨HI, HR, Hp⟩
  ihave HK := (BI.bigSep_exists_pi Finset.univ (fun (p : Dev nD × SemLoc sig) (κ : ℕ) => (cellInv ER (Rd m) κ (cell p.1 p.2) : sProp 𝕄))) $$ HI
  icases HK with ⟨%K, HI⟩
  iapply (hd K)
  isplitl [HI HR]
  · isplitl [HI]; · unfold Invs; iexact HI
    unfold Reach0; iexact HR
  iexact Hp

/-- The launch's step over all devices at once. -/
theorem glob (m : (ℓ : Loc nD τ sig) → Buf (Elt F) ℓ) :
    (bigSep Finset.univ fun c => iprop(Pipeline.ownSems0 (Ix := ℕ) (Name := ℕ) (U := UU) (Lvl := ℕ) (Val := Elt F) (τ := τ) osem c ∗ unscopedSems0 c ∗ G m c) : sProp 𝕄)
      ⊢ |={Set.univ}=> bigSep Finset.univ (G' m) :=
  BIBase.Entails.trans (BIBase.Entails.trans (bigSep_mono fun c _ => invs_alloc m c) (bigSep_fupd _ _)) (BI.fupd_mono (invs_all m))

end Cert.MlpIdeal
-- ==== Proof.Ideal.Launch.lean ====
/-
# The run of the whole program
-/
module

public import proofs.«01_k».proof.Proof.Ideal.Credit
public import proofs.«01_k».proof.Proof.Ideal.Fund
public import Idealize.ShloMosaic.Lib.Pipeline.Launch
public import Idealize.ShloMosaic.Lib.Pipeline.CollectiveSegs

@[expose] public section

set_option maxRecDepth 20000

noncomputable section

namespace Cert.MlpIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable {m : (ℓ : Loc nD τ sig) → Buf (Elt F) ℓ} {K : Dev nD × SemLoc sig → ℕ} {c : Dev nD} {α : Type}
  {k : Prog (TpuEff nD τ sig (Elt F) Λ₀ .tc) α} {Q : α → sProp (MT nD τ sig ℕ (Elt F) ℕ UU ℕ)}
  {R : sProp (MT nD τ sig ℕ (Elt F) ℕ UU ℕ)}

/-! ## Whole buffers -/

theorem arg_whole (m : (ℓ : Loc nD τ sig) → Buf (Elt F) ℓ) (b : Ref sig .tc) (c : Dev nD) :
    argAt m b c = (((c : Thread nD τ).loc b) ↦{fullShare} m ((c : Thread nD τ).loc b) : sProp 𝕄) := by
  unfold argAt
  simp only [Memref.view_whole, View.set_whole]
theorem any_whole (b : Ref sig .tc) (c : Dev nD) :
    anyAt (Memref.whole b) c = (iprop(∃ f : Buf (Elt F) ((c : Thread nD τ).loc b), ((c : Thread nD τ).loc b) ↦{fullShare} f) : sProp 𝕄) := by
  unfold anyAt
  simp only [Memref.view_whole, View.set_whole]
theorem holds_whole (c : Dev nD) (v : Vec F S16x256 .f32) :
    holds vM c v ⊢ (((c : Thread nD τ).loc main_v1) ↦{fullShare} v : sProp 𝕄) := by
  unfold holds
  simp only [Memref.view_whole, View.set_whole]
  iintro ⟨%f, H, %h⟩
  have h : f = v := h
  subst h
  iexact H

/-- A buffer's contents in the final memory. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := ℕ) (Name := ℕ) (U := UU) (Lvl := ℕ) ({()} : Finset Unit) (fun _ => ℓ) (fun _ => f) s'
  rw [bigSep_singleton] at h
  refine BIBase.Entails.trans h ?_
  iintro ⟨%h, H⟩
  isplitr
  · ipureintro; exact h () (Finset.mem_singleton_self _)
  iexact H

/-! ## The proof data -/

/-- What a device starts from. -/
def start (m : (ℓ : Loc nD τ sig) → Buf (Elt F) ℓ) (c : Dev nD) : sProp 𝕄 :=
  iprop(∃ K, Ctx m K ∗ Reach0 ∗ Places c ∗ Toks c ∗ Creds c ∗ Args m c ∗ anyAt vM c)
/-- What it leaves. -/
def leave (m : (ℓ : Loc nD τ sig) → Buf (Elt F) ℓ) (c : Dev nD) : sProp 𝕄 :=
  iprop(unscopedSems0 c ∗ Args m c ∗ holds vM c (outv m c))

def Φ₀ (m : (ℓ : Loc nD τ sig) → Buf (Elt F) ℓ) (c : Dev nD) : sProp 𝕄 := iprop(start m c ∗ Scratch c)

def dats (m : (ℓ : Loc nD τ sig) → Buf (Elt F) ℓ) (_ : Fin 1) (c : Dev nD) : Dat τ (Elt F) ℕ ℕ UU ℕ cfg0 c where
  A w := m ((cfg0.win w).arr.view.loc (c : Thread nD τ))
  after w _ := w.elim0
  Φ t := match t with
    | ⟨0, _⟩ => Φ₀ m c
    | ⟨_ + 1, _⟩ => Done m c
  q _ := fullShare
  owed t := match t with
    | ⟨0, _⟩ => O c 0
    | ⟨_ + 1, _⟩ => 0

theorem body_obligation (m : (ℓ : Loc nD τ sig) → Buf (Elt F) ℓ) (c : Dev nD) :
    BodyObligation (dats (F := F) m 0 c) (defs₀ (F := F)) Variants.none 0 Set.univ := fun t => by
  rw [fin_N0 t]
  have h (K : Dev nD × SemLoc sig → ℕ) := device_run (m := m) (K := K) (c := c)
  have hp : wp frame (wpE (defs₀ (F := F)) Variants.none (c : Thread nD τ) none) Set.univ (onArgs (cc0_body (F := F))) (fun _ => iprop(Ow c 128 ∗ Done m c))
      ⊢ wp frame (wpE (defs₀ (F := F)) Variants.none (c : Thread nD τ) none) Set.univ (onArgs (cc0_body (F := F))) (fun _ => iprop(Done m c ∗ (dats (F := F) m 0 c).owesAt 0 t0_0.succ ∗ bigSep Finset.univ fun w : Fin 0 => (w.elim0 : sProp 𝕄))) := by
    refine wp_mono _ _ _ fun v => ?_
    rw [show (Finset.univ : Finset (Fin 0)) = ∅ from rfl, bigSep_empty]
    unfold Ow Dat.owesAt Pipeline.owesWithin
    rw [O_end]
    iintro ⟨⟨%W, HO⟩, HD⟩
    isplitl [HD]; · iexact HD
    isplitl [HO]
    · iexists W
      isplitr
      · ipureintro; exact fun _ _ => Or.inl trivial
      iexact HO
    iempintro
  refine BIBase.Entails.trans ?_ (BIBase.Entails.trans hp (wp_mono _ _ _ fun v => ?_))
  · show iprop(Φ₀ m c ∗ (dats (F := F) m 0 c).owesAt 0 t0_0.castSucc ∗ _) ⊢ _
    unfold Φ₀ start Dat.owesAt Pipeline.owesWithin
    iintro ⟨⟨⟨%K, HC, H0, HP, HT, HR, HA, HV⟩, HS⟩, ⟨%W, %hW, HO⟩, -⟩
    iapply (h K)
    isplitl [HC]; · iexact HC
    isplitl [HO]; · unfold Ow; iexists W; iexact HO
    isplitl [H0]; · iexact H0
    isplitl [HP]; · iexact HP
    isplitl [HT]; · iexact HT
    isplitl [HR]; · iexact HR
    isplitl [HA]; · iexact HA
    isplitl [HV]; · iexact HV
    iexact HS
  · show iprop(Done m c ∗ _ ∗ _) ⊢ iprop(Done m c ∗ _ ∗ _)
    rw [show (Finset.univ : Finset (Fin 0)) = ∅ from rfl, bigSep_empty]
    iintro ⟨H1, H2, -⟩
    isplitl [H1]; · iexact H1
    isplitl [H2]; · iexact H2
    iempintro

/-! ## The theorem's side conditions -/

theorem ownSemFacts : Pipeline.OwnSemFacts cfg0.spec osem := by decide +kernel

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp : sProp 𝕄) := by
  have hv : (((c : Thread nD τ).loc main_v1) ↦{fullShare} m ((c : Thread nD τ).loc main_v1)) ⊢ (anyAt vM c : sProp 𝕄) := by
    rw [any_whole]
    iintro H
    iexists m ((c : Thread nD τ).loc main_v1)
    iexact H
  rw [Pipeline.unscopedRestP_none, unscopedRest0_eq]
  unfold G' start Args
  rw [arg_whole, arg_whole, arg_whole, arg_whole, arg_whole, arg_whole, arg_whole]
  iintro ⟨⟨a0, a1, a2, a3, a4, a5, a6, v1⟩, Hlev, Hcr, -, ⟨%K, HI, H0, HP, HT⟩⟩
  ihave Hc := (creds (F := F) c) $$ Hcr
  imodintro
  isplitl
  · iexists K
    isplitl [HI Hlev]
    · unfold Ctx
      isplitl [HI]; · unfold Invs; iexact HI
      iexact Hlev
    isplitl [H0]; · iexact H0
    isplitl [HP]; · iexact HP
    isplitl [HT]; · iexact HT
    isplitl [Hc]; · iexact Hc
    isplitl [a0 a1 a2 a3 a4 a5 a6]
    · isplitl [a0]; · iexact a0
      isplitl [a1]; · iexact a1
      isplitl [a2]; · iexact a2
      isplitl [a3]; · iexact a3
      isplitl [a4]; · iexact a4
      isplitl [a5]; · iexact a5
      iexact a6
    iapply hv
    iexact v1
  · iempintro

theorem scratch_eq (c : Dev nD) : (Pipeline.scopedRest cfg0.spec c : sProp 𝕄) = Scratch c := by
  rw [scopedRest0_eq]
  unfold Scratch
  rw [any_whole, any_whole, any_whole, any_whole, any_whole, any_whole, any_whole, any_whole]

theorem phi_in (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨H1, -, H2⟩
  isplitl [H1]; · iexact H1
  iexact H2

theorem phi_out (m : (ℓ : Loc nD τ sig) → Buf (Elt F) ℓ) (c : Dev nD) :
    (dats m 0 c).Φ (Fin.last cfg0.N) ⊢ iprop(leave m c ∗ Pipeline.ownSems0 osem c ∗ Pipeline.scopedRest cfg0.spec c) := by
  rw [show (dats m 0 c).Φ (Fin.last cfg0.N) = Done m c from rfl, scratch_eq]
  unfold Done leave
  rw [← launch_sems]
  iintro ⟨⟨Ho, Hu⟩, HA, HV, HS⟩
  isplitl [Hu HA HV]
  · isplitl [Hu]; · iexact Hu
    isplitl [HA]; · iexact HA
    iexact HV
  isplitl [Ho]; · iexact Ho
  iexact HS

/-- What is known of device `c` in the final state. -/
def QY (m : (ℓ : Loc nD τ sig) → Buf (Elt F) ℓ) (c : Dev nD) (s : MemSt nD τ sig (Elt F)) : Prop :=
  (∀ sm : SemLoc sig, sm.isScoped .tc = false → s.sem ((c.tc : Thread nD τ), sm) = 0)
    ∧ (∀ b ∈ ([main_arg0, main_arg1, main_arg2, main_arg3, main_arg4, main_arg5, main_arg6] : List (Ref sig .tc)),
        s.mem ((c : Thread nD τ).loc b) = m ((c : Thread nD τ).loc b))
    ∧ s.mem ((c : Thread nD τ).loc main_v1) = outv m c

theorem read_all (m : (ℓ : Loc nD τ sig) → Buf (Elt F) ℓ) (c : Dev nD) (s' : Phys nD τ sig (Elt F)) :
    iprop(leave m c ∗ emp ∗ SI s') ⊢ |={Set.univ}=> iprop(⌜QY m c s'.mem⌝ ∗ SI s' : sProp 𝕄) := by
  unfold leave Args
  rw [arg_whole, arg_whole, arg_whole, arg_whole, arg_whole, arg_whole, arg_whole]
  iintro ⟨⟨Hu, ⟨a0, a1, a2, a3, a4, a5, a6⟩, HV⟩, -, HSI⟩
  ihave HV := (holds_whole c (outv m c)) $$ HV
  ihave H := (read_one _ _ s') $$ [a0 HSI]
  · isplitl [a0]; · iexact a0
    iexact HSI
  icases H with ⟨%h0, HSI⟩
  ihave H := (read_one _ _ s') $$ [a1 HSI]
  · isplitl [a1]; · iexact a1
    iexact HSI
  icases H with ⟨%h1, HSI⟩
  ihave H := (read_one _ _ s') $$ [a2 HSI]
  · isplitl [a2]; · iexact a2
    iexact HSI
  icases H with ⟨%h2, HSI⟩
  ihave H := (read_one _ _ s') $$ [a3 HSI]
  · isplitl [a3]; · iexact a3
    iexact HSI
  icases H with ⟨%h3, HSI⟩
  ihave H := (read_one _ _ s') $$ [a4 HSI]
  · isplitl [a4]; · iexact a4
    iexact HSI
  icases H with ⟨%h4, HSI⟩
  ihave H := (read_one _ _ s') $$ [a5 HSI]
  · isplitl [a5]; · iexact a5
    iexact HSI
  icases H with ⟨%h5, HSI⟩
  ihave H := (read_one _ _ s') $$ [a6 HSI]
  · isplitl [a6]; · iexact a6
    iexact HSI
  icases H with ⟨%h6, HSI⟩
  ihave H := (read_one _ _ s') $$ [HV HSI]
  · isplitl [HV]; · iexact HV
    iexact HSI
  icases H with ⟨%h7, HSI⟩
  imod (Pipeline.unscopedSems0_read (X := unscopedSems0 c) (c := c) fupd_intro s') $$ [Hu HSI] with ⟨%hs, HSI⟩
  · isplitl [Hu]; · iexact Hu
    iexact HSI
  imodintro
  isplitr
  · ipureintro
    refine ⟨hs, ?_, h7⟩
    simp only [List.forall_mem_cons]
    exact ⟨h0, h1, h2, h3, h4, h5, h6, List.forall_mem_nil _⟩
  iexact HSI

/-- Every run from memory `m` ends, with device `c`'s result `outv m c`, the arguments unchanged and every semaphore at zero. -/
theorem run_main (m : (ℓ : Loc nD τ sig) → Buf (Elt F) ℓ) (ρ : Dev nD → PrngReg) :
    θ_run defs (onTc (τ := τ) (main (F := F))) ⟨m, fun _ => 0, ρ⟩ (fun r => (∀ c, QY m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ Variants.none m ρ main
    (hmain := fun _ => rfl)
    (hbody := body_obligation m) (hne := fun w => w.elim0) (harr := arr_whole0) (hstage := stage_whole0) (hshare := fun _ w => w.elim0)
    (hdistinct := winFacts0.arr_inj)
    (O₀ := fun c => O c 0) (howed₀ := fun _ => rfl) (howedN := fun _ => rfl)
    (L := L) (lv := lv) (hL := L_of_ne) (hwaits := fun c => Pipeline.cellsWaits_intro cfgs (dats m) 0 0 c fun w s t => w.elim0)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start m) (Y := leave m) (Z := fun _ => iprop(emp))
    (hX := start_intro m ρ) (hin := phi_in m) (hout := phi_out m)
    (QY := QY m)
    (hY := read_all m)
    (hQ := fun _ h hs => ⟨fun c => (h c).2.2, sem_eq_zero hs fun c => (h c).2.2.1⟩)

end Cert.MlpIdeal
-- ==== Proof.Ideal.Sums.lean ====
/-
# The arithmetic of a step, over the extended reals

The roundings are identities there, so a row of a layer's result is a sum over the layer's hidden units (`rowOut`), for
the matrices that a device holds as for the whole ones, and the sixteen blocks that a device adds are a sum over the devices.
-/
module

public import proofs.«01_k».proof.Proof.Ideal.Contents
public import Idealize.ShloMosaic.Lib.StackMember
public import Idealize.ShloMosaic.Lib.MatmulPlain

@[expose] public section

set_option maxRecDepth 20000

noncomputable section

namespace Cert.MlpIdeal

open Cert.KernelIdeal Cert.KernelIdeal.Gen
open Idealize.ShloMosaic Idealize.ShloMosaic.ValueIdx

/-- Column `j` of what a layer with `K` hidden units makes of the row `x`. -/
def rowOut {K : ℕ} (x : Fin 256 → EReal) (wi : Fin 256 → Fin K → EReal) (wo : Fin K → Fin 256 → EReal) (j : Fin 256) : EReal :=
  ∑ h, max (∑ d, x d * wi d h) 0 * wo h j

/-- The kernel's two products with the rectifier between them. -/
theorem mlp_at {M K : ℕ} (x : FVec Ideal ⟨2, ![M, 256]⟩ .bf16) (wi : FVec Ideal ⟨2, ![256, K]⟩ .bf16)
    (wo : FVec Ideal ⟨2, ![K, 256]⟩ .bf16) (r : Fin M) (j : Fin 256) :
    matmul (DotDims.plain M K 256) none
        (truncf .bf16
          (maximumf (matmul (DotDims.plain M 256 K) none x wi (constant ⟨2, ![M, K]⟩ .f32 0x00000000#32))
            (broadcast ⟨2, ![M, K]⟩ (Scalar.ofBits .f32 0x00000000#32)))
          bitsLt_bf16_f32)
        wo (constant ⟨2, ![M, 256]⟩ .f32 0x00000000#32) (ix2 r j)
      = rowOut (fun d => x (ix2 r d)) (fun d h => wi (ix2 d h)) (fun h i => wo (ix2 h i)) j := by
  unfold matmul
  rw [Ideal.matmul_plain_apply, constant_apply, Ideal.ofBits_zero_f32, zero_add]
  refine Finset.sum_congr rfl fun h _ => congrArg (· * wo (ix2 h j)) ?_
  rw [truncf_apply, maximumf_apply, Ideal.matmul_plain_apply, constant_apply, Ideal.ofBits_zero_f32, zero_add, broadcast_apply]
  exact congrArg (max _) Ideal.ofBits_zero_f32

/-- The reference's. -/
theorem host_at {M K : ℕ} (x : FVec Ideal ⟨2, ![M, 256]⟩ .f32) (wi : FVec Ideal ⟨2, ![256, K]⟩ .f32)
    (wo : FVec Ideal ⟨2, ![K, 256]⟩ .f32) (z : FVec Ideal ⟨2, ![M, K]⟩ .f32) (hz : ∀ i, z i = (0 : EReal))
    (r : Fin M) (j : Fin 256) :
    Host.dotGeneral (DotDims.plain M K 256) none (maximumf (Host.dotGeneral (DotDims.plain M 256 K) none x wi) z) wo (ix2 r j)
      = rowOut (fun d => x (ix2 r d)) (fun d h => wi (ix2 d h)) (fun h i => wo (ix2 h i)) j := by
  rw [StackMember.dotGeneral_plain_apply]
  refine Finset.sum_congr rfl fun h _ => congrArg (· * wo (ix2 h j)) ?_
  rw [maximumf_apply, StackMember.dotGeneral_plain_apply, hz]

/-- A block of rows, element by element. -/
theorem rows64_at (q : Fin 4) (v : S64x256.Idx → EReal) (r : Fin 16) (j : Fin 256) :
    rows64 q v (ix2 r j) = v (ix2 ⟨16 * q.val + r.val, by omega⟩ j) := by
  refine congrArg v ?_
  funext a
  apply Fin.ext
  refine (ValueKit.rect_emb_unit_val (s := S64x256) ![16 * q.val, 0] S16x256.size (inbRow q) (ix2 r j) a).trans ?_
  fin_cases a
  · rfl
  · show 0 + j.val = j.val; omega
theorem rows256_at (b : Fin 16) (v : S256x256.Idx → EReal) (r : Fin 16) (j : Fin 256) :
    rows256 b v (ix2 r j) = v (ix2 ⟨16 * b.val + r.val, by omega⟩ j) := by
  refine congrArg v ?_
  funext a
  apply Fin.ext
  refine (ValueKit.rect_emb_unit_val (s := S256x256) ![16 * b.val, 0] S16x256.size (inbBlk b) (ix2 r j) a).trans ?_
  fin_cases a
  · rfl
  · show 0 + j.val = j.val; omega

theorem dn_of_up (v : Vec Ideal S16x256 .bf16) : dn (up v) = v := shapeCast_shapeCast _ _ _

/-- Sixteen blocks added. -/
theorem sum16_at (f : Fin 16 → Vec Ideal S16x256 .bf16) (i : S16x256.Idx) :
    sum16 (fun s => up (f s)) i = ∑ s, (f s i : EReal) := by
  have hw : ∀ s, wide (up (f s)) i = f s i := fun s => congrFun (dn_of_up (f s)) i
  simp only [Fin.sum_univ_castSucc, Fin.sum_univ_zero, zero_add]
  simp only [sum16, addf_apply, hw]
  rfl

/-- The first layer's partial result. -/
theorem part0_at (m : (ℓ : Loc nD τ sig) → Buf (Elt Ideal) ℓ) (s : Dev nD) (r j : Fin 256) :
    part0 m s (ix2 r j) = rowOut (fun d => xin m s (ix2 r d)) (fun d h => win0 m s (ix2 d h)) (fun h i => wout0 m s (ix2 h i)) j := by
  have e : part0 m s = truncf .bf16 (matmul (DotDims.plain 256 512 256) none
        (truncf .bf16
          (maximumf (matmul (DotDims.plain 256 256 512) none (truncf .bf16 (xin m s) bitsLt_bf16_f32)
              (truncf .bf16 (win0 m s) bitsLt_bf16_f32) (constant ⟨2, ![256, 512]⟩ .f32 0x00000000#32))
            (broadcast ⟨2, ![256, 512]⟩ (Scalar.ofBits .f32 0x00000000#32)))
          bitsLt_bf16_f32)
        (truncf .bf16 (wout0 m s) bitsLt_bf16_f32) (constant ⟨2, ![256, 256]⟩ .f32 0x00000000#32)) bitsLt_bf16_f32 := by
    unfold part0 k0_pay1 upi upo
    simp only [shapeCast_self, shapeCast_shapeCast]
    rfl
  rw [e, truncf_apply, mlp_at]
  rfl

/-- Four blocks of sixteen rows on top of each other. -/
theorem four_at (a : Fin 4 → FVec Ideal S16x256 .bf16) (q : Fin 4) (r : Fin 16) (j : Fin 256) :
    concatenate S64x256 0 [⟨S16x256, a 0⟩, ⟨S16x256, a 1⟩, ⟨S16x256, a 2⟩, ⟨S16x256, a 3⟩]
        concatenates_S16x256_S16x256_S16x256_S16x256_S64x256_d0 (ix2 ⟨16 * q.val + r.val, by omega⟩ j)
      = a q (ix2 r j) :=
  concatenate_ofFn_apply (t := S64x256) (s₁ := S16x256) 0 a concatenates_S16x256_S16x256_S16x256_S16x256_S64x256_d0 rfl 16 rfl
    _ q (by show (16 * q.val + r.val) / 16 = q.val; omega) _ (by show r.val = (16 * q.val + r.val) % 16; omega)
    (fun b hb => by
      fin_cases b
      · exact absurd rfl hb
      · rfl)

/-- A later layer's partial result on four blocks. -/
theorem mlp64_at (wi : Vec Ideal S256x512 .f32) (wo : Vec Ideal S512x256 .f32) (a : Fin 4 → FVec Ideal S16x256 .bf16)
    (q : Fin 4) (r : Fin 16) (j : Fin 256) :
    rows64 q (mlp64 (nwi (upi wi)) (nwo (upo wo)) (up (a 0)) (up (a 1)) (up (a 2)) (up (a 3))) (ix2 r j)
      = rowOut (fun d => a q (ix2 r d)) (fun d h => wi (ix2 d h)) (fun h i => wo (ix2 h i)) j := by
  have e : mlp64 (nwi (upi wi)) (nwo (upo wo)) (up (a 0)) (up (a 1)) (up (a 2)) (up (a 3))
      = truncf .bf16 (matmul (DotDims.plain 64 512 256) none
        (truncf .bf16
          (maximumf (matmul (DotDims.plain 64 256 512) none
              (concatenate S64x256 0 [⟨S16x256, a 0⟩, ⟨S16x256, a 1⟩, ⟨S16x256, a 2⟩, ⟨S16x256, a 3⟩]
                concatenates_S16x256_S16x256_S16x256_S16x256_S64x256_d0)
              (truncf .bf16 wi bitsLt_bf16_f32) (constant ⟨2, ![64, 512]⟩ .f32 0x00000000#32))
            (broadcast ⟨2, ![64, 512]⟩ (Scalar.ofBits .f32 0x00000000#32)))
          bitsLt_bf16_f32)
        (truncf .bf16 wo bitsLt_bf16_f32) (constant ⟨2, ![64, 256]⟩ .f32 0x00000000#32)) bitsLt_bf16_f32 := by
    have hi : nwi (upi wi) = truncf .bf16 wi bitsLt_bf16_f32 := by
      unfold nwi upi; rw [shapeCast_shapeCast]
    have ho : nwo (upo wo) = truncf .bf16 wo bitsLt_bf16_f32 := by
      unfold nwo upo; rw [shapeCast_shapeCast]
    have h1 : dot_S64x256_S256x512_S64x512_1_0_0_1_n_n = DotDims.plain 64 256 512 := rfl
    have h2 : dot_S64x512_S512x256_S64x256_1_0_0_1_n_n = DotDims.plain 64 512 256 := rfl
    rw [hi, ho]
    unfold mlp64
    rw [shapeCast_self, dn_of_up, dn_of_up, dn_of_up, dn_of_up, h1, h2]
  rw [e, rows64_at, truncf_apply, mlp_at]
  simp only [four_at]
  rfl

end Cert.MlpIdeal
-- ==== Proof.Ideal.Layers.lean ====
/-
# The layers

When every device holds the whole input and its own blocks of the weights, the sums that the devices exchange are rows of
the layers on whole matrices: after the first layer device `c` holds rows `16 c …`, after the second those of its antipode,
after the third its own again, which is the result.
-/
module

public import proofs.«01_k».proof.Proof.Ideal.Sums

@[expose] public section

set_option maxRecDepth 20000

noncomputable section

namespace Cert.MlpIdeal

open Cert.KernelIdeal Cert.KernelIdeal.Gen
open Idealize.ShloMosaic Idealize.ShloMosaic.ValueIdx

/-- The whole matrices: the input, and a layer's weights. -/
abbrev WX : Type := FVec Ideal ⟨2, ![256, 256]⟩ .f32
abbrev WI : Type := FVec Ideal ⟨2, ![256, 8192]⟩ .f32
abbrev WO : Type := FVec Ideal ⟨2, ![8192, 256]⟩ .f32

/-- A layer on whole matrices. -/
def layer (x : WX) (wi : WI) (wo : WO) : WX := fun i =>
  rowOut (fun d => x (ix2 (i 0) d)) (fun d h => wi (ix2 d h)) (fun h j => wo (ix2 h j)) (i 1)

/-- Row `r` of block `c`. -/
def rowOf (c r : Fin 16) : Fin 256 := ⟨16 * c.val + r.val, by omega⟩

/-- Sixteen devices' partial results of a row, each with its block of the hidden units, are together the layer's row. -/
theorem sum_blocks (wi : WI) (wo : WO) (bi : Fin 16 → Vec Ideal S256x512 .f32) (bo : Fin 16 → Vec Ideal S512x256 .f32)
    (hi : ∀ s, bi s = Layout.block ⟨2, ![256, 512]⟩ ⟨2, ![256, 8192]⟩ 1 16 s wi)
    (ho : ∀ s, bo s = Layout.block ⟨2, ![512, 256]⟩ ⟨2, ![8192, 256]⟩ 0 16 s wo) (x : Fin 256 → EReal) (j : Fin 256) :
    ∑ s, rowOut x (fun d h => bi s (ix2 d h)) (fun h i => bo s (ix2 h i)) j
      = rowOut x (fun d h => wi (ix2 d h)) (fun h i => wo (ix2 h i)) j := by
  unfold rowOut
  refine Eq.trans ?_ (Equiv.sum_comp (finProdFinEquiv : Fin 16 × Fin 512 ≃ Fin 8192) _)
  rw [Fintype.sum_prod_type]
  refine Finset.sum_congr rfl fun s _ => Finset.sum_congr rfl fun h _ => ?_
  have hv : ((finProdFinEquiv : Fin 16 × Fin 512 ≃ Fin 8192) (s, h)).val = s.val * 512 + h.val := by
    show h.val + 512 * s.val = _; omega
  have ei : ∀ d : Fin 256, bi s (ix2 d h) = wi (ix2 d ((finProdFinEquiv : Fin 16 × Fin 512 ≃ Fin 8192) (s, h))) := fun d => by
    rw [hi s]
    refine congrArg wi ?_
    funext a
    apply Fin.ext
    fin_cases a
    · rfl
    · exact hv.symm
  have eo : bo s (ix2 h j) = wo (ix2 ((finProdFinEquiv : Fin 16 × Fin 512 ≃ Fin 8192) (s, h)) j) := by
    rw [ho s]
    refine congrArg wo ?_
    funext a
    apply Fin.ext
    fin_cases a
    · exact hv.symm
    · rfl
  exact congrArg₂ (· * ·) (congrArg (max · 0) (Finset.sum_congr rfl fun d _ => congrArg (x d * ·) (ei d))) eo

section

variable (m : (ℓ : Loc nD τ sig) → Buf (Elt Ideal) ℓ) (x : WX) (wi0 wi1 wi2 : WI) (wo0 wo1 wo2 : WO)

/-- What the devices hold at launch. -/
structure Placed : Prop where
  hx : ∀ c, xin m c = x
  hi0 : ∀ c, win0 m c = Layout.block ⟨2, ![256, 512]⟩ ⟨2, ![256, 8192]⟩ 1 16 c wi0
  hi1 : ∀ c, win1 m c = Layout.block ⟨2, ![256, 512]⟩ ⟨2, ![256, 8192]⟩ 1 16 c wi1
  hi2 : ∀ c, win2 m c = Layout.block ⟨2, ![256, 512]⟩ ⟨2, ![256, 8192]⟩ 1 16 c wi2
  ho0 : ∀ c, wout0 m c = Layout.block ⟨2, ![512, 256]⟩ ⟨2, ![8192, 256]⟩ 0 16 c wo0
  ho1 : ∀ c, wout1 m c = Layout.block ⟨2, ![512, 256]⟩ ⟨2, ![8192, 256]⟩ 0 16 c wo1
  ho2 : ∀ c, wout2 m c = Layout.block ⟨2, ![512, 256]⟩ ⟨2, ![8192, 256]⟩ 0 16 c wo2

variable {m x wi0 wi1 wi2 wo0 wo1 wo2}

theorem narrow_eq (v : FVec Ideal S16x256 .f32) (i : S16x256.Idx) : narrow v i = v i := by
  unfold narrow
  rw [shapeCast_self]
  rfl

/-- After the first layer: block `c` of its result. -/
theorem rvec0_at (h : Placed m x wi0 wi1 wi2 wo0 wo1 wo2) (c r : Fin 16) (j : Fin 256) :
    rvec0 m c (ix2 r j) = layer x wi0 wo0 (ix2 (rowOf c r) j) := by
  unfold rvec0 total0 blk0
  rw [narrow_eq, sum16_at]
  refine Eq.trans (Finset.sum_congr rfl fun s _ => ?_)
    (sum_blocks wi0 wo0 (win0 m) (wout0 m) h.hi0 h.ho0 (fun d => x (ix2 (rowOf c r) d)) j)
  rw [rows256_at, part0_at, h.hx]
  rfl

/-- After the second: block `ap c`. -/
theorem rvec1_at (h : Placed m x wi0 wi1 wi2 wo0 wo1 wo2) (c r : Fin 16) (j : Fin 256) :
    rvec1 m c (ix2 r j) = layer (layer x wi0 wo0) wi1 wo1 (ix2 (rowOf (ap c) r) j) := by
  unfold rvec1 total1 blk1 grp1
  rw [narrow_eq, sum16_at]
  refine Eq.trans (Finset.sum_congr rfl fun s _ => ?_)
    (sum_blocks wi1 wo1 (win1 m) (wout1 m) h.hi1 h.ho1 (fun d => layer x wi0 wo0 (ix2 (rowOf (ap c) r) d)) j)
  refine (mlp64_at (win1 m s) (wout1 m s) (fun q => rvec0 m (gj (gOf (ap c)) q)) (jOf (ap c)) r j).trans ?_
  simp only [gj_of, rvec0_at h]

/-- After the third: block `c`. -/
theorem total2_at (h : Placed m x wi0 wi1 wi2 wo0 wo1 wo2) (c r : Fin 16) (j : Fin 256) :
    total2 m c (ix2 r j) = layer (layer (layer x wi0 wo0) wi1 wo1) wi2 wo2 (ix2 (rowOf c r) j) := by
  unfold total2 blk2 grp2
  rw [sum16_at]
  refine Eq.trans (Finset.sum_congr rfl fun s _ => ?_)
    (sum_blocks wi2 wo2 (win2 m) (wout2 m) h.hi2 h.ho2 (fun d => layer (layer x wi0 wo0) wi1 wo1 (ix2 (rowOf c r) d)) j)
  refine (mlp64_at (win2 m s) (wout2 m s) (fun q => rvec1 m (ap (gj (gOf c) q))) (jOf c) r j).trans ?_
  simp only [gj_of, rvec1_at h, ap_ap]

/-- Device `c`'s result is its block of the three layers' result. -/
theorem outv_block (h : Placed m x wi0 wi1 wi2 wo0 wo1 wo2) (c : Fin 16) :
    outv m c = Layout.block ⟨2, ![16, 256]⟩ ⟨2, ![256, 256]⟩ 0 16 c (layer (layer (layer x wi0 wo0) wi1 wo1) wi2 wo2) := by
  funext i
  obtain ⟨r, j, rfl⟩ : ∃ (r : Fin 16) (j : Fin 256), i = ix2 r j := ⟨i 0, i 1, eq_ix2 i⟩
  unfold outv k0_pay117
  rw [shapeCast_self, total2_at h]
  refine congrArg (layer (layer (layer x wi0 wo0) wi1 wo1) wi2 wo2) ?_
  funext a
  apply Fin.ext
  fin_cases a
  · show 16 * c.val + r.val = c.val * 16 + r.val; omega
  · rfl

end

/-- The reference's three lines of a layer. -/
theorem host_layer (x : WX) (wi : WI) (wo : WO) (z : FVec Ideal ⟨2, ![256, 8192]⟩ .f32) (hz : ∀ i, z i = (0 : EReal)) :
    Host.dotGeneral (DotDims.plain 256 8192 256) none
      (maximumf (Host.dotGeneral (DotDims.plain 256 256 8192) none x wi) z) wo = layer x wi wo := by
  funext i
  obtain ⟨r, j, rfl⟩ : ∃ (r j : Fin 256), i = ix2 r j := ⟨i 0, i 1, eq_ix2 i⟩
  exact host_at x wi wo z hz r j

end Cert.MlpIdeal
-- ==== Proof.lean ====
/-
# The claims

The frames are the two launches (`run_main`) and the reference's generated run, with all but the arguments and the
semaphores forgotten. The value claim puts the launch over the extended reals beside the reference's run: both results are
the three layers on whole matrices (`layer`), the kernel's block by block.
-/
module

public import proofs.«01_k».proof.Defs
public import proofs.«01_k».proof.Proof.Gen.ReferenceIdeal.Run
public import proofs.«01_k».proof.Proof.Ideal.Launch
public import proofs.«01_k».proof.Proof.Ideal.Layers
public import proofs.«01_k».proof.Proof.Bits.Launch

@[expose] public section

noncomputable section

namespace Cert.Proof

open Idealize.ShloMosaic Idealize.SL.Sem

/-- The printed kernel terminates without fault, keeps its arguments and leaves every semaphore at zero. -/
theorem frame_p [hKernel : Cert.Kernel.Facts] : Cert.quiescent_Kernel := fun m ρ _ =>
  (θ_run Cert.Kernel.defs _ _).mono
    (fun _ h => ⟨fun c => by
      have h2 := (h.1 c).2.1
      exact ⟨h2 _ (by simp), h2 _ (by simp), h2 _ (by simp), h2 _ (by simp), h2 _ (by simp), h2 _ (by simp),
        h2 _ (by simp)⟩, h.2⟩)
    (Cert.MlpBits.run_main (F := Bits) m ρ)

/-- So does the kernel over the extended reals. -/
theorem frame_pi [hKernelIdeal : Cert.KernelIdeal.Facts] : Cert.quiescent_KernelIdeal := fun m ρ _ =>
  (θ_run Cert.KernelIdeal.defs _ _).mono
    (fun _ h => ⟨fun c => by
      have h2 := (h.1 c).2.1
      exact ⟨h2 _ (by simp), h2 _ (by simp), h2 _ (by simp), h2 _ (by simp), h2 _ (by simp), h2 _ (by simp),
        h2 _ (by simp)⟩, h.2⟩)
    (Cert.MlpIdeal.run_main (F := Ideal) m ρ)

/-- So does the reference. -/
theorem frame_r [hReferenceIdeal : Cert.ReferenceIdeal.Facts] : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- No rewrite stands between the printed kernel and its reading over the extended reals. -/
theorem preserves : Cert.preserves_Kernel_KernelIdeal := trivial

open Cert.MlpIdeal (layer host_layer outv_block) in
/-- Kernel and reference compute the same: device `c` ends with block `c` of the reference's result. -/
theorem algebraic [hKernelIdeal : Cert.KernelIdeal.Facts] [hReferenceIdeal : Cert.ReferenceIdeal.Facts] :
    Cert.algebraic_KernelIdeal_ReferenceIdeal := fun m g m' g' _ ha => by
  refine ⟨layer (layer (layer
        (m' (((0 : Dev Cert.ReferenceIdeal.nD).tc : Thread _ Cert.ReferenceIdeal.τ).loc Cert.ReferenceIdeal.main_arg0))
        (m' (((0 : Dev Cert.ReferenceIdeal.nD).tc : Thread _ Cert.ReferenceIdeal.τ).loc Cert.ReferenceIdeal.main_arg1))
        (m' (((0 : Dev Cert.ReferenceIdeal.nD).tc : Thread _ Cert.ReferenceIdeal.τ).loc Cert.ReferenceIdeal.main_arg4)))
        (m' (((0 : Dev Cert.ReferenceIdeal.nD).tc : Thread _ Cert.ReferenceIdeal.τ).loc Cert.ReferenceIdeal.main_arg2))
        (m' (((0 : Dev Cert.ReferenceIdeal.nD).tc : Thread _ Cert.ReferenceIdeal.τ).loc Cert.ReferenceIdeal.main_arg5)))
        (m' (((0 : Dev Cert.ReferenceIdeal.nD).tc : Thread _ Cert.ReferenceIdeal.τ).loc Cert.ReferenceIdeal.main_arg3))
        (m' (((0 : Dev Cert.ReferenceIdeal.nD).tc : Thread _ Cert.ReferenceIdeal.τ).loc Cert.ReferenceIdeal.main_arg6)), ?_, ?_⟩
  · refine (θ_run Cert.KernelIdeal.defs _ _).mono (fun _ h c => ?_) (Cert.MlpIdeal.run_main (F := Ideal) m g)
    have h2 := (h.1 c).2.1
    have ho := outv_block (m := m) ⟨fun c => (ha c).1, fun c => (ha c).2.1, fun c => (ha c).2.2.1, fun c => (ha c).2.2.2.1,
      fun c => (ha c).2.2.2.2.1, fun c => (ha c).2.2.2.2.2.1, fun c => (ha c).2.2.2.2.2.2⟩ c
    exact ⟨(h.1 c).2.2.trans ho, h2 _ (by simp), h2 _ (by simp), h2 _ (by simp), h2 _ (by simp), h2 _ (by simp),
      h2 _ (by simp), h2 _ (by simp)⟩
  · refine (θ_run Cert.ReferenceIdeal.defs _ _).mono (fun _ h => ⟨(h 0).1.trans ?_, (h 0).2⟩)
      (Cert.ReferenceIdeal.Value.run (F := Ideal) m' g')
    have hz : ∀ i, (broadcastInDim Cert.ReferenceIdeal.S256x8192 ![] Cert.ReferenceIdeal.Facts₀.bcast_S_S256x8192
        (constant (F := Ideal) Cert.ReferenceIdeal.S_ .f32 0x00000000#32)) i = (0 : EReal) := fun _ => Ideal.ofBits_zero_f32
    have e := fun x wi wo => host_layer x wi wo _ hz
    refine (e _ _ _).trans (congrArg (fun x => layer x _ _) ((e _ _ _).trans (congrArg (fun x => layer x _ _) (e _ _ _))))

/-- The five claims together. -/
theorem claim : Cert.Claim :=
  ⟨Cert.Kernel.Gen.facts, Cert.KernelIdeal.Gen.facts, Cert.ReferenceIdeal.Gen.facts, frame_p, frame_pi, frame_r,
    preserves, algebraic⟩

end Cert.Proof

end
